-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S8320x4096 : Shape := ⟨2, ![8320, 4096]⟩
abbrev S8320x2048 : Shape := ⟨2, ![8320, 2048]⟩
abbrev S_ : Shape := ⟨0, ![]⟩

class Facts : Prop where
  bcast_S_S8320x4096 : S_.BroadcastsInDim S8320x4096 (![] : Fin 0 → Fin S8320x4096.rank)
  reducesTo_S8320x4096_S_d0_1 : S8320x4096.ReducesTo [0, 1] S_
  h_S_ : 0 < S_.numel
  bcast_S_S8320x2048 : S_.BroadcastsInDim S8320x2048 (![] : Fin 0 → Fin S8320x2048.rank)
  reducesTo_S8320x2048_S_d0_1 : S8320x2048.ReducesTo [0, 1] S_

variable [Facts]

def fn_part1 {F : FTy → Type} [FloatOps F] (main_v13 : IVec S_ 1) (main_v16 : IVec S8320x2048 1) : IVec S_ 1 :=
  let main_c_5 : IVec S_ 1 := constantI S_ 1 1#1
  let main_v17 : IVec S_ 1 := (fun x v => Host.reduce IntOp.andi x v reducesTo_S8320x2048_S_d0_1 h_S_) main_v16 main_c_5
  let main_v18 : IVec S_ 1 := andi main_v13 main_v17
  main_v18

def fn {F : FTy → Type} [FloatOps F] (main_arg0 : FVec F S8320x4096 .f32) (main_arg1 : FVec F S8320x4096 .f32) (main_arg2 : FVec F S8320x2048 .f32) (main_arg3 : FVec F S8320x2048 .f32) : IVec S_ 1 :=
  let main_v0 : FVec F S8320x4096 .f32 := Host.absf main_arg0
  let main_cst : FVec F S_ .f32 := constant S_ .f32 0x7F800000#32
  let main_v1 : FVec F S8320x4096 .f32 := broadcastInDim S8320x4096 ![] bcast_S_S8320x4096 main_cst
  let main_v2 : IVec S8320x4096 1 := cmpf .olt main_v0 main_v1
  let main_c : IVec S_ 1 := constantI S_ 1 1#1
  let main_v3 : IVec S_ 1 := (fun x v => Host.reduce IntOp.andi x v reducesTo_S8320x4096_S_d0_1 h_S_) main_v2 main_c
  let main_v4 : FVec F S8320x4096 .f32 := Host.absf main_arg1
  let main_cst_0 : FVec F S_ .f32 := constant S_ .f32 0x7F800000#32
  let main_v5 : FVec F S8320x4096 .f32 := broadcastInDim S8320x4096 ![] bcast_S_S8320x4096 main_cst_0
  let main_v6 : IVec S8320x4096 1 := cmpf .olt main_v4 main_v5
  let main_c_1 : IVec S_ 1 := constantI S_ 1 1#1
  let main_v7 : IVec S_ 1 := (fun x v => Host.reduce IntOp.andi x v reducesTo_S8320x4096_S_d0_1 h_S_) main_v6 main_c_1
  let main_v8 : IVec S_ 1 := andi main_v3 main_v7
  let main_v9 : FVec F S8320x2048 .f32 := Host.absf main_arg2
  let main_cst_2 : FVec F S_ .f32 := constant S_ .f32 0x7F800000#32
  let main_v10 : FVec F S8320x2048 .f32 := broadcastInDim S8320x2048 ![] bcast_S_S8320x2048 main_cst_2
  let main_v11 : IVec S8320x2048 1 := cmpf .olt main_v9 main_v10
  let main_c_3 : IVec S_ 1 := constantI S_ 1 1#1
  let main_v12 : IVec S_ 1 := (fun x v => Host.reduce IntOp.andi x v reducesTo_S8320x2048_S_d0_1 h_S_) main_v11 main_c_3
  let main_v13 : IVec S_ 1 := andi main_v8 main_v12
  let main_v14 : FVec F S8320x2048 .f32 := Host.absf main_arg3
  let main_cst_4 : FVec F S_ .f32 := constant S_ .f32 0x7F800000#32
  let main_v15 : FVec F S8320x2048 .f32 := broadcastInDim S8320x2048 ![] bcast_S_S8320x2048 main_cst_4
  let main_v16 : IVec S8320x2048 1 := cmpf .olt main_v14 main_v15
  fn_part1 (F := F) main_v13 main_v16
-- ==== Kernel.lean ====
abbrev S8320x4096 : Shape := ⟨2, ![8320, 4096]⟩
abbrev S8320x2048 : Shape := ⟨2, ![8320, 2048]⟩
abbrev S91 : Shape := ⟨1, ![91]⟩
abbrev S_ : Shape := ⟨0, ![]⟩
abbrev S8320x16x256 : Shape := ⟨3, ![8320, 16, 256]⟩
abbrev S16x8320x8320 : Shape := ⟨3, ![16, 8320, 8320]⟩
abbrev S8320x8320 : Shape := ⟨2, ![8320, 8320]⟩
abbrev S16x8320 : Shape := ⟨2, ![16, 8320]⟩
abbrev S16x8320x1 : Shape := ⟨3, ![16, 8320, 1]⟩
abbrev S8320x16x128 : Shape := ⟨3, ![8320, 16, 128]⟩
abbrev S16x128x8320 : Shape := ⟨3, ![16, 128, 8320]⟩
abbrev S16x1x8320 : Shape := ⟨3, ![16, 1, 8320]⟩
abbrev S8320x16 : Shape := ⟨2, ![8320, 16]⟩
abbrev S640x256 : Shape := ⟨2, ![640, 256]⟩
abbrev S1 : Shape := ⟨1, ![1]⟩
abbrev S640x128 : Shape := ⟨2, ![640, 128]⟩
abbrev S1x1x640 : Shape := ⟨3, ![1, 1, 640]⟩
abbrev S8320x256 : Shape := ⟨2, ![8320, 256]⟩
abbrev S256x256 : Shape := ⟨2, ![256, 256]⟩
abbrev S384x256 : Shape := ⟨2, ![384, 256]⟩
abbrev S640x384 : Shape := ⟨2, ![640, 384]⟩
abbrev S256x128 : Shape := ⟨2, ![256, 128]⟩
abbrev S384x128 : Shape := ⟨2, ![384, 128]⟩
abbrev S1x1x256 : Shape := ⟨3, ![1, 1, 256]⟩
abbrev S1x256 : Shape := ⟨2, ![1, 256]⟩
abbrev S1x1x384 : Shape := ⟨3, ![1, 1, 384]⟩
abbrev S1x384 : Shape := ⟨2, ![1, 384]⟩

abbrev nBuf : Space → Nat
  | .hbm => 59
  | .vmem => 20
  | .smem => 2
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S8320x2048, .f32⟩
  | .hbm, ⟨3, _⟩ => ⟨S8320x2048, .f32⟩
  | .hbm, ⟨4, _⟩ => ⟨S_, .f32⟩
  | .hbm, ⟨5, _⟩ => ⟨S8320x4096, .f32⟩
  | .hbm, ⟨6, _⟩ => ⟨S8320x4096, .f32⟩
  | .hbm, ⟨7, _⟩ => ⟨S_, .f32⟩
  | .hbm, ⟨8, _⟩ => ⟨S_, .f32⟩
  | .hbm, ⟨9, _⟩ => ⟨S8320x16x256, .f32⟩
  | .hbm, ⟨10, _⟩ => ⟨S8320x16x256, .f32⟩
  | .hbm, ⟨11, _⟩ => ⟨S16x8320x8320, .f32⟩
  | .hbm, ⟨12, _⟩ => ⟨S8320x8320, .i32⟩
  | .hbm, ⟨13, _⟩ => ⟨S8320x8320, .i32⟩
  | .hbm, ⟨14, _⟩ => ⟨S8320x8320, .i1⟩
  | .hbm, ⟨15, _⟩ => ⟨S_, .i32⟩
  | .hbm, ⟨16, _⟩ => ⟨S8320x8320, .i32⟩
  | .hbm, ⟨17, _⟩ => ⟨S8320x8320, .i1⟩
  | .hbm, ⟨18, _⟩ => ⟨S8320x8320, .i1⟩
  | .hbm, ⟨19, _⟩ => ⟨S8320x8320, .i1⟩
  | .hbm, ⟨20, _⟩ => ⟨S8320x8320, .i1⟩
  | .hbm, ⟨21, _⟩ => ⟨S16x8320x8320, .i1⟩
  | .hbm, ⟨22, _⟩ => ⟨S_, .f32⟩
  | .hbm, ⟨23, _⟩ => ⟨S16x8320x8320, .f32⟩
  | .hbm, ⟨24, _⟩ => ⟨S16x8320x8320, .f32⟩
  | .hbm, ⟨25, _⟩ => ⟨S_, .f32⟩
  | .hbm, ⟨26, _⟩ => ⟨S16x8320, .f32⟩
  | .hbm, ⟨27, _⟩ => ⟨S16x8320x1, .f32⟩
  | .hbm, ⟨28, _⟩ => ⟨S16x8320x8320, .f32⟩
  | .hbm, ⟨29, _⟩ => ⟨S16x8320x8320, .f32⟩
  | .hbm, ⟨30, _⟩ => ⟨S16x8320x8320, .f32⟩
  | .hbm, ⟨31, _⟩ => ⟨S_, .f32⟩
  | .hbm, ⟨32, _⟩ => ⟨S16x8320, .f32⟩
  | .hbm, ⟨33, _⟩ => ⟨S16x8320x1, .f32⟩
  | .hbm, ⟨34, _⟩ => ⟨S16x8320x8320, .f32⟩
  | .hbm, ⟨35, _⟩ => ⟨S16x8320x8320, .f32⟩
  | .hbm, ⟨36, _⟩ => ⟨S8320x16x128, .f32⟩
  | .hbm, ⟨37, _⟩ => ⟨S16x128x8320, .f32⟩
  | .hbm, ⟨38, _⟩ => ⟨S8320x16x128, .f32⟩
  | .hbm, ⟨39, _⟩ => ⟨S16x8320x1, .f32⟩
  | .hbm, ⟨40, _⟩ => ⟨S16x8320x1, .f32⟩
  | .hbm, ⟨41, _⟩ => ⟨S16x8320x1, .f32⟩
  | .hbm, ⟨42, _⟩ => ⟨S16x8320x1, .f32⟩
  | .hbm, ⟨43, _⟩ => ⟨S16x1x8320, .f32⟩
  | .hbm, ⟨44, _⟩ => ⟨S8320x16x128, .f32⟩
  | .hbm, ⟨45, _⟩ => ⟨S8320x16x128, .f32⟩
  | .hbm, ⟨46, _⟩ => ⟨S_, .f32⟩
  | .hbm, ⟨47, _⟩ => ⟨S8320x16, .f32⟩
  | .hbm, ⟨48, _⟩ => ⟨S8320x4096, .f32⟩
  | .hbm, ⟨49, _⟩ => ⟨S8320x4096, .f32⟩
  | .hbm, ⟨50, _⟩ => ⟨S8320x4096, .bf16⟩
  | .hbm, ⟨51, _⟩ => ⟨S8320x4096, .bf16⟩
  | .hbm, ⟨52, _⟩ => ⟨S8320x2048, .bf16⟩
  | .hbm, ⟨53, _⟩ => ⟨S8320x2048, .bf16⟩
  | .hbm, ⟨54, _⟩ => ⟨S16x8320, .f32⟩
  | .hbm, ⟨55, _⟩ => ⟨S16x1x8320, .f32⟩
  | .hbm, ⟨56, _⟩ => ⟨S8320x4096, .f32⟩
  | .hbm, ⟨57, _⟩ => ⟨S8320x4096, .f32⟩
  | .hbm, ⟨58, _⟩ => ⟨S8320x2048, .f32⟩
  | .local _ .vmem, ⟨0, _⟩ => ⟨S640x256, .bf16⟩
  | .local _ .vmem, ⟨1, _⟩ => ⟨S640x256, .bf16⟩
  | .local _ .vmem, ⟨2, _⟩ => ⟨S640x256, .bf16⟩
  | .local _ .vmem, ⟨3, _⟩ => ⟨S640x256, .bf16⟩
  | .local _ .vmem, ⟨4, _⟩ => ⟨S640x128, .bf16⟩
  | .local _ .vmem, ⟨5, _⟩ => ⟨S640x128, .bf16⟩
  | .local _ .vmem, ⟨6, _⟩ => ⟨S640x128, .bf16⟩
  | .local _ .vmem, ⟨7, _⟩ => ⟨S640x128, .bf16⟩
  | .local _ .vmem, ⟨8, _⟩ => ⟨S1x1x640, .f32⟩
  | .local _ .vmem, ⟨9, _⟩ => ⟨S1x1x640, .f32⟩
  | .local _ .vmem, ⟨10, _⟩ => ⟨S1x1x640, .f32⟩
  | .local _ .vmem, ⟨11, _⟩ => ⟨S1x1x640, .f32⟩
  | .local _ .vmem, ⟨12, _⟩ => ⟨S8320x256, .f32⟩
  | .local _ .vmem, ⟨13, _⟩ => ⟨S8320x256, .f32⟩
  | .local _ .vmem, ⟨14, _⟩ => ⟨S640x256, .f32⟩
  | .local _ .vmem, ⟨15, _⟩ => ⟨S640x256, .f32⟩
  | .local _ .vmem, ⟨16, _⟩ => ⟨S640x128, .f32⟩
  | .local _ .vmem, ⟨17, _⟩ => ⟨S640x128, .f32⟩
  | .local _ .vmem, ⟨18, _⟩ => ⟨S640x256, .f32⟩
  | .local _ .vmem, ⟨19, _⟩ => ⟨S640x128, .f32⟩
  | .local _ .smem, ⟨0, _⟩ => ⟨S91, .i32⟩
  | .local _ .smem, ⟨1, _⟩ => ⟨S91, .i32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 91], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c640_i32_39 : BitVec 32 := 640#32
  let v78 : BitVec 32 := Scalar.muli v1 c640_i32_39
  let c0_i32_40 : BitVec 32 := 0#32
  let v79 : BitVec 32 := Scalar.addi v78 c0_i32_40
  v79
def k0_cond3 (v1 : BitVec 32) (v3 : BitVec 32) : BitVec 1 :=
  let v10 : BitVec 1 := Scalar.cmpi .eq v1 v3
  let c0_i32_2 : BitVec 32 := 0#32
  let v11 : BitVec 1 := Scalar.cmpi .eq v3 c0_i32_2
  let v12 : BitVec 1 := Scalar.ori v10 v11
  let v13 : BitVec 32 := Scalar.extui v12
  let c0_i32_3 : BitVec 32 := 0#32
  let v14 : BitVec 1 := Scalar.cmpi .ne v13 c0_i32_3
  v14

def k0_off2 (v1 : BitVec 32) : Fin 2 → Nat :=
  let c640_i32_39 : BitVec 32 := 640#32
  let v78 : BitVec 32 := Scalar.muli v1 c640_i32_39
  let c0_i32_40 : BitVec 32 := 0#32
  let v79 : BitVec 32 := Scalar.addi v78 c0_i32_40
  let v80 : BitVec 32 := v79
  let v81 : Index := Scalar.indexCast v80
  let c0_41 : Index := 0#32
  ![v81.toNat, 0]
def k0_mult2 (v1 : BitVec 32) : BitVec 32 :=
  let c640_i32_60 : BitVec 32 := 640#32
  let v125 : BitVec 32 := Scalar.muli v1 c640_i32_60
  let c256_i32_61 : BitVec 32 := 256#32
  let v126 : BitVec 32 := Scalar.addi v125 c256_i32_61
  v126
def k0_off3 (v1 : BitVec 32) : Fin 2 → Nat :=
  let c640_i32_60 : BitVec 32 := 640#32
  let v125 : BitVec 32 := Scalar.muli v1 c640_i32_60
  let c256_i32_61 : BitVec 32 := 256#32
  let v126 : BitVec 32 := Scalar.addi v125 c256_i32_61
  let v127 : BitVec 32 := v126
  let v128 : Index := Scalar.indexCast v127
  let c0_62 : Index := 0#32
  ![v128.toNat, 0]
def k0_mult3 (v1 : BitVec 32) : BitVec 32 :=
  let c640_i32 : BitVec 32 := 640#32
  let v61 : BitVec 32 := Scalar.muli v1 c640_i32
  let c0_i32_36 : BitVec 32 := 0#32
  let v62 : BitVec 32 := Scalar.addi v61 c0_i32_36
  v62
def k0_cond4 (v1 : BitVec 32) (v3 : BitVec 32) : BitVec 1 :=
  let v15 : BitVec 1 := Scalar.cmpi .sgt v1 v3
  let c0_i32_4 : BitVec 32 := 0#32
  let v16 : BitVec 1 := Scalar.cmpi .sgt v3 c0_i32_4
  let v17 : BitVec 1 := Scalar.andi v15 v16
  let v18 : BitVec 32 := Scalar.extui v17
  let c0_i32_5 : BitVec 32 := 0#32
  let v19 : BitVec 1 := Scalar.cmpi .ne v18 c0_i32_5
  v19

def k0_off4 (v1 : BitVec 32) : Fin 2 → Nat :=
  let c640_i32 : BitVec 32 := 640#32
  let v61 : BitVec 32 := Scalar.muli v1 c640_i32
  let c0_i32_36 : BitVec 32 := 0#32
  let v62 : BitVec 32 := Scalar.addi v61 c0_i32_36
  let v63 : BitVec 32 := v62
  let v64 : Index := Scalar.indexCast v63
  let c0_37 : Index := 0#32
  ![v64.toNat, 0]
def k0_mult4 (v1 : BitVec 32) : BitVec 32 :=
  let c640_i32_52 : BitVec 32 := 640#32
  let v91 : BitVec 32 := Scalar.muli v1 c640_i32_52
  let c256_i32 : BitVec 32 := 256#32
  let v92 : BitVec 32 := Scalar.addi v91 c256_i32
  v92
def k0_off5 (v1 : BitVec 32) : Fin 2 → Nat :=
  let c640_i32_52 : BitVec 32 := 640#32
  let v91 : BitVec 32 := Scalar.muli v1 c640_i32_52
  let c256_i32 : BitVec 32 := 256#32
  let v92 : BitVec 32 := Scalar.addi v91 c256_i32
  let v93 : BitVec 32 := v92
  let v94 : Index := Scalar.indexCast v93
  let c0_53 : Index := 0#32
  ![v94.toNat, 0]

def k0_chk1 (v1 : BitVec 32) (v3 : BitVec 32) : Prop :=
  (∀ (k0_h3 : k0_cond3 v1 v3 = 1#1), 128 ∣ (k0_mult1 v1).toNat) ∧
  (∀ (k0_h3 : k0_cond3 v1 v3 = 1#1), ∀ a, (k0_off2 v1) a + S256x256.size a ≤ S8320x256.size a) ∧
  (∀ (k0_h3 : k0_cond3 v1 v3 = 1#1), 128 ∣ (k0_mult2 v1).toNat) ∧
  (∀ (k0_h3 : k0_cond3 v1 v3 = 1#1), ∀ a, (k0_off3 v1) a + S384x256.size a ≤ S8320x256.size a) ∧
  (∀ (k0_h4 : k0_cond4 v1 v3 = 1#1), 128 ∣ (k0_mult3 v1).toNat) ∧
  (∀ (k0_h4 : k0_cond4 v1 v3 = 1#1), ∀ a, (k0_off4 v1) a + S256x256.size a ≤ S8320x256.size a) ∧
  (∀ (k0_h4 : k0_cond4 v1 v3 = 1#1), 128 ∣ (k0_mult4 v1).toNat) ∧
  (∀ (k0_h4 : k0_cond4 v1 v3 = 1#1), ∀ a, (k0_off5 v1) a + S384x256.size a ≤ S8320x256.size a)
theorem k0_mult1_dvd : ∀ (v1 : BitVec 32) (v3 : BitVec 32) (k0_hw1 : k0_chk1 v1 v3), ∀ (k0_h3 : k0_cond3 v1 v3 = 1#1), 128 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S256x256.size a ≤ S8320x256.size a := fun v1 v3 k0_hw1 k0_h3 => k0_hw1.2.1 k0_h3
theorem k0_mult2_dvd : ∀ (v1 : BitVec 32) (v3 : BitVec 32) (k0_hw1 : k0_chk1 v1 v3), ∀ (k0_h3 : k0_cond3 v1 v3 = 1#1), 128 ∣ (k0_mult2 v1).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ a, (k0_off3 v1) a + S384x256.size a ≤ S8320x256.size a := fun v1 v3 k0_hw1 k0_h3 => k0_hw1.2.2.2.1 k0_h3
theorem k0_mult3_dvd : ∀ (v1 : BitVec 32) (v3 : BitVec 32) (k0_hw1 : k0_chk1 v1 v3), ∀ (k0_h4 : k0_cond4 v1 v3 = 1#1), 128 ∣ (k0_mult3 v1).toNat := fun v1 v3 k0_hw1 k0_h4 => k0_hw1.2.2.2.2.1 k0_h4
theorem k0_off4_inb : ∀ (v1 : BitVec 32) (v3 : BitVec 32) (k0_hw1 : k0_chk1 v1 v3), ∀ (k0_h4 : k0_cond4 v1 v3 = 1#1), ∀ a, (k0_off4 v1) a + S256x256.size a ≤ S8320x256.size a := fun v1 v3 k0_hw1 k0_h4 => k0_hw1.2.2.2.2.2.1 k0_h4
theorem k0_mult4_dvd : ∀ (v1 : BitVec 32) (v3 : BitVec 32) (k0_hw1 : k0_chk1 v1 v3), ∀ (k0_h4 : k0_cond4 v1 v3 = 1#1), 128 ∣ (k0_mult4 v1).toNat := fun v1 v3 k0_hw1 k0_h4 => k0_hw1.2.2.2.2.2.2.1 k0_h4
theorem k0_off5_inb : ∀ (v1 : BitVec 32) (v3 : BitVec 32) (k0_hw1 : k0_chk1 v1 v3), ∀ (k0_h4 : k0_cond4 v1 v3 = 1#1), ∀ a, (k0_off5 v1) a + S384x256.size a ≤ S8320x256.size a := fun v1 v3 k0_hw1 k0_h4 => k0_hw1.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c12_i32 : BitVec 32 := 12#32
  let v20 : BitVec 1 := Scalar.cmpi .eq v1 c12_i32
  let v21 : BitVec 32 := Scalar.extui v20
  let c0_i32_6 : BitVec 32 := 0#32
  let v22 : BitVec 1 := Scalar.cmpi .ne v21 c0_i32_6
  v22

def cc0_transform_0 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8320x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S640x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8320x4096 : Shape := ⟨2, ![8320, 4096]⟩
abbrev S8320x2048 : Shape := ⟨2, ![8320, 2048]⟩
abbrev S_ : Shape := ⟨0, ![]⟩
abbrev S8320 : Shape := ⟨1, ![8320]⟩
abbrev S8320x16x256 : Shape := ⟨3, ![8320, 16, 256]⟩
abbrev S16x8320x8320 : Shape := ⟨3, ![16, 8320, 8320]⟩
abbrev S1x8320 : Shape := ⟨2, ![1, 8320]⟩
abbrev S8320x1 : Shape := ⟨2, ![8320, 1]⟩
abbrev S8320x8320 : Shape := ⟨2, ![8320, 8320]⟩
abbrev S16x8320 : Shape := ⟨2, ![16, 8320]⟩
abbrev S16x8320x1 : Shape := ⟨3, ![16, 8320, 1]⟩
abbrev S8320x16x128 : Shape := ⟨3, ![8320, 16, 128]⟩
abbrev S16x128x8320 : Shape := ⟨3, ![16, 128, 8320]⟩
abbrev S16x8320x256 : Shape := ⟨3, ![16, 8320, 256]⟩

abbrev nBuf : Space → Nat
  | .hbm => 106
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S8320x2048, .f32⟩
  | .hbm, ⟨3, _⟩ => ⟨S8320x2048, .f32⟩
  | .hbm, ⟨4, _⟩ => ⟨S_, .f32⟩
  | .hbm, ⟨5, _⟩ => ⟨S8320x4096, .f32⟩
  | .hbm, ⟨6, _⟩ => ⟨S8320x4096, .f32⟩
  | .hbm, ⟨7, _⟩ => ⟨S8320, .i32⟩
  | .hbm, ⟨8, _⟩ => ⟨S8320x16x256, .f32⟩
  | .hbm, ⟨9, _⟩ => ⟨S8320x16x256, .f32⟩
  | .hbm, ⟨10, _⟩ => ⟨S16x8320x8320, .f32⟩
  | .hbm, ⟨11, _⟩ => ⟨S1x8320, .i32⟩
  | .hbm, ⟨12, _⟩ => ⟨S8320x1, .i32⟩
  | .hbm, ⟨13, _⟩ => ⟨S8320x8320, .i32⟩
  | .hbm, ⟨14, _⟩ => ⟨S8320x8320, .i32⟩
  | .hbm, ⟨15, _⟩ => ⟨S8320x8320, .i1⟩
  | .hbm, ⟨16, _⟩ => ⟨S_, .i32⟩
  | .hbm, ⟨17, _⟩ => ⟨S8320, .i32⟩
  | .hbm, ⟨18, _⟩ => ⟨S8320, .i1⟩
  | .hbm, ⟨19, _⟩ => ⟨S1x8320, .i1⟩
  | .hbm, ⟨20, _⟩ => ⟨S1x8320, .i32⟩
  | .hbm, ⟨21, _⟩ => ⟨S8320x1, .i32⟩
  | .hbm, ⟨22, _⟩ => ⟨S8320x8320, .i32⟩
  | .hbm, ⟨23, _⟩ => ⟨S8320x8320, .i32⟩
  | .hbm, ⟨24, _⟩ => ⟨S8320x8320, .i1⟩
  | .hbm, ⟨25, _⟩ => ⟨S8320x8320, .i1⟩
  | .hbm, ⟨26, _⟩ => ⟨S8320x8320, .i1⟩
  | .hbm, ⟨27, _⟩ => ⟨S8320x8320, .i1⟩
  | .hbm, ⟨28, _⟩ => ⟨S_, .f32⟩
  | .hbm, ⟨29, _⟩ => ⟨S_, .f32⟩
  | .hbm, ⟨30, _⟩ => ⟨S16x8320x8320, .i1⟩
  | .hbm, ⟨31, _⟩ => ⟨S16x8320x8320, .f32⟩
  | .hbm, ⟨32, _⟩ => ⟨S16x8320x8320, .f32⟩
  | .hbm, ⟨33, _⟩ => ⟨S_, .f32⟩
  | .hbm, ⟨34, _⟩ => ⟨S16x8320x8320, .f32⟩
  | .hbm, ⟨35, _⟩ => ⟨S_, .f32⟩
  | .hbm, ⟨36, _⟩ => ⟨S16x8320, .f32⟩
  | .hbm, ⟨37, _⟩ => ⟨S16x8320x1, .f32⟩
  | .hbm, ⟨38, _⟩ => ⟨S16x8320x8320, .f32⟩
  | .hbm, ⟨39, _⟩ => ⟨S16x8320x8320, .i1⟩
  | .hbm, ⟨40, _⟩ => ⟨S16x8320x8320, .f32⟩
  | .hbm, ⟨41, _⟩ => ⟨S_, .f32⟩
  | .hbm, ⟨42, _⟩ => ⟨S16x8320, .f32⟩
  | .hbm, ⟨43, _⟩ => ⟨S_, .f32⟩
  | .hbm, ⟨44, _⟩ => ⟨S16x8320, .f32⟩
  | .hbm, ⟨45, _⟩ => ⟨S16x8320, .f32⟩
  | .hbm, ⟨46, _⟩ => ⟨S_, .f32⟩
  | .hbm, ⟨47, _⟩ => ⟨S16x8320, .f32⟩
  | .hbm, ⟨48, _⟩ => ⟨S16x8320, .i1⟩
  | .hbm, ⟨49, _⟩ => ⟨S_, .f32⟩
  | .hbm, ⟨50, _⟩ => ⟨S16x8320, .f32⟩
  | .hbm, ⟨51, _⟩ => ⟨S16x8320, .i1⟩
  | .hbm, ⟨52, _⟩ => ⟨S_, .f32⟩
  | .hbm, ⟨53, _⟩ => ⟨S16x8320, .f32⟩
  | .hbm, ⟨54, _⟩ => ⟨S_, .f32⟩
  | .hbm, ⟨55, _⟩ => ⟨S16x8320, .f32⟩
  | .hbm, ⟨56, _⟩ => ⟨S_, .f32⟩
  | .hbm, ⟨57, _⟩ => ⟨S16x8320, .f32⟩
  | .hbm, ⟨58, _⟩ => ⟨S16x8320, .f32⟩
  | .hbm, ⟨59, _⟩ => ⟨S16x8320, .f32⟩
  | .hbm, ⟨60, _⟩ => ⟨S16x8320x1, .f32⟩
  | .hbm, ⟨61, _⟩ => ⟨S16x8320x8320, .f32⟩
  | .hbm, ⟨62, _⟩ => ⟨S16x8320x8320, .f32⟩
  | .hbm, ⟨63, _⟩ => ⟨S16x8320x8320, .f32⟩
  | .hbm, ⟨64, _⟩ => ⟨S_, .f32⟩
  | .hbm, ⟨65, _⟩ => ⟨S16x8320, .f32⟩
  | .hbm, ⟨66, _⟩ => ⟨S16x8320x1, .f32⟩
  | .hbm, ⟨67, _⟩ => ⟨S16x8320x8320, .f32⟩
  | .hbm, ⟨68, _⟩ => ⟨S16x8320x8320, .f32⟩
  | .hbm, ⟨69, _⟩ => ⟨S16x8320x1, .f32⟩
  | .hbm, ⟨70, _⟩ => ⟨S_, .f32⟩
  | .hbm, ⟨71, _⟩ => ⟨S16x8320x1, .f32⟩
  | .hbm, ⟨72, _⟩ => ⟨S16x8320x1, .f32⟩
  | .hbm, ⟨73, _⟩ => ⟨S8320x16x128, .f32⟩
  | .hbm, ⟨74, _⟩ => ⟨S16x128x8320, .f32⟩
  | .hbm, ⟨75, _⟩ => ⟨S8320x16x128, .f32⟩
  | .hbm, ⟨76, _⟩ => ⟨S8320x2048, .f32⟩
  | .hbm, ⟨77, _⟩ => ⟨S8320x16x128, .f32⟩
  | .hbm, ⟨78, _⟩ => ⟨S16x128x8320, .f32⟩
  | .hbm, ⟨79, _⟩ => ⟨S16x8320x8320, .f32⟩
  | .hbm, ⟨80, _⟩ => ⟨S16x128x8320, .f32⟩
  | .hbm, ⟨81, _⟩ => ⟨S8320x16x128, .f32⟩
  | .hbm, ⟨82, _⟩ => ⟨S8320x2048, .f32⟩
  | .hbm, ⟨83, _⟩ => ⟨S16x8320x8320, .f32⟩
  | .hbm, ⟨84, _⟩ => ⟨S16x8320x8320, .f32⟩
  | .hbm, ⟨85, _⟩ => ⟨S16x8320x8320, .f32⟩
  | .hbm, ⟨86, _⟩ => ⟨S_, .f32⟩
  | .hbm, ⟨87, _⟩ => ⟨S16x8320, .f32⟩
  | .hbm, ⟨88, _⟩ => ⟨S16x8320x1, .f32⟩
  | .hbm, ⟨89, _⟩ => ⟨S16x8320x1, .f32⟩
  | .hbm, ⟨90, _⟩ => ⟨S16x8320x8320, .f32⟩
  | .hbm, ⟨91, _⟩ => ⟨S16x8320x8320, .f32⟩
  | .hbm, ⟨92, _⟩ => ⟨S_, .f32⟩
  | .hbm, ⟨93, _⟩ => ⟨S16x8320, .f32⟩
  | .hbm, ⟨94, _⟩ => ⟨S16x8320x8320, .f32⟩
  | .hbm, ⟨95, _⟩ => ⟨S16x8320x8320, .f32⟩
  | .hbm, ⟨96, _⟩ => ⟨S16x8320x8320, .f32⟩
  | .hbm, ⟨97, _⟩ => ⟨S_, .f32⟩
  | .hbm, ⟨98, _⟩ => ⟨S16x8320x8320, .f32⟩
  | .hbm, ⟨99, _⟩ => ⟨S16x8320x8320, .f32⟩
  | .hbm, ⟨100, _⟩ => ⟨S16x8320x256, .f32⟩
  | .hbm, ⟨101, _⟩ => ⟨S8320x16x256, .f32⟩
  | .hbm, ⟨102, _⟩ => ⟨S16x8320x256, .f32⟩
  | .hbm, ⟨103, _⟩ => ⟨S8320x16x256, .f32⟩
  | .hbm, ⟨104, _⟩ => ⟨S8320x4096, .f32⟩
  | .hbm, ⟨105, _⟩ => ⟨S8320x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Kernel2.lean ====
abbrev S5632x2048 : Shape := ⟨2, ![5632, 2048]⟩
abbrev S8320x2048 : Shape := ⟨2, ![8320, 2048]⟩
abbrev S8320x5632 : Shape := ⟨2, ![8320, 5632]⟩
abbrev S1040x2048 : Shape := ⟨2, ![1040, 2048]⟩
abbrev S512x2048 : Shape := ⟨2, ![512, 2048]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S5632x2048, .bf16⟩
  | .hbm, ⟨1, _⟩ => ⟨S8320x2048, .bf16⟩
  | .hbm, ⟨2, _⟩ => ⟨S8320x5632, .bf16⟩
  | .local _ .vmem, ⟨0, _⟩ => ⟨S1040x2048, .bf16⟩
  | .local _ .vmem, ⟨1, _⟩ => ⟨S1040x2048, .bf16⟩
  | .local _ .vmem, ⟨2, _⟩ => ⟨S512x2048, .bf16⟩
  | .local _ .vmem, ⟨3, _⟩ => ⟨S512x2048, .bf16⟩
  | .local _ .vmem, ⟨4, _⟩ => ⟨S1040x512, .bf16⟩
  | .local _ .vmem, ⟨5, _⟩ => ⟨S1040x512, .bf16⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S5632x2048 : Shape := ⟨2, ![5632, 2048]⟩
abbrev S8320x2048 : Shape := ⟨2, ![8320, 2048]⟩
abbrev S_ : Shape := ⟨0, ![]⟩
abbrev S8320x5632 : Shape := ⟨2, ![8320, 5632]⟩

abbrev nBuf : Space → Nat
  | .hbm => 9
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S8320x2048, .bf16⟩
  | .hbm, ⟨2, _⟩ => ⟨S5632x2048, .f32⟩
  | .hbm, ⟨3, _⟩ => ⟨S8320x2048, .f32⟩
  | .hbm, ⟨4, _⟩ => ⟨S_, .f32⟩
  | .hbm, ⟨5, _⟩ => ⟨S8320x5632, .f32⟩
  | .hbm, ⟨6, _⟩ => ⟨S8320x2048, .f32⟩
  | .hbm, ⟨7, _⟩ => ⟨S8320x5632, .f32⟩
  | .hbm, ⟨8, _⟩ => ⟨S8320x5632, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8320x5632 : Shape := ⟨2, ![8320, 5632]⟩
abbrev S8320x2048 : Shape := ⟨2, ![8320, 2048]⟩
abbrev S5632x2048 : Shape := ⟨2, ![5632, 2048]⟩
abbrev S4160x512 : Shape := ⟨2, ![4160, 512]⟩
abbrev S4160x1024 : Shape := ⟨2, ![4160, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .bf16⟩
  | .hbm, ⟨2, _⟩ => ⟨S5632x2048, .bf16⟩
  | .local _ .vmem, ⟨0, _⟩ => ⟨S4160x512, .bf16⟩
  | .local _ .vmem, ⟨1, _⟩ => ⟨S4160x512, .bf16⟩
  | .local _ .vmem, ⟨2, _⟩ => ⟨S4160x1024, .bf16⟩
  | .local _ .vmem, ⟨3, _⟩ => ⟨S4160x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x5632 : Shape := ⟨2, ![8320, 5632]⟩
abbrev S8320x2048 : Shape := ⟨2, ![8320, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .bf16⟩
  | .hbm, ⟨2, _⟩ => ⟨S8320x5632, .f32⟩
  | .hbm, ⟨3, _⟩ => ⟨S8320x2048, .f32⟩
  | .hbm, ⟨4, _⟩ => ⟨S_, .f32⟩
  | .hbm, ⟨5, _⟩ => ⟨S5632x2048, .f32⟩
  | .hbm, ⟨6, _⟩ => ⟨S8320x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x11264 : Shape := ⟨2, ![2048, 11264]⟩
abbrev S8320x11264 : Shape := ⟨2, ![8320, 11264]⟩
abbrev S8320x2048 : Shape := ⟨2, ![8320, 2048]⟩
abbrev S520x5632 : Shape := ⟨2, ![520, 5632]⟩
abbrev S1024x5632 : Shape := ⟨2, ![1024, 5632]⟩
abbrev S520x1024 : Shape := ⟨2, ![520, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S8320x11264, .bf16⟩
  | .hbm, ⟨2, _⟩ => ⟨S8320x2048, .f32⟩
  | .local _ .vmem, ⟨0, _⟩ => ⟨S520x5632, .bf16⟩
  | .local _ .vmem, ⟨1, _⟩ => ⟨S520x5632, .bf16⟩
  | .local _ .vmem, ⟨2, _⟩ => ⟨S1024x5632, .bf16⟩
  | .local _ .vmem, ⟨3, _⟩ => ⟨S1024x5632, .bf16⟩
  | .local _ .vmem, ⟨4, _⟩ => ⟨S520x1024, .f32⟩
  | .local _ .vmem, ⟨5, _⟩ => ⟨S520x1024, .f32⟩
  | .local _ .vmem, ⟨6, _⟩ => ⟨S520x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S520x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S520x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x11264 : Shape := ⟨2, ![2048, 11264]⟩
abbrev S8320x11264 : Shape := ⟨2, ![8320, 11264]⟩
abbrev S_ : Shape := ⟨0, ![]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8320x11264, .bf16⟩
  | .hbm, ⟨2, _⟩ => ⟨S2048x11264, .f32⟩
  | .hbm, ⟨3, _⟩ => ⟨S8320x11264, .f32⟩
  | .hbm, ⟨4, _⟩ => ⟨S_, .f32⟩
  | .hbm, ⟨5, _⟩ => ⟨S8320x2048, .f32⟩
  | .hbm, ⟨6, _⟩ => ⟨S8320x11264, .f32⟩
  | .hbm, ⟨7, _⟩ => ⟨S8320x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8320x2048 : Shape := ⟨2, ![8320, 2048]⟩
abbrev S8320x11264 : Shape := ⟨2, ![8320, 11264]⟩
abbrev S8x2048x1408 : Shape := ⟨3, ![8, 2048, 1408]⟩
abbrev S4160x512 : Shape := ⟨2, ![4160, 512]⟩
abbrev S4160x1408 : Shape := ⟨2, ![4160, 1408]⟩
abbrev S1x512x1408 : Shape := ⟨3, ![1, 512, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x11264, .bf16⟩
  | .hbm, ⟨2, _⟩ => ⟨S8x2048x1408, .bf16⟩
  | .local _ .vmem, ⟨0, _⟩ => ⟨S4160x512, .bf16⟩
  | .local _ .vmem, ⟨1, _⟩ => ⟨S4160x512, .bf16⟩
  | .local _ .vmem, ⟨2, _⟩ => ⟨S4160x1408, .bf16⟩
  | .local _ .vmem, ⟨3, _⟩ => ⟨S4160x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x2048 : Shape := ⟨2, ![8320, 2048]⟩
abbrev S8320x11264 : Shape := ⟨2, ![8320, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x11264, .bf16⟩
  | .hbm, ⟨2, _⟩ => ⟨S8320x2048, .f32⟩
  | .hbm, ⟨3, _⟩ => ⟨S8320x11264, .f32⟩
  | .hbm, ⟨4, _⟩ => ⟨S_, .f32⟩
  | .hbm, ⟨5, _⟩ => ⟨S2048x11264, .f32⟩
  | .hbm, ⟨6, _⟩ => ⟨S8320x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x8x1408, .bf16⟩
  | .hbm, ⟨11, _⟩ => ⟨S8x2048x1408, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8320x2048 : Shape := ⟨2, ![8320, 2048]⟩
abbrev S8320x14592 : Shape := ⟨2, ![8320, 14592]⟩
abbrev S8x128 : Shape := ⟨2, ![8, 128]⟩
abbrev S2048x14592 : Shape := ⟨2, ![2048, 14592]⟩
abbrev S4160x1024 : Shape := ⟨2, ![4160, 1024]⟩
abbrev S4160x768 : Shape := ⟨2, ![4160, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x14592, .bf16⟩
  | .hbm, ⟨2, _⟩ => ⟨S8x128, .f32⟩
  | .hbm, ⟨3, _⟩ => ⟨S2048x14592, .bf16⟩
  | .local _ .vmem, ⟨0, _⟩ => ⟨S4160x1024, .bf16⟩
  | .local _ .vmem, ⟨1, _⟩ => ⟨S4160x1024, .bf16⟩
  | .local _ .vmem, ⟨2, _⟩ => ⟨S4160x768, .bf16⟩
  | .local _ .vmem, ⟨3, _⟩ => ⟨S4160x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 19, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8320x2048 : Shape := ⟨2, ![8320, 2048]⟩
abbrev S8320x14592 : Shape := ⟨2, ![8320, 14592]⟩
abbrev S8x128 : Shape := ⟨2, ![8, 128]⟩
abbrev S_ : Shape := ⟨0, ![]⟩
abbrev S2048x14592 : Shape := ⟨2, ![2048, 14592]⟩
abbrev S14592x2048 : Shape := ⟨2, ![14592, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x14592, .bf16⟩
  | .hbm, ⟨2, _⟩ => ⟨S8x128, .f32⟩
  | .hbm, ⟨3, _⟩ => ⟨S8320x2048, .f32⟩
  | .hbm, ⟨4, _⟩ => ⟨S8320x14592, .f32⟩
  | .hbm, ⟨5, _⟩ => ⟨S_, .f32⟩
  | .hbm, ⟨6, _⟩ => ⟨S2048x14592, .f32⟩
  | .hbm, ⟨7, _⟩ => ⟨S8320x14592, .f32⟩
  | .hbm, ⟨8, _⟩ => ⟨S14592x2048, .f32⟩
  | .hbm, ⟨9, _⟩ => ⟨S2048x14592, .f32⟩
  | .hbm, ⟨10, _⟩ => ⟨S2048x14592, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S2048x14592 : Shape := ⟨2, ![2048, 14592]⟩
abbrev S8320x14592 : Shape := ⟨2, ![8320, 14592]⟩
abbrev S8x128 : Shape := ⟨2, ![8, 128]⟩
abbrev S8320x2048 : Shape := ⟨2, ![8320, 2048]⟩
abbrev S520x4864 : Shape := ⟨2, ![520, 4864]⟩
abbrev S1024x4864 : Shape := ⟨2, ![1024, 4864]⟩
abbrev S520x1024 : Shape := ⟨2, ![520, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x14592, .bf16⟩
  | .hbm, ⟨1, _⟩ => ⟨S8320x14592, .bf16⟩
  | .hbm, ⟨2, _⟩ => ⟨S8x128, .f32⟩
  | .hbm, ⟨3, _⟩ => ⟨S8320x2048, .f32⟩
  | .local _ .vmem, ⟨0, _⟩ => ⟨S520x4864, .bf16⟩
  | .local _ .vmem, ⟨1, _⟩ => ⟨S520x4864, .bf16⟩
  | .local _ .vmem, ⟨2, _⟩ => ⟨S1024x4864, .bf16⟩
  | .local _ .vmem, ⟨3, _⟩ => ⟨S1024x4864, .bf16⟩
  | .local _ .vmem, ⟨4, _⟩ => ⟨S520x1024, .f32⟩
  | .local _ .vmem, ⟨5, _⟩ => ⟨S520x1024, .f32⟩
  | .local _ .vmem, ⟨6, _⟩ => ⟨S520x1024, .f32⟩
  | _, _ => ⟨S2048x14592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S520x4864 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4864 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S520x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x14592 : Shape := ⟨2, ![2048, 14592]⟩
abbrev S8320x14592 : Shape := ⟨2, ![8320, 14592]⟩
abbrev S8x128 : Shape := ⟨2, ![8, 128]⟩
abbrev S_ : Shape := ⟨0, ![]⟩
abbrev S8320x2048 : Shape := ⟨2, ![8320, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x14592, .bf16⟩
  | .hbm, ⟨1, _⟩ => ⟨S8320x14592, .bf16⟩
  | .hbm, ⟨2, _⟩ => ⟨S8x128, .f32⟩
  | .hbm, ⟨3, _⟩ => ⟨S2048x14592, .f32⟩
  | .hbm, ⟨4, _⟩ => ⟨S8320x14592, .f32⟩
  | .hbm, ⟨5, _⟩ => ⟨S_, .f32⟩
  | .hbm, ⟨6, _⟩ => ⟨S8320x2048, .f32⟩
  | .hbm, ⟨7, _⟩ => ⟨S8320x14592, .f32⟩
  | .hbm, ⟨8, _⟩ => ⟨S8320x2048, .f32⟩
  | _, _ => ⟨S2048x14592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8320x2048 : Shape := ⟨2, ![8320, 2048]⟩
abbrev S2048x14592 : Shape := ⟨2, ![2048, 14592]⟩
abbrev S8320x14592 : Shape := ⟨2, ![8320, 14592]⟩
abbrev S1040x2048 : Shape := ⟨2, ![1040, 2048]⟩
abbrev S2048x768 : Shape := ⟨2, ![2048, 768]⟩
abbrev S1040x768 : Shape := ⟨2, ![1040, 768]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x14592, .bf16⟩
  | .hbm, ⟨2, _⟩ => ⟨S8320x14592, .f32⟩
  | .local _ .vmem, ⟨0, _⟩ => ⟨S1040x2048, .bf16⟩
  | .local _ .vmem, ⟨1, _⟩ => ⟨S1040x2048, .bf16⟩
  | .local _ .vmem, ⟨2, _⟩ => ⟨S2048x768, .bf16⟩
  | .local _ .vmem, ⟨3, _⟩ => ⟨S2048x768, .bf16⟩
  | .local _ .vmem, ⟨4, _⟩ => ⟨S1040x768, .f32⟩
  | .local _ .vmem, ⟨5, _⟩ => ⟨S1040x768, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x2048 : Shape := ⟨2, ![8320, 2048]⟩
abbrev S2048x14592 : Shape := ⟨2, ![2048, 14592]⟩
abbrev S8320x14592 : Shape := ⟨2, ![8320, 14592]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x14592, .bf16⟩
  | .hbm, ⟨2, _⟩ => ⟨S8320x2048, .f32⟩
  | .hbm, ⟨3, _⟩ => ⟨S2048x14592, .f32⟩
  | .hbm, ⟨4, _⟩ => ⟨S8320x14592, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8320x2048 : Shape := ⟨2, ![8320, 2048]⟩
abbrev S2048x11264 : Shape := ⟨2, ![2048, 11264]⟩
abbrev S8320x11264 : Shape := ⟨2, ![8320, 11264]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .bf16⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .bf16⟩
  | .local _ .vmem, ⟨5, _⟩ => ⟨S1040x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8320x2048 : Shape := ⟨2, ![8320, 2048]⟩
abbrev S2048x11264 : Shape := ⟨2, ![2048, 11264]⟩
abbrev S8320x11264 : Shape := ⟨2, ![8320, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x2048, .f32⟩
  | .hbm, ⟨3, _⟩ => ⟨S2048x11264, .f32⟩
  | .hbm, ⟨4, _⟩ => ⟨S8320x11264, .f32⟩
  | .hbm, ⟨5, _⟩ => ⟨S8320x11264, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8320x5632 : Shape := ⟨2, ![8320, 5632]⟩
abbrev S5632x2048 : Shape := ⟨2, ![5632, 2048]⟩
abbrev S8320x2048 : Shape := ⟨2, ![8320, 2048]⟩
abbrev S1040x2816 : Shape := ⟨2, ![1040, 2816]⟩
abbrev S2816x1024 : Shape := ⟨2, ![2816, 1024]⟩
abbrev S1040x1024 : Shape := ⟨2, ![1040, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .local _ .vmem, ⟨0, _⟩ => ⟨S1040x2816, .bf16⟩
  | .local _ .vmem, ⟨1, _⟩ => ⟨S1040x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x5632 : Shape := ⟨2, ![8320, 5632]⟩
abbrev S5632x2048 : Shape := ⟨2, ![5632, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x5632, .f32⟩
  | .hbm, ⟨3, _⟩ => ⟨S5632x2048, .f32⟩
  | .hbm, ⟨4, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8320x2048 : Shape := ⟨2, ![8320, 2048]⟩
abbrev S2048x2048 : Shape := ⟨2, ![2048, 2048]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .f32⟩
  | .local _ .vmem, ⟨5, _⟩ => ⟨S1040x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x2048 : Shape := ⟨2, ![8320, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S2048x2048, .f32⟩
  | .hbm, ⟨4, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2048x2048 : Shape := ⟨2, ![2048, 2048]⟩
abbrev S8320x2048 : Shape := ⟨2, ![8320, 2048]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8320x2048, .bf16⟩
  | .hbm, ⟨2, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1040x1024, .f32⟩
  | .local _ .vmem, ⟨5, _⟩ => ⟨S1040x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S8320x2048 : Shape := ⟨2, ![8320, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8320x2048, .bf16⟩
  | .hbm, ⟨2, _⟩ => ⟨S2048x2048, .f32⟩
  | .hbm, ⟨3, _⟩ => ⟨S8320x2048, .f32⟩
  | .hbm, ⟨4, _⟩ => ⟨S_, .f32⟩
  | .hbm, ⟨5, _⟩ => ⟨S8320x2048, .f32⟩
  | .hbm, ⟨6, _⟩ => ⟨S8320x2048, .f32⟩
  | .hbm, ⟨7, _⟩ => ⟨S8320x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x2048 : Shape := ⟨2, ![2048, 2048]⟩
abbrev S8320x2048 : Shape := ⟨2, ![8320, 2048]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8320x2048, .bf16⟩
  | .hbm, ⟨2, _⟩ => ⟨S8320x2048, .bf16⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1040x1024, .bf16⟩
  | .local _ .vmem, ⟨5, _⟩ => ⟨S1040x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S8320x2048 : Shape := ⟨2, ![8320, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8320x2048, .bf16⟩
  | .hbm, ⟨2, _⟩ => ⟨S2048x2048, .f32⟩
  | .hbm, ⟨3, _⟩ => ⟨S8320x2048, .f32⟩
  | .hbm, ⟨4, _⟩ => ⟨S_, .f32⟩
  | .hbm, ⟨5, _⟩ => ⟨S8320x2048, .f32⟩
  | .hbm, ⟨6, _⟩ => ⟨S8320x2048, .f32⟩
  | .hbm, ⟨7, _⟩ => ⟨S8320x2048, .f32⟩
  | .hbm, ⟨8, _⟩ => ⟨S8320x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8320x2048 : Shape := ⟨2, ![8320, 2048]⟩
abbrev S2048x2048 : Shape := ⟨2, ![2048, 2048]⟩
abbrev S4160x512 : Shape := ⟨2, ![4160, 512]⟩
abbrev S4160x1024 : Shape := ⟨2, ![4160, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x2048, .bf16⟩
  | .local _ .vmem, ⟨0, _⟩ => ⟨S4160x512, .bf16⟩
  | .local _ .vmem, ⟨1, _⟩ => ⟨S4160x512, .bf16⟩
  | .local _ .vmem, ⟨2, _⟩ => ⟨S4160x1024, .bf16⟩
  | .local _ .vmem, ⟨3, _⟩ => ⟨S4160x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x2048 : Shape := ⟨2, ![8320, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .f32⟩
  | .hbm, ⟨3, _⟩ => ⟨S8320x2048, .f32⟩
  | .hbm, ⟨4, _⟩ => ⟨S_, .f32⟩
  | .hbm, ⟨5, _⟩ => ⟨S2048x2048, .f32⟩
  | .hbm, ⟨6, _⟩ => ⟨S8320x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8320x1536 : Shape := ⟨2, ![8320, 1536]⟩
abbrev S1536x4096 : Shape := ⟨2, ![1536, 4096]⟩
abbrev S8320x4096 : Shape := ⟨2, ![8320, 4096]⟩
abbrev S1040x1536 : Shape := ⟨2, ![1040, 1536]⟩
abbrev S1536x1024 : Shape := ⟨2, ![1536, 1024]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1536, .bf16⟩
  | .hbm, ⟨1, _⟩ => ⟨S1536x4096, .bf16⟩
  | .hbm, ⟨2, _⟩ => ⟨S8320x4096, .f32⟩
  | .local _ .vmem, ⟨0, _⟩ => ⟨S1040x1536, .bf16⟩
  | .local _ .vmem, ⟨1, _⟩ => ⟨S1040x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1040x1024, .f32⟩
  | .local _ .vmem, ⟨5, _⟩ => ⟨S1040x1024, .f32⟩
  | _, _ => ⟨S8320x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8320x1536 : Shape := ⟨2, ![8320, 1536]⟩
abbrev S1536x4096 : Shape := ⟨2, ![1536, 4096]⟩
abbrev S8320x4096 : Shape := ⟨2, ![8320, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8320x1536, .bf16⟩
  | .hbm, ⟨1, _⟩ => ⟨S1536x4096, .bf16⟩
  | .hbm, ⟨2, _⟩ => ⟨S8320x1536, .f32⟩
  | .hbm, ⟨3, _⟩ => ⟨S1536x4096, .f32⟩
  | .hbm, ⟨4, _⟩ => ⟨S8320x4096, .f32⟩
  | _, _ => ⟨S8320x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8320x512 : Shape := ⟨2, ![8320, 512]⟩
abbrev S512x4096 : Shape := ⟨2, ![512, 4096]⟩
abbrev S8320x4096 : Shape := ⟨2, ![8320, 4096]⟩
abbrev S1040x512 : Shape := ⟨2, ![1040, 512]⟩
abbrev S512x1024 : Shape := ⟨2, ![512, 1024]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x512, .bf16⟩
  | .hbm, ⟨1, _⟩ => ⟨S512x4096, .bf16⟩
  | .hbm, ⟨2, _⟩ => ⟨S8320x4096, .f32⟩
  | .local _ .vmem, ⟨0, _⟩ => ⟨S1040x512, .bf16⟩
  | .local _ .vmem, ⟨1, _⟩ => ⟨S1040x512, .bf16⟩
  | .local _ .vmem, ⟨2, _⟩ => ⟨S512x1024, .bf16⟩
  | .local _ .vmem, ⟨3, _⟩ => ⟨S512x1024, .bf16⟩
  | .local _ .vmem, ⟨4, _⟩ => ⟨S1040x1024, .f32⟩
  | .local _ .vmem, ⟨5, _⟩ => ⟨S1040x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x512 : Shape := ⟨2, ![8320, 512]⟩
abbrev S512x4096 : Shape := ⟨2, ![512, 4096]⟩
abbrev S8320x4096 : Shape := ⟨2, ![8320, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S512x4096, .bf16⟩
  | .hbm, ⟨2, _⟩ => ⟨S8320x512, .f32⟩
  | .hbm, ⟨3, _⟩ => ⟨S512x4096, .f32⟩
  | .hbm, ⟨4, _⟩ => ⟨S8320x4096, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S1536x4096 : Shape := ⟨2, ![1536, 4096]⟩
abbrev S8320x4096 : Shape := ⟨2, ![8320, 4096]⟩
abbrev S8320x1536 : Shape := ⟨2, ![8320, 1536]⟩
abbrev S1040x2048 : Shape := ⟨2, ![1040, 2048]⟩
abbrev S768x2048 : Shape := ⟨2, ![768, 2048]⟩
abbrev S1040x768 : Shape := ⟨2, ![1040, 768]⟩

abbrev nBuf : Space → Nat
  | .hbm => 3
  | .vmem => 7
  | .smem => 0
  | _ => 0

abbrev bufTy : (tb : Table) → Fin (tcTables nBuf tb) → BufTy
  | .hbm, ⟨0, _⟩ => ⟨S1536x4096, .bf16⟩
  | .hbm, ⟨1, _⟩ => ⟨S8320x4096, .bf16⟩
  | .hbm, ⟨2, _⟩ => ⟨S8320x1536, .f32⟩
  | .local _ .vmem, ⟨0, _⟩ => ⟨S1040x2048, .bf16⟩
  | .local _ .vmem, ⟨1, _⟩ => ⟨S1040x2048, .bf16⟩
  | .local _ .vmem, ⟨2, _⟩ => ⟨S768x2048, .bf16⟩
  | .local _ .vmem, ⟨3, _⟩ => ⟨S768x2048, .bf16⟩
  | .local _ .vmem, ⟨4, _⟩ => ⟨S1040x768, .f32⟩
  | .local _ .vmem, ⟨5, _⟩ => ⟨S1040x768, .f32⟩
  | .local _ .vmem, ⟨6, _⟩ => ⟨S1040x768, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S1536x4096 : Shape := ⟨2, ![1536, 4096]⟩
abbrev S8320x4096 : Shape := ⟨2, ![8320, 4096]⟩
abbrev S_ : Shape := ⟨0, ![]⟩
abbrev S8320x1536 : Shape := ⟨2, ![8320, 1536]⟩

abbrev nBuf : Space → Nat
  | .hbm => 8
  | .vmem => 0
  | .smem => 0
  | _ => 0

abbrev bufTy : (tb : Table) → Fin (tcTables nBuf tb) → BufTy
  | .hbm, ⟨0, _⟩ => ⟨S1536x4096, .bf16⟩
  | .hbm, ⟨1, _⟩ => ⟨S8320x4096, .bf16⟩
  | .hbm, ⟨2, _⟩ => ⟨S1536x4096, .f32⟩
  | .hbm, ⟨3, _⟩ => ⟨S8320x4096, .f32⟩
  | .hbm, ⟨4, _⟩ => ⟨S_, .f32⟩
  | .hbm, ⟨5, _⟩ => ⟨S8320x1536, .f32⟩
  | .hbm, ⟨6, _⟩ => ⟨S8320x4096, .f32⟩
  | .hbm, ⟨7, _⟩ => ⟨S8320x1536, .f32⟩
  | _, _ => ⟨S1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8320x1536 : Shape := ⟨2, ![8320, 1536]⟩
abbrev S8320x4096 : Shape := ⟨2, ![8320, 4096]⟩
abbrev S1536x4096 : Shape := ⟨2, ![1536, 4096]⟩
abbrev S4160x768 : Shape := ⟨2, ![4160, 768]⟩
abbrev S4160x1024 : Shape := ⟨2, ![4160, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1536, .bf16⟩
  | .hbm, ⟨1, _⟩ => ⟨S8320x4096, .bf16⟩
  | .hbm, ⟨2, _⟩ => ⟨S1536x4096, .bf16⟩
  | .local _ .vmem, ⟨0, _⟩ => ⟨S4160x768, .bf16⟩
  | .local _ .vmem, ⟨1, _⟩ => ⟨S4160x768, .bf16⟩
  | .local _ .vmem, ⟨2, _⟩ => ⟨S4160x1024, .bf16⟩
  | .local _ .vmem, ⟨3, _⟩ => ⟨S4160x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8320x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8320x1536 : Shape := ⟨2, ![8320, 1536]⟩
abbrev S8320x4096 : Shape := ⟨2, ![8320, 4096]⟩
abbrev S_ : Shape := ⟨0, ![]⟩
abbrev S1536x4096 : Shape := ⟨2, ![1536, 4096]⟩
abbrev S4096x1536 : Shape := ⟨2, ![4096, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8320x1536, .bf16⟩
  | .hbm, ⟨1, _⟩ => ⟨S8320x4096, .bf16⟩
  | .hbm, ⟨2, _⟩ => ⟨S8320x1536, .f32⟩
  | .hbm, ⟨3, _⟩ => ⟨S8320x4096, .f32⟩
  | .hbm, ⟨4, _⟩ => ⟨S_, .f32⟩
  | .hbm, ⟨5, _⟩ => ⟨S1536x4096, .f32⟩
  | .hbm, ⟨6, _⟩ => ⟨S8320x4096, .f32⟩
  | .hbm, ⟨7, _⟩ => ⟨S4096x1536, .f32⟩
  | .hbm, ⟨8, _⟩ => ⟨S1536x4096, .f32⟩
  | .hbm, ⟨9, _⟩ => ⟨S1536x4096, .bf16⟩
  | _, _ => ⟨S8320x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S512x4096 : Shape := ⟨2, ![512, 4096]⟩
abbrev S8320x4096 : Shape := ⟨2, ![8320, 4096]⟩
abbrev S8320x512 : Shape := ⟨2, ![8320, 512]⟩
abbrev S1040x2048 : Shape := ⟨2, ![1040, 2048]⟩
abbrev S512x2048 : Shape := ⟨2, ![512, 2048]⟩
abbrev S1040x512 : Shape := ⟨2, ![1040, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S8320x4096, .bf16⟩
  | .hbm, ⟨2, _⟩ => ⟨S8320x512, .f32⟩
  | .local _ .vmem, ⟨0, _⟩ => ⟨S1040x2048, .bf16⟩
  | .local _ .vmem, ⟨1, _⟩ => ⟨S1040x2048, .bf16⟩
  | .local _ .vmem, ⟨2, _⟩ => ⟨S512x2048, .bf16⟩
  | .local _ .vmem, ⟨3, _⟩ => ⟨S512x2048, .bf16⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S512x4096 : Shape := ⟨2, ![512, 4096]⟩
abbrev S8320x4096 : Shape := ⟨2, ![8320, 4096]⟩
abbrev S_ : Shape := ⟨0, ![]⟩
abbrev S8320x512 : Shape := ⟨2, ![8320, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S8320x4096, .bf16⟩
  | .hbm, ⟨2, _⟩ => ⟨S512x4096, .f32⟩
  | .hbm, ⟨3, _⟩ => ⟨S8320x4096, .f32⟩
  | .hbm, ⟨4, _⟩ => ⟨S_, .f32⟩
  | .hbm, ⟨5, _⟩ => ⟨S8320x512, .f32⟩
  | .hbm, ⟨6, _⟩ => ⟨S8320x4096, .f32⟩
  | .hbm, ⟨7, _⟩ => ⟨S8320x512, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S8320x512 : Shape := ⟨2, ![8320, 512]⟩
abbrev S8320x4096 : Shape := ⟨2, ![8320, 4096]⟩
abbrev S512x4096 : Shape := ⟨2, ![512, 4096]⟩
abbrev S4160x512 : Shape := ⟨2, ![4160, 512]⟩
abbrev S4160x1024 : Shape := ⟨2, ![4160, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x512, .bf16⟩
  | .hbm, ⟨1, _⟩ => ⟨S8320x4096, .bf16⟩
  | .hbm, ⟨2, _⟩ => ⟨S512x4096, .bf16⟩
  | .local _ .vmem, ⟨0, _⟩ => ⟨S4160x512, .bf16⟩
  | .local _ .vmem, ⟨1, _⟩ => ⟨S4160x512, .bf16⟩
  | .local _ .vmem, ⟨2, _⟩ => ⟨S4160x1024, .bf16⟩
  | .local _ .vmem, ⟨3, _⟩ => ⟨S4160x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8320x512 : Shape := ⟨2, ![8320, 512]⟩
abbrev S8320x4096 : Shape := ⟨2, ![8320, 4096]⟩
abbrev S_ : Shape := ⟨0, ![]⟩
abbrev S512x4096 : Shape := ⟨2, ![512, 4096]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S8320x4096, .bf16⟩
  | .hbm, ⟨2, _⟩ => ⟨S8320x512, .f32⟩
  | .hbm, ⟨3, _⟩ => ⟨S8320x4096, .f32⟩
  | .hbm, ⟨4, _⟩ => ⟨S_, .f32⟩
  | .hbm, ⟨5, _⟩ => ⟨S512x4096, .f32⟩
  | .hbm, ⟨6, _⟩ => ⟨S8320x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S2048x2048 : Shape := ⟨2, ![2048, 2048]⟩
abbrev S8320x2048 : Shape := ⟨2, ![8320, 2048]⟩
abbrev S8x128 : Shape := ⟨2, ![8, 128]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8320x2048, .bf16⟩
  | .hbm, ⟨2, _⟩ => ⟨S8x128, .f32⟩
  | .hbm, ⟨3, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1040x1024, .f32⟩
  | .local _ .vmem, ⟨5, _⟩ => ⟨S1040x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x2048 : Shape := ⟨2, ![2048, 2048]⟩
abbrev S8320x2048 : Shape := ⟨2, ![8320, 2048]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8320x2048, .bf16⟩
  | .hbm, ⟨2, _⟩ => ⟨S8x128, .f32⟩
  | .hbm, ⟨3, _⟩ => ⟨S2048x2048, .f32⟩
  | .hbm, ⟨4, _⟩ => ⟨S8320x2048, .f32⟩
  | .hbm, ⟨5, _⟩ => ⟨S_, .f32⟩
  | .hbm, ⟨6, _⟩ => ⟨S8320x2048, .f32⟩
  | .hbm, ⟨7, _⟩ => ⟨S8320x2048, .f32⟩
  | .hbm, ⟨8, _⟩ => ⟨S8320x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.BitsBody.lean ====
module

public import proofs.«01_k».proof.Proof.Gen.Kernel.Skeleton
public import proofs.«01_k».proof.Proof.Gen.Kernel.Launch
public import Idealize.ShloMosaic.PureOps.BitExact
public import Idealize.ShloMosaic.Lib.Pipeline.FrameBody
public import Idealize.ShloMosaic.Lib.Writes
public import Idealize.ShloMosaic.Lib.WholeRead
public import Idealize.ShloMosaic.Lib.Exec
public import Idealize.ShloMosaic.Lib.Affine
public import Idealize.ShloMosaic.Lib.Tactic

@[expose] public section

/-!
# What one grid point of the kernel does to the buffers it holds

The state a point works on is the resident block of the query gradient, the two scratch accumulators and the two output
windows. `maskedQ`, `maskedK`, `maskedV` name what a masked tile leaves in the three accumulators, `plainQ`, `plainK`,
`plainV` what an unmasked tile leaves; each theorem `run_…` is the body along one of its seven control paths.
-/

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The two prefetched tables and the two scratch accumulators. -/
abbrev tabQ : Memref sig .tc .smem S91 .i32 := Memref.whole main_c
abbrev tabK : Memref sig .tc .smem S91 .i32 := Memref.whole main_c_0
abbrev accK : Memref sig .tc .vmem S640x256 .f32 := Memref.whole cc0_scratch0
abbrev accV : Memref sig .tc .vmem S640x128 .f32 := Memref.whole cc0_scratch1

/-- The word the body reads off the table of query blocks at a grid point, -/
abbrev wordQ (i : grid0.Coords) (T : S91.Idx → BitVec 32) : BitVec 32 :=
  View.readAt (Elt Bits) tabQ.view (Rect.unit (s := S91) (k0_off1 i) S1.size (k0_off1_inb i)).toLoadRect T (Shape.Idx.first (numel1_S1.symm ▸ Nat.one_pos))
/-- and off the table of key blocks. -/
abbrev wordK (i : grid0.Coords) (T : S91.Idx → BitVec 32) : BitVec 32 :=
  View.readAt (Elt Bits) tabK.view (Rect.unit (s := S91) (k0_off1 i) S1.size (k0_off1_inb i)).toLoadRect T (Shape.Idx.first (numel1_S1.symm ▸ Nat.one_pos))
/-- The query block is the key block: the body's own comparison of the two words. -/
abbrev diagonal (u v : BitVec 32) : Prop := (Scalar.cmpi .ne (Scalar.extui (Scalar.cmpi .eq u v)) 0#32) = 1#1

/-! ## Reading and overwriting a rectangle of an array -/

section Rects

variable {s : Shape} {α : Type}

/-- The entries of an array under a rectangle. -/
abbrev take (x : s.Idx → α) (r : Rect s) : r.shape.Idx → α := fun j => x (r.idx j)

open Classical in
/-- An array with the entries under a rectangle replaced. -/
def put (r : Rect s) (w : r.shape.Idx → α) (x : s.Idx → α) : s.Idx → α :=
  fun y => if h : ∃ j, r.emb j = y then w h.choose else x y

theorem put_emb (r : Rect s) (w : r.shape.Idx → α) (x : s.Idx → α) (j : r.shape.Idx) : put r w x (r.emb j) = w j := by
  have h : ∃ k, r.emb k = r.emb j := ⟨j, rfl⟩
  unfold put
  rw [dif_pos h]
  exact congrArg w (r.emb.injective h.choose_spec)

theorem put_off (r : Rect s) (w : r.shape.Idx → α) (x : s.Idx → α) (y : s.Idx) (h : ∀ j, r.emb j ≠ y) : put r w x y = x y := by
  unfold put
  rw [dif_neg]
  rintro ⟨j, hj⟩
  exact h j hj

/-- A store over earlier stores leaves the earlier array with the store's rectangle replaced. -/
theorem read_writes_put {κ : Kind} {sp : Space} {e : EltTy} {Val : EltTy → Type} (v : View sig κ sp s e) (f : v.ty.Contents Val)
    (r : Rect s) (w : r.shape.Idx → Val e) (L : List (View.Piece Val s e)) :
    v.read Val (v.writes Val f (⟨r, w⟩ :: L)) = put r w (v.read Val (v.writes Val f L)) := by
  funext y
  by_cases h : y ∈ r.set
  · obtain ⟨j, rfl⟩ := r.exists_idx_of_mem h
    exact (View.read_writes_cons_emb v f r w L j).trans (put_emb r w _ j).symm
  · rw [put_off r w _ y fun j hj => h (hj ▸ r.idx_mem j)]
    exact View.read_writes_cons_miss v f ⟨r, w⟩ L y h

/-- A store over the whole array leaves what it stores. -/
theorem read_writes_all {κ : Kind} {sp : Space} {e : EltTy} {Val : EltTy → Type} (v : View sig κ sp s e) (f : v.ty.Contents Val)
    (r : Rect s) (w : r.shape.Idx → Val e) (L : List (View.Piece Val s e)) (w' : s.Idx → Val e)
    (h : ∀ j : r.shape.Idx, w' (r.emb j) = w j) (hall : ∀ y, ∃ j, r.emb j = y) :
    v.read Val (v.writes Val f (⟨r, w⟩ :: L)) = w' := by
  funext y
  obtain ⟨j, rfl⟩ := hall y
  exact (View.read_writes_cons_emb v f r w L j).trans (h j).symm

end Rects

/-- The rectangles of a block: all of it, its first 256 rows, its last 384 rows. -/
abbrev allQ : Rect S8320x256 := Rect.unit (s := S8320x256) ![0, 0] S8320x256.size inb_S8320x256_S8320x256_0_0
abbrev allK : Rect S640x256 := Rect.unit (s := S640x256) ![0, 0] S640x256.size inb_S640x256_S640x256_0_0
abbrev allV : Rect S640x128 := Rect.unit (s := S640x128) ![0, 0] S640x128.size inb_S640x128_S640x128_0_0
abbrev loK : Rect S640x256 := Rect.unit (s := S640x256) ![0, 0] S256x256.size inb_S640x256_S256x256_0_0
abbrev hiK : Rect S640x256 := Rect.unit (s := S640x256) ![256, 0] S384x256.size inb_S640x256_S384x256_256_0
abbrev loV : Rect S640x128 := Rect.unit (s := S640x128) ![0, 0] S256x128.size inb_S640x128_S256x128_0_0
abbrev hiV : Rect S640x128 := Rect.unit (s := S640x128) ![256, 0] S384x128.size inb_S640x128_S384x128_256_0
abbrev loS : Rect S1x1x640 := Rect.unit (s := S1x1x640) ![0, 0, 0] S1x1x256.size inb_S1x1x640_S1x1x256_0_0_0
abbrev hiS : Rect S1x1x640 := Rect.unit (s := S1x1x640) ![0, 0, 256] S1x1x384.size inb_S1x1x640_S1x1x384_0_0_256

theorem emb_allQ (j : S8320x256.Idx) : allQ.emb j = j := by
  funext a; apply Fin.ext; rw [Rect.emb_apply]
  match a with
  | ⟨0, _⟩ => show 0 + 1 * _ = _; omega
  | ⟨1, _⟩ => show 0 + 1 * _ = _; omega
theorem emb_allK (j : S640x256.Idx) : allK.emb j = j := by
  funext a; apply Fin.ext; rw [Rect.emb_apply]
  match a with
  | ⟨0, _⟩ => show 0 + 1 * _ = _; omega
  | ⟨1, _⟩ => show 0 + 1 * _ = _; omega
theorem emb_allV (j : S640x128.Idx) : allV.emb j = j := by
  funext a; apply Fin.ext; rw [Rect.emb_apply]
  match a with
  | ⟨0, _⟩ => show 0 + 1 * _ = _; omega
  | ⟨1, _⟩ => show 0 + 1 * _ = _; omega

/-- A store over a whole block leaves what it stores; a load of a whole block reads the block. -/
theorem read_allQ {κ : Kind} {sp : Space} {e : EltTy} {Val : EltTy → Type} (v : View sig κ sp S8320x256 e) (f : v.ty.Contents Val)
    (w : S8320x256.Idx → Val e) (L : List (View.Piece Val S8320x256 e)) : v.read Val (v.writes Val f (⟨allQ, w⟩ :: L)) = w :=
  read_writes_all v f allQ w L w (fun j => congrArg w (emb_allQ j)) fun y => ⟨y, emb_allQ y⟩
theorem read_allK {κ : Kind} {sp : Space} {e : EltTy} {Val : EltTy → Type} (v : View sig κ sp S640x256 e) (f : v.ty.Contents Val)
    (w : S640x256.Idx → Val e) (L : List (View.Piece Val S640x256 e)) : v.read Val (v.writes Val f (⟨allK, w⟩ :: L)) = w :=
  read_writes_all v f allK w L w (fun j => congrArg w (emb_allK j)) fun y => ⟨y, emb_allK y⟩
theorem read_allV {κ : Kind} {sp : Space} {e : EltTy} {Val : EltTy → Type} (v : View sig κ sp S640x128 e) (f : v.ty.Contents Val)
    (w : S640x128.Idx → Val e) (L : List (View.Piece Val S640x128 e)) : v.read Val (v.writes Val f (⟨allV, w⟩ :: L)) = w :=
  read_writes_all v f allV w L w (fun j => congrArg w (emb_allV j)) fun y => ⟨y, emb_allV y⟩
theorem take_allK {α : Type} (x : S640x256.Idx → α) : take x allK = x := funext fun j => congrArg x (emb_allK j)
theorem take_allV {α : Type} (x : S640x128.Idx → α) : take x allV = x := funext fun j => congrArg x (emb_allV j)
theorem load_allK {κ : Kind} {sp : Space} {e : EltTy} {Val : EltTy → Type} (v : View sig κ sp S640x256 e) (f : v.ty.Contents Val) :
    v.readAt Val allK.toLoadRect f = v.read Val f := take_allK _
theorem load_allV {κ : Kind} {sp : Space} {e : EltTy} {Val : EltTy → Type} (v : View sig κ sp S640x128 e) (f : v.ty.Contents Val) :
    v.readAt Val allV.toLoadRect f = v.read Val f := take_allV _

/-! ## What a tile leaves in the accumulators -/

section Steps

variable (q k : S640x256.Idx → Elt Bits .bf16) (v o : S640x128.Idx → Elt Bits .bf16) (l d : S1x1x640.Idx → Elt Bits .f32)
variable (D : S8320x256.Idx → Elt Bits .f32) (A : S640x256.Idx → Elt Bits .f32) (B : S640x128.Idx → Elt Bits .f32)
variable (u w : BitVec 32)

/-- The key gradient's accumulator after a masked tile. -/
def maskedK : S640x256.Idx → Elt Bits .f32 :=
  k0_pay4 (F := Bits) (k0_pay29 u (k0_pay14 (take v allV) (take o hiV))
    (k0_pay22 (k0_pay13 (take v allV) (take o loV)) (take A allK) (k0_pay15 (take k allK) (take q loK) (take l loS)) (k0_pay16 (F := Bits) w) (k0_pay17 (F := Bits) u) (k0_pay18 (F := Bits) u w) 112#32 (take d loS) (take q loK))
    (k0_pay24 (k0_pay12 (take k allK) (take q hiK)) (take l hiS)) (iota .tc S640x384 32 [0] iota_S640x384_d0_w32) (k0_pay25 (F := Bits) w) (take d hiS) (take q hiK))

/-- The value gradient's accumulator after a masked tile. -/
def maskedV : S640x128.Idx → Elt Bits .f32 :=
  k0_pay5 (F := Bits) (k0_pay27 u
    (k0_pay20 (take B allV) (k0_pay15 (take k allK) (take q loK) (take l loS)) (k0_pay16 (F := Bits) w) (k0_pay17 (F := Bits) u) (k0_pay18 (F := Bits) u w) 112#32 (take o loV))
    (k0_pay24 (k0_pay12 (take k allK) (take q hiK)) (take l hiS)) (iota .tc S640x384 32 [0] iota_S640x384_d0_w32) (k0_pay25 (F := Bits) w) (take o hiV))

/-- The query gradient's block after the first part of a masked tile, -/
def maskedQ₁ (hw : k0_chk1 u w) (h : k0_cond3 u w = 1#1) : S8320x256.Idx → Elt Bits .f32 :=
  put (Rect.unit (s := S8320x256) (k0_off2 u) S256x256.size (k0_off2_inb u w hw h))
    (k0_pay23 (F := Bits) (k0_pay10 (take k allK)) (k0_pay13 (take v allV) (take o loV)) (k0_pay15 (take k allK) (take q loK) (take l loS)) (k0_pay16 (F := Bits) w) (k0_pay17 (F := Bits) u) (k0_pay18 (F := Bits) u w) 112#32 (take d loS)
      (take D (Rect.unit (s := S8320x256) (k0_off2 u) S256x256.size (k0_off2_inb u w hw h)))) D

/-- and after both. -/
def maskedQ (hw : k0_chk1 u w) (h : k0_cond3 u w = 1#1) : S8320x256.Idx → Elt Bits .f32 :=
  put (Rect.unit (s := S8320x256) (k0_off3 u) S384x256.size (k0_off3_inb u w hw h))
    (k0_pay30 (F := Bits) u (k0_pay10 (take k allK)) (k0_pay14 (take v allV) (take o hiV)) (k0_pay24 (k0_pay12 (take k allK) (take q hiK)) (take l hiS)) (iota .tc S640x384 32 [0] iota_S640x384_d0_w32) (k0_pay25 (F := Bits) w) (take d hiS)
      (take (maskedQ₁ q k v o l d D u w hw h) (Rect.unit (s := S8320x256) (k0_off3 u) S384x256.size (k0_off3_inb u w hw h)))) (maskedQ₁ q k v o l d D u w hw h)

/-- The key gradient's accumulator after an unmasked tile. -/
def plainK : S640x256.Idx → Elt Bits .f32 :=
  k0_pay7 (F := Bits) (k0_pay44 (k0_pay33 (take k allK) (take q hiK)) (k0_pay34 (take v allV) (take o loV)) (k0_pay35 (take v allV) (take o hiV)) (take A allK)
    (k0_pay36 (take k allK) (take q loK) (take l loS)) (k0_pay38 (take d loS)) (take q loK) (take l hiS) (take d hiS) (take q hiK))

/-- The value gradient's accumulator after an unmasked tile. -/
def plainV : S640x128.Idx → Elt Bits .f32 :=
  k0_pay8 (F := Bits) (k0_pay42 (k0_pay33 (take k allK) (take q hiK)) (k0_pay37 (take k allK) (take q loK) (take B allV) (take l loS) (take o loV)) (take l hiS) (take o hiV))

/-- The query gradient's block after the first part of an unmasked tile, -/
def plainQ₁ (hw : k0_chk1 u w) (h : k0_cond4 u w = 1#1) : S8320x256.Idx → Elt Bits .f32 :=
  put (Rect.unit (s := S8320x256) (k0_off4 u) S256x256.size (k0_off4_inb u w hw h))
    (k0_pay40 (F := Bits) (k0_pay31 (take k allK)) (k0_pay34 (take v allV) (take o loV)) (k0_pay36 (take k allK) (take q loK) (take l loS)) (k0_pay38 (take d loS))
      (take D (Rect.unit (s := S8320x256) (k0_off4 u) S256x256.size (k0_off4_inb u w hw h)))) D

/-- and after both. -/
def plainQ (hw : k0_chk1 u w) (h : k0_cond4 u w = 1#1) : S8320x256.Idx → Elt Bits .f32 :=
  put (Rect.unit (s := S8320x256) (k0_off5 u) S384x256.size (k0_off5_inb u w hw h))
    (k0_pay6 (F := Bits) (k0_pay31 (take k allK)) (k0_pay43 (k0_pay33 (take k allK) (take q hiK)) (k0_pay35 (take v allV) (take o hiV)) (take l hiS) (take d hiS))
      (take (plainQ₁ q k v o l d D u w hw h) (Rect.unit (s := S8320x256) (k0_off5 u) S384x256.size (k0_off5_inb u w hw h)))) (plainQ₁ q k v o l d D u w hw h)

end Steps

/-! ## The body along each path -/

section Runs

variable (c : Dev nD) (i : grid0.Coords)
variable (arg4 : Memref sig .tc .vmem S640x256 .bf16) (harg4 : arg4.IsWhole) (arg5 : Memref sig .tc .vmem S640x256 .bf16) (harg5 : arg5.IsWhole)
variable (arg6 : Memref sig .tc .vmem S640x128 .bf16) (harg6 : arg6.IsWhole) (arg7 : Memref sig .tc .vmem S640x128 .bf16) (harg7 : arg7.IsWhole)
variable (arg8 : Memref sig .tc .vmem S1x1x640 .f32) (harg8 : arg8.IsWhole) (arg9 : Memref sig .tc .vmem S1x1x640 .f32) (harg9 : arg9.IsWhole)
variable (arg10 : Memref sig .tc .vmem S8320x256 .f32) (harg10 : arg10.IsWhole) (arg11 : Memref sig .tc .vmem S640x256 .f32) (harg11 : arg11.IsWhole)
variable (arg12 : Memref sig .tc .vmem S640x128 .f32) (harg12 : arg12.IsWhole) (T0 T1 : S91.Idx → BitVec 32)
variable (q k : S640x256.Idx → Elt Bits .bf16) (v o : S640x128.Idx → Elt Bits .bf16) (l d : S1x1x640.Idx → Elt Bits .f32)
variable (D : S8320x256.Idx → Elt Bits .f32) (A : S640x256.Idx → Elt Bits .f32) (B : S640x128.Idx → Elt Bits .f32)
variable (X : S640x256.Idx → Elt Bits .f32) (Y : S640x128.Idx → Elt Bits .f32)

/-- What a point holds: the six input blocks, the two tables, the three outputs' windows and the two scratch accumulators. -/
def held : sProp 𝕄 :=
  iprop(owns (c : Thread nD τ) arg4 fullShare q ∗ owns (c : Thread nD τ) arg5 fullShare k ∗ owns (c : Thread nD τ) arg6 fullShare v
    ∗ owns (c : Thread nD τ) arg7 fullShare o ∗ owns (c : Thread nD τ) arg8 fullShare l ∗ owns (c : Thread nD τ) arg9 fullShare d
    ∗ (tabQ.view.loc (c : Thread nD τ) ↦{fullShare.right} T0) ∗ (tabK.view.loc (c : Thread nD τ) ↦{fullShare.right} T1)
    ∗ owns (c : Thread nD τ) arg10 fullShare D ∗ owns (c : Thread nD τ) arg11 fullShare X ∗ owns (c : Thread nD τ) arg12 fullShare Y
    ∗ owns (c : Thread nD τ) accK fullShare A ∗ owns (c : Thread nD τ) accV fullShare B)

/-- The body at a point takes the accumulators and output windows from the first five contents to the last five. -/
def Takes (D : S8320x256.Idx → Elt Bits .f32) (A : S640x256.Idx → Elt Bits .f32) (B : S640x128.Idx → Elt Bits .f32)
    (X : S640x256.Idx → Elt Bits .f32) (Y : S640x128.Idx → Elt Bits .f32)
    (D' : S8320x256.Idx → Elt Bits .f32) (A' : S640x256.Idx → Elt Bits .f32) (B' : S640x128.Idx → Elt Bits .f32)
    (X' : S640x256.Idx → Elt Bits .f32) (Y' : S640x128.Idx → Elt Bits .f32) : Prop :=
  ∀ K : PUnit → sProp 𝕄,
    iprop(held c arg4 arg5 arg6 arg7 arg8 arg9 arg10 arg11 arg12 T0 T1 q k v o l d D A B X Y
      ∗ (held c arg4 arg5 arg6 arg7 arg8 arg9 arg10 arg11 arg12 T0 T1 q k v o l d D' A' B' X' Y' -∗ K ⟨⟩))
    ⊢ wp frame (wpE (defs₀ (F := Bits)) Variants.none c none) Set.univ
      (cc0_attn_bwd i tabQ (Memref.isWhole_whole _) tabK (Memref.isWhole_whole _) arg4 harg4 arg5 harg5 arg6 harg6 arg7 harg7 arg8 harg8 arg9 harg9
        arg10 harg10 arg11 harg11 arg12 harg12 accK (Memref.isWhole_whole _) accV (Memref.isWhole_whole _)) K

end Runs

end Cert.Kernel.Bwd

end
-- ==== Proof.BitsGrid.lean ====
module

public import proofs.«01_k».proof.Proof.BitsBody
public import Idealize.ShloMosaic.Lib.Pipeline.TableIdle
public import Idealize.ShloMosaic.Lib.Pipeline.Kit
public import Idealize.ShloMosaic.Lib.Claim

@[expose] public section

/-!
# The kernel's schedule

Each head walks the 91 pairs (key block, query block) of blocks at or under the diagonal, key block by key block. The two
prefetched tables name each pair's blocks; here they are closed forms of the pair's number, the windows' blocks lie inside
their arrays, and the facts a point's run asks of its words are decided for the 1456 points.
-/

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Pair `p`'s query block and key block: the `p`-th hexadecimal digit, from the right, of a number. -/
def qOf (p : ℕ) : ℕ := (0xccbcbacba9cba98cba987cba9876cba98765cba987654cba9876543cba98765432cba987654321cba9876543210 >>> (4 * p)) % 16
def kOf (p : ℕ) : ℕ := (0xcbbaaa9999888887777776666666555555554444444443333333333222222222221111111111110000000000000 >>> (4 * p)) % 16

/-- The two tables. -/
abbrev tQ : S91.Idx → BitVec 32 := fun x => BitVec.ofNat 32 (qOf (x 0).val)
abbrev tK : S91.Idx → BitVec 32 := fun x => BitVec.ofNat 32 (kOf (x 0).val)

/-- Both, as the launch takes them. -/
def tabs : pre0.Contents (Elt Bits) := fun | ⟨0, _⟩ => tQ | ⟨1, _⟩ => tK | ⟨_ + 2, h⟩ => absurd h (by simp)

theorem inb0 : ∀ i : grid0.Coords, ∀ a, (cc0_transform_0 k0_off1_inb numel1_S1 tabs i a + 1) * S640x256.size a ≤ S8320x4096.size a := by decide +kernel
theorem inb1 : ∀ i : grid0.Coords, ∀ a, (cc0_transform_1 k0_off1_inb numel1_S1 tabs i a + 1) * S640x256.size a ≤ S8320x4096.size a := by decide +kernel
theorem inb2 : ∀ i : grid0.Coords, ∀ a, (cc0_transform_2 k0_off1_inb numel1_S1 tabs i a + 1) * S640x128.size a ≤ S8320x2048.size a := by decide +kernel
theorem inb3 : ∀ i : grid0.Coords, ∀ a, (cc0_transform_3 k0_off1_inb numel1_S1 tabs i a + 1) * S640x128.size a ≤ S8320x2048.size a := by decide +kernel
theorem inb4 : ∀ i : grid0.Coords, ∀ a, (cc0_transform_4 k0_off1_inb numel1_S1 tabs i a + 1) * S1x1x640.size a ≤ S16x1x8320.size a := by decide +kernel
theorem inb5 : ∀ i : grid0.Coords, ∀ a, (cc0_transform_5 k0_off1_inb numel1_S1 tabs i a + 1) * S1x1x640.size a ≤ S16x1x8320.size a := by decide +kernel
theorem inb6 : ∀ i : grid0.Coords, ∀ a, (cc0_transform_6 i a + 1) * S8320x256.size a ≤ S8320x4096.size a := by decide +kernel
theorem inb7 : ∀ i : grid0.Coords, ∀ a, (cc0_transform_7 k0_off1_inb numel1_S1 tabs i a + 1) * S640x256.size a ≤ S8320x4096.size a := by decide +kernel
theorem inb8 : ∀ i : grid0.Coords, ∀ a, (cc0_transform_8 k0_off1_inb numel1_S1 tabs i a + 1) * S640x128.size a ≤ S8320x2048.size a := by decide +kernel

/-- The side condition of the pipeline at the two tables: every block lies inside its array and moves whole words. -/
theorem ok_tabs : ok0 (F := Bits) tabs :=
  ⟨fun i => ⟨inb0 i, .inr (Affine.block_words_dvd (by decide) (by decide))⟩,
    fun i => ⟨inb1 i, .inr (Affine.block_words_dvd (by decide) (by decide))⟩,
    fun i => ⟨inb2 i, .inr (Affine.block_words_dvd (by decide) (by decide))⟩,
    fun i => ⟨inb3 i, .inr (Affine.block_words_dvd (by decide) (by decide))⟩,
    fun i => ⟨inb4 i, .inl rfl⟩,
    fun i => ⟨inb5 i, .inl rfl⟩,
    fun i => ⟨inb7 i, .inl rfl⟩,
    fun i => ⟨inb8 i, .inl rfl⟩⟩

def adm : (pcfg0 (F := Bits)).Adm := ⟨tabs, ok_tabs⟩
abbrev cfgA : Pipeline.Cfg sig Λ₀ := cfg0 (F := Bits) adm
abbrev pcs : Fin 1 → Pipeline.Cfg sig Λ₀ := Pipeline.pin (pcfgs (F := Bits)) fun _ => adm

/-- A point's coordinates, and the two words its body reads. -/
abbrev crd (t : Fin cfgA.N) : cfgA.grid.Coords := cfgA.grid.coords t
abbrev uQ (t : Fin cfgA.N) : BitVec 32 := wordQ (crd t) tQ
abbrev uK (t : Fin cfgA.N) : BitVec 32 := wordK (crd t) tK

end Cert.Kernel.Bwd

end
-- ==== Proof.BitsRuns1.lean ====
module

public import proofs.«01_k».proof.Proof.BitsBody

@[expose] public section

/-! # The body along the four paths that write no key block out. -/

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

section Runs

variable (c : Dev nD) (i : grid0.Coords)
variable (arg4 : Memref sig .tc .vmem S640x256 .bf16) (harg4 : arg4.IsWhole) (arg5 : Memref sig .tc .vmem S640x256 .bf16) (harg5 : arg5.IsWhole)
variable (arg6 : Memref sig .tc .vmem S640x128 .bf16) (harg6 : arg6.IsWhole) (arg7 : Memref sig .tc .vmem S640x128 .bf16) (harg7 : arg7.IsWhole)
variable (arg8 : Memref sig .tc .vmem S1x1x640 .f32) (harg8 : arg8.IsWhole) (arg9 : Memref sig .tc .vmem S1x1x640 .f32) (harg9 : arg9.IsWhole)
variable (arg10 : Memref sig .tc .vmem S8320x256 .f32) (harg10 : arg10.IsWhole) (arg11 : Memref sig .tc .vmem S640x256 .f32) (harg11 : arg11.IsWhole)
variable (arg12 : Memref sig .tc .vmem S640x128 .f32) (harg12 : arg12.IsWhole) (T0 T1 : S91.Idx → BitVec 32)
variable (q k : S640x256.Idx → Elt Bits .bf16) (v o : S640x128.Idx → Elt Bits .bf16) (l d : S1x1x640.Idx → Elt Bits .f32)
variable (D : S8320x256.Idx → Elt Bits .f32) (A : S640x256.Idx → Elt Bits .f32) (B : S640x128.Idx → Elt Bits .f32)
variable (X : S640x256.Idx → Elt Bits .f32) (Y : S640x128.Idx → Elt Bits .f32)

set_option backward.proofsInPublic true in
set_option maxHeartbeats 8000000 in
/-- The first point of a head: the query gradient's block is zeroed, the accumulators are zeroed, a masked tile is added. -/
theorem run_first
    (hw : k0_chk1 (wordQ i T0) (wordK i T1)) (h1 : k0_cond1 i = 1#1) (h2 : diagonal (wordQ i T0) (wordK i T1))
    (h3 : k0_cond3 (wordQ i T0) (wordK i T1) = 1#1) (h4 : ¬k0_cond4 (wordQ i T0) (wordK i T1) = 1#1) (h5 : ¬k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d (k0_pay1 (F := Bits)) (wordQ i T0) (wordK i T1) hw h3)
      (maskedK q k v o l d (k0_pay2 (F := Bits)) (wordQ i T0) (wordK i T1)) (maskedV q k o l (k0_pay3 (F := Bits)) (wordQ i T0) (wordK i T1))
      X Y := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Bits) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Bits) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Bits) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Bits) (wordK i T1)) (k0_pay17 (F := Bits) (wordQ i T0)) (k0_pay18 (F := Bits) (wordQ i T0) (wordK i T1)) 112#32 (take (arg9.view.read _ f5) loS) (take E (Rect.unit (s := S8320x256) (k0_off2 (wordQ i T0)) S256x256.size (k0_off2_inb _ _ hw h3)))) E) ?_
      exact read_allQ _ _ _ _
  isplitl [H7]
  · iexists _; isplitr
    · ipureintro; exact g7
    · iexact H7
  isplitl [H8]
  · iexists _; isplitr
    · ipureintro; exact g8
    · iexact H8
  isplitl [HS0]
  · iexists _; isplitr
    rotate_left
    · iexact HS0
    · ipureintro
      refine (read_allK _ _ ((fun E => maskedK (arg4.view.read _ f0) (arg5.view.read _ f1) (arg6.view.read _ f2) (arg7.view.read _ f3) (arg8.view.read _ f4) (arg9.view.read _ f5) E (wordQ i T0) (wordK i T1)) _) _).trans ?_
      refine congrArg (fun E => maskedK (arg4.view.read _ f0) (arg5.view.read _ f1) (arg6.view.read _ f2) (arg7.view.read _ f3) (arg8.view.read _ f4) (arg9.view.read _ f5) E (wordQ i T0) (wordK i T1)) ?_
      exact read_allK _ _ _ _
  · iexists _; isplitr
    rotate_left
    · iexact HS1
    · ipureintro
      refine (read_allV _ _ ((fun E => maskedV (arg4.view.read _ f0) (arg5.view.read _ f1) (arg7.view.read _ f3) (arg8.view.read _ f4) E (wordQ i T0) (wordK i T1)) _) _).trans ?_
      refine congrArg (fun E => maskedV (arg4.view.read _ f0) (arg5.view.read _ f1) (arg7.view.read _ f3) (arg8.view.read _ f4) E (wordQ i T0) (wordK i T1)) ?_
      exact read_allV _ _ _ _

set_option backward.proofsInPublic true in
set_option maxHeartbeats 8000000 in
/-- A diagonal tile before the last query block: the accumulators are zeroed and a masked tile is added. -/
theorem run_diagonal
    (hw : k0_chk1 (wordQ i T0) (wordK i T1)) (h1 : ¬k0_cond1 i = 1#1) (h2 : diagonal (wordQ i T0) (wordK i T1))
    (h3 : k0_cond3 (wordQ i T0) (wordK i T1) = 1#1) (h4 : ¬k0_cond4 (wordQ i T0) (wordK i T1) = 1#1) (h5 : ¬k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d D (wordQ i T0) (wordK i T1) hw h3)
      (maskedK q k v o l d (k0_pay2 (F := Bits)) (wordQ i T0) (wordK i T1)) (maskedV q k o l (k0_pay3 (F := Bits)) (wordQ i T0) (wordK i T1))
      X Y := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Bits) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Bits) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Bits) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Bits) (wordK i T1)) (k0_pay17 (F := Bits) (wordQ i T0)) (k0_pay18 (F := Bits) (wordQ i T0) (wordK i T1)) 112#32 (take (arg9.view.read _ f5) loS) (take E (Rect.unit (s := S8320x256) (k0_off2 (wordQ i T0)) S256x256.size (k0_off2_inb _ _ hw h3)))) E) ?_
      exact rfl
  isplitl [H7]
  · iexists _; isplitr
    · ipureintro; exact g7
    · iexact H7
  isplitl [H8]
  · iexists _; isplitr
    · ipureintro; exact g8
    · iexact H8
  isplitl [HS0]
  · iexists _; isplitr
    rotate_left
    · iexact HS0
    · ipureintro
      refine (read_allK _ _ ((fun E => maskedK (arg4.view.read _ f0) (arg5.view.read _ f1) (arg6.view.read _ f2) (arg7.view.read _ f3) (arg8.view.read _ f4) (arg9.view.read _ f5) E (wordQ i T0) (wordK i T1)) _) _).trans ?_
      refine congrArg (fun E => maskedK (arg4.view.read _ f0) (arg5.view.read _ f1) (arg6.view.read _ f2) (arg7.view.read _ f3) (arg8.view.read _ f4) (arg9.view.read _ f5) E (wordQ i T0) (wordK i T1)) ?_
      exact read_allK _ _ _ _
  · iexists _; isplitr
    rotate_left
    · iexact HS1
    · ipureintro
      refine (read_allV _ _ ((fun E => maskedV (arg4.view.read _ f0) (arg5.view.read _ f1) (arg7.view.read _ f3) (arg8.view.read _ f4) E (wordQ i T0) (wordK i T1)) _) _).trans ?_
      refine congrArg (fun E => maskedV (arg4.view.read _ f0) (arg5.view.read _ f1) (arg7.view.read _ f3) (arg8.view.read _ f4) E (wordQ i T0) (wordK i T1)) ?_
      exact read_allV _ _ _ _

set_option backward.proofsInPublic true in
set_option maxHeartbeats 8000000 in
/-- A tile of the first key block under the diagonal: masked, the accumulators carried on. -/
theorem run_pads
    (hw : k0_chk1 (wordQ i T0) (wordK i T1)) (h1 : ¬k0_cond1 i = 1#1) (h2 : ¬diagonal (wordQ i T0) (wordK i T1))
    (h3 : k0_cond3 (wordQ i T0) (wordK i T1) = 1#1) (h4 : ¬k0_cond4 (wordQ i T0) (wordK i T1) = 1#1) (h5 : ¬k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d D (wordQ i T0) (wordK i T1) hw h3)
      (maskedK q k v o l d A (wordQ i T0) (wordK i T1)) (maskedV q k o l B (wordQ i T0) (wordK i T1))
      X Y := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Bits) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Bits) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Bits) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Bits) (wordK i T1)) (k0_pay17 (F := Bits) (wordQ i T0)) (k0_pay18 (F := Bits) (wordQ i T0) (wordK i T1)) 112#32 (take (arg9.view.read _ f5) loS) (take E (Rect.unit (s := S8320x256) (k0_off2 (wordQ i T0)) S256x256.size (k0_off2_inb _ _ hw h3)))) E) ?_
      exact rfl
  isplitl [H7]
  · iexists _; isplitr
    · ipureintro; exact g7
    · iexact H7
  isplitl [H8]
  · iexists _; isplitr
    · ipureintro; exact g8
    · iexact H8
  isplitl [HS0]
  · iexists _; isplitr
    rotate_left
    · iexact HS0
    · ipureintro
      exact read_allK _ _ ((fun E => maskedK (arg4.view.read _ f0) (arg5.view.read _ f1) (arg6.view.read _ f2) (arg7.view.read _ f3) (arg8.view.read _ f4) (arg9.view.read _ f5) E (wordQ i T0) (wordK i T1)) _) _
  · iexists _; isplitr
    rotate_left
    · iexact HS1
    · ipureintro
      exact read_allV _ _ ((fun E => maskedV (arg4.view.read _ f0) (arg5.view.read _ f1) (arg7.view.read _ f3) (arg8.view.read _ f4) E (wordQ i T0) (wordK i T1)) _) _

set_option backward.proofsInPublic true in
set_option maxHeartbeats 8000000 in
/-- An unmasked tile before the last query block. -/
theorem run_plain
    (hw : k0_chk1 (wordQ i T0) (wordK i T1)) (h1 : ¬k0_cond1 i = 1#1) (h2 : ¬diagonal (wordQ i T0) (wordK i T1))
    (h3 : ¬k0_cond3 (wordQ i T0) (wordK i T1) = 1#1) (h4 : k0_cond4 (wordQ i T0) (wordK i T1) = 1#1) (h5 : ¬k0_cond5 (wordQ i T0) = 1#1) :
    Takes c i arg4 harg4 arg5 harg5 arg6 harg6 arg7 harg7 arg8 harg8 arg9 harg9 arg10 harg10 arg11 harg11 arg12 harg12 T0 T1 q k v o l d
      D A B X Y (plainQ q k v o l d D (wordQ i T0) (wordK i T1) hw h4)
      (plainK q k v o l d A) (plainV q k o l B)
      X Y := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off5 (wordQ i T0)) S384x256.size (k0_off5_inb _ _ hw h4)) (k0_pay6 (F := Bits) (k0_pay31 (take (arg5.view.read _ f1) allK)) (k0_pay43 (k0_pay33 (take (arg5.view.read _ f1) allK) (take (arg4.view.read _ f0) hiK)) (k0_pay35 (take (arg6.view.read _ f2) allV) (take (arg7.view.read _ f3) hiV)) (take (arg8.view.read _ f4) hiS) (take (arg9.view.read _ f5) hiS)) (take E (Rect.unit (s := S8320x256) (k0_off5 (wordQ i T0)) S384x256.size (k0_off5_inb _ _ hw h4)))) E) ?_
      refine (read_writes_put _ _ _ _ _).trans ?_
      refine congrArg (fun E => put (Rect.unit (s := S8320x256) (k0_off4 (wordQ i T0)) S256x256.size (k0_off4_inb _ _ hw h4)) (k0_pay40 (F := Bits) (k0_pay31 (take (arg5.view.read _ f1) allK)) (k0_pay34 (take (arg6.view.read _ f2) allV) (take (arg7.view.read _ f3) loV)) (k0_pay36 (take (arg5.view.read _ f1) allK) (take (arg4.view.read _ f0) loK) (take (arg8.view.read _ f4) loS)) (k0_pay38 (take (arg9.view.read _ f5) loS)) (take E (Rect.unit (s := S8320x256) (k0_off4 (wordQ i T0)) S256x256.size (k0_off4_inb _ _ hw h4)))) E) ?_
      exact rfl
  isplitl [H7]
  · iexists _; isplitr
    · ipureintro; exact g7
    · iexact H7
  isplitl [H8]
  · iexists _; isplitr
    · ipureintro; exact g8
    · iexact H8
  isplitl [HS0]
  · iexists _; isplitr
    rotate_left
    · iexact HS0
    · ipureintro
      exact read_allK _ _ ((fun E => plainK (arg4.view.read _ f0) (arg5.view.read _ f1) (arg6.view.read _ f2) (arg7.view.read _ f3) (arg8.view.read _ f4) (arg9.view.read _ f5) E) _) _
  · iexists _; isplitr
    rotate_left
    · iexact HS1
    · ipureintro
      exact read_allV _ _ ((fun E => plainV (arg4.view.read _ f0) (arg5.view.read _ f1) (arg7.view.read _ f3) (arg8.view.read _ f4) E) _) _

end Runs

end Cert.Kernel.Bwd

end
-- ==== Proof.BitsRuns2.lean ====
module

public import proofs.«01_k».proof.Proof.BitsBody

@[expose] public section

/-! # The body along the three paths that write a key block out. -/

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

section Runs

variable (c : Dev nD) (i : grid0.Coords)
variable (arg4 : Memref sig .tc .vmem S640x256 .bf16) (harg4 : arg4.IsWhole) (arg5 : Memref sig .tc .vmem S640x256 .bf16) (harg5 : arg5.IsWhole)
variable (arg6 : Memref sig .tc .vmem S640x128 .bf16) (harg6 : arg6.IsWhole) (arg7 : Memref sig .tc .vmem S640x128 .bf16) (harg7 : arg7.IsWhole)
variable (arg8 : Memref sig .tc .vmem S1x1x640 .f32) (harg8 : arg8.IsWhole) (arg9 : Memref sig .tc .vmem S1x1x640 .f32) (harg9 : arg9.IsWhole)
variable (arg10 : Memref sig .tc .vmem S8320x256 .f32) (harg10 : arg10.IsWhole) (arg11 : Memref sig .tc .vmem S640x256 .f32) (harg11 : arg11.IsWhole)
variable (arg12 : Memref sig .tc .vmem S640x128 .f32) (harg12 : arg12.IsWhole) (T0 T1 : S91.Idx → BitVec 32)
variable (q k : S640x256.Idx → Elt Bits .bf16) (v o : S640x128.Idx → Elt Bits .bf16) (l d : S1x1x640.Idx → Elt Bits .f32)
variable (D : S8320x256.Idx → Elt Bits .f32) (A : S640x256.Idx → Elt Bits .f32) (B : S640x128.Idx → Elt Bits .f32)
variable (X : S640x256.Idx → Elt Bits .f32) (Y : S640x128.Idx → Elt Bits .f32)

set_option backward.proofsInPublic true in
set_option maxHeartbeats 8000000 in
/-- The last diagonal tile: as a diagonal tile, and the key block's gradients are written out. -/
theorem run_corner
    (hw : k0_chk1 (wordQ i T0) (wordK i T1)) (h1 : ¬k0_cond1 i = 1#1) (h2 : diagonal (wordQ i T0) (wordK i T1))
    (h3 : k0_cond3 (wordQ i T0) (wordK i T1) = 1#1) (h4 : ¬k0_cond4 (wordQ i T0) (wordK i T1) = 1#1) (h5 : k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d D (wordQ i T0) (wordK i T1) hw h3)
      (maskedK q k v o l d (k0_pay2 (F := Bits)) (wordQ i T0) (wordK i T1)) (maskedV q k o l (k0_pay3 (F := Bits)) (wordQ i T0) (wordK i T1))
      (k0_pay9 (maskedK q k v o l d (k0_pay2 (F := Bits)) (wordQ i T0) (wordK i T1))) (maskedV q k o l (k0_pay3 (F := Bits)) (wordQ i T0) (wordK i T1)) := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Bits) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Bits) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Bits) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Bits) (wordK i T1)) (k0_pay17 (F := Bits) (wordQ i T0)) (k0_pay18 (F := Bits) (wordQ i T0) (wordK i T1)) 112#32 (take (arg9.view.read _ f5) loS) (take E (Rect.unit (s := S8320x256) (k0_off2 (wordQ i T0)) S256x256.size (k0_off2_inb _ _ hw h3)))) E) ?_
      exact rfl
  isplitl [H7]
  · iexists _; isplitr
    rotate_left
    · iexact H7
    · ipureintro
      refine (read_allK _ _ _ _).trans ?_
      refine congrArg (fun E => k0_pay9 (F := Bits) E) ?_
      refine (View.readCov_cons_toLoadRect accK.view allK ((fun E => maskedK (arg4.view.read _ f0) (arg5.view.read _ f1) (arg6.view.read _ f2) (arg7.view.read _ f3) (arg8.view.read _ f4) (arg9.view.read _ f5) E (wordQ i T0) (wordK i T1)) _) _).trans ?_
      refine congrArg (fun E => maskedK (arg4.view.read _ f0) (arg5.view.read _ f1) (arg6.view.read _ f2) (arg7.view.read _ f3) (arg8.view.read _ f4) (arg9.view.read _ f5) E (wordQ i T0) (wordK i T1)) ?_
      exact read_allK _ _ _ _
  isplitl [H8]
  · iexists _; isplitr
    rotate_left
    · iexact H8
    · ipureintro
      refine (read_allV _ _ _ _).trans ?_
      refine (View.readCov_cons_toLoadRect accV.view allV ((fun E => maskedV (arg4.view.read _ f0) (arg5.view.read _ f1) (arg7.view.read _ f3) (arg8.view.read _ f4) E (wordQ i T0) (wordK i T1)) _) _).trans ?_
      refine congrArg (fun E => maskedV (arg4.view.read _ f0) (arg5.view.read _ f1) (arg7.view.read _ f3) (arg8.view.read _ f4) E (wordQ i T0) (wordK i T1)) ?_
      exact read_allV _ _ _ _
  isplitl [HS0]
  · iexists _; isplitr
    rotate_left
    · iexact HS0
    · ipureintro
      refine (read_allK _ _ ((fun E => maskedK (arg4.view.read _ f0) (arg5.view.read _ f1) (arg6.view.read _ f2) (arg7.view.read _ f3) (arg8.view.read _ f4) (arg9.view.read _ f5) E (wordQ i T0) (wordK i T1)) _) _).trans ?_
      refine congrArg (fun E => maskedK (arg4.view.read _ f0) (arg5.view.read _ f1) (arg6.view.read _ f2) (arg7.view.read _ f3) (arg8.view.read _ f4) (arg9.view.read _ f5) E (wordQ i T0) (wordK i T1)) ?_
      exact read_allK _ _ _ _
  · iexists _; isplitr
    rotate_left
    · iexact HS1
    · ipureintro
      refine (read_allV _ _ ((fun E => maskedV (arg4.view.read _ f0) (arg5.view.read _ f1) (arg7.view.read _ f3) (arg8.view.read _ f4) E (wordQ i T0) (wordK i T1)) _) _).trans ?_
      refine congrArg (fun E => maskedV (arg4.view.read _ f0) (arg5.view.read _ f1) (arg7.view.read _ f3) (arg8.view.read _ f4) E (wordQ i T0) (wordK i T1)) ?_
      exact read_allV _ _ _ _

set_option backward.proofsInPublic true in
set_option maxHeartbeats 8000000 in
/-- The last tile of the first key block: masked, and the key block's gradients are written out. -/
theorem run_pads_last
    (hw : k0_chk1 (wordQ i T0) (wordK i T1)) (h1 : ¬k0_cond1 i = 1#1) (h2 : ¬diagonal (wordQ i T0) (wordK i T1))
    (h3 : k0_cond3 (wordQ i T0) (wordK i T1) = 1#1) (h4 : ¬k0_cond4 (wordQ i T0) (wordK i T1) = 1#1) (h5 : k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d D (wordQ i T0) (wordK i T1) hw h3)
      (maskedK q k v o l d A (wordQ i T0) (wordK i T1)) (maskedV q k o l B (wordQ i T0) (wordK i T1))
      (k0_pay9 (maskedK q k v o l d A (wordQ i T0) (wordK i T1))) (maskedV q k o l B (wordQ i T0) (wordK i T1)) := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Bits) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Bits) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Bits) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Bits) (wordK i T1)) (k0_pay17 (F := Bits) (wordQ i T0)) (k0_pay18 (F := Bits) (wordQ i T0) (wordK i T1)) 112#32 (take (arg9.view.read _ f5) loS) (take E (Rect.unit (s := S8320x256) (k0_off2 (wordQ i T0)) S256x256.size (k0_off2_inb _ _ hw h3)))) E) ?_
      exact rfl
  isplitl [H7]
  · iexists _; isplitr
    rotate_left
    · iexact H7
    · ipureintro
      refine (read_allK _ _ _ _).trans ?_
      refine congrArg (fun E => k0_pay9 (F := Bits) E) ?_
      exact View.readCov_cons_toLoadRect accK.view allK ((fun E => maskedK (arg4.view.read _ f0) (arg5.view.read _ f1) (arg6.view.read _ f2) (arg7.view.read _ f3) (arg8.view.read _ f4) (arg9.view.read _ f5) E (wordQ i T0) (wordK i T1)) _) _
  isplitl [H8]
  · iexists _; isplitr
    rotate_left
    · iexact H8
    · ipureintro
      refine (read_allV _ _ _ _).trans ?_
      exact View.readCov_cons_toLoadRect accV.view allV ((fun E => maskedV (arg4.view.read _ f0) (arg5.view.read _ f1) (arg7.view.read _ f3) (arg8.view.read _ f4) E (wordQ i T0) (wordK i T1)) _) _
  isplitl [HS0]
  · iexists _; isplitr
    rotate_left
    · iexact HS0
    · ipureintro
      exact read_allK _ _ ((fun E => maskedK (arg4.view.read _ f0) (arg5.view.read _ f1) (arg6.view.read _ f2) (arg7.view.read _ f3) (arg8.view.read _ f4) (arg9.view.read _ f5) E (wordQ i T0) (wordK i T1)) _) _
  · iexists _; isplitr
    rotate_left
    · iexact HS1
    · ipureintro
      exact read_allV _ _ ((fun E => maskedV (arg4.view.read _ f0) (arg5.view.read _ f1) (arg7.view.read _ f3) (arg8.view.read _ f4) E (wordQ i T0) (wordK i T1)) _) _

set_option backward.proofsInPublic true in
set_option maxHeartbeats 8000000 in
/-- The last unmasked tile of a key block: its gradients are written out. -/
theorem run_plain_last
    (hw : k0_chk1 (wordQ i T0) (wordK i T1)) (h1 : ¬k0_cond1 i = 1#1) (h2 : ¬diagonal (wordQ i T0) (wordK i T1))
    (h3 : ¬k0_cond3 (wordQ i T0) (wordK i T1) = 1#1) (h4 : k0_cond4 (wordQ i T0) (wordK i T1) = 1#1) (h5 : k0_cond5 (wordQ i T0) = 1#1) :
    Takes c i arg4 harg4 arg5 harg5 arg6 harg6 arg7 harg7 arg8 harg8 arg9 harg9 arg10 harg10 arg11 harg11 arg12 harg12 T0 T1 q k v o l d
      D A B X Y (plainQ q k v o l d D (wordQ i T0) (wordK i T1) hw h4)
      (plainK q k v o l d A) (plainV q k o l B)
      (k0_pay9 (plainK q k v o l d A)) (plainV q k o l B) := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off5 (wordQ i T0)) S384x256.size (k0_off5_inb _ _ hw h4)) (k0_pay6 (F := Bits) (k0_pay31 (take (arg5.view.read _ f1) allK)) (k0_pay43 (k0_pay33 (take (arg5.view.read _ f1) allK) (take (arg4.view.read _ f0) hiK)) (k0_pay35 (take (arg6.view.read _ f2) allV) (take (arg7.view.read _ f3) hiV)) (take (arg8.view.read _ f4) hiS) (take (arg9.view.read _ f5) hiS)) (take E (Rect.unit (s := S8320x256) (k0_off5 (wordQ i T0)) S384x256.size (k0_off5_inb _ _ hw h4)))) E) ?_
      refine (read_writes_put _ _ _ _ _).trans ?_
      refine congrArg (fun E => put (Rect.unit (s := S8320x256) (k0_off4 (wordQ i T0)) S256x256.size (k0_off4_inb _ _ hw h4)) (k0_pay40 (F := Bits) (k0_pay31 (take (arg5.view.read _ f1) allK)) (k0_pay34 (take (arg6.view.read _ f2) allV) (take (arg7.view.read _ f3) loV)) (k0_pay36 (take (arg5.view.read _ f1) allK) (take (arg4.view.read _ f0) loK) (take (arg8.view.read _ f4) loS)) (k0_pay38 (take (arg9.view.read _ f5) loS)) (take E (Rect.unit (s := S8320x256) (k0_off4 (wordQ i T0)) S256x256.size (k0_off4_inb _ _ hw h4)))) E) ?_
      exact rfl
  isplitl [H7]
  · iexists _; isplitr
    rotate_left
    · iexact H7
    · ipureintro
      refine (read_allK _ _ _ _).trans ?_
      refine congrArg (fun E => k0_pay9 (F := Bits) E) ?_
      exact View.readCov_cons_toLoadRect accK.view allK ((fun E => plainK (arg4.view.read _ f0) (arg5.view.read _ f1) (arg6.view.read _ f2) (arg7.view.read _ f3) (arg8.view.read _ f4) (arg9.view.read _ f5) E) _) _
  isplitl [H8]
  · iexists _; isplitr
    rotate_left
    · iexact H8
    · ipureintro
      refine (read_allV _ _ _ _).trans ?_
      exact View.readCov_cons_toLoadRect accV.view allV ((fun E => plainV (arg4.view.read _ f0) (arg5.view.read _ f1) (arg7.view.read _ f3) (arg8.view.read _ f4) E) _) _
  isplitl [HS0]
  · iexists _; isplitr
    rotate_left
    · iexact HS0
    · ipureintro
      exact read_allK _ _ ((fun E => plainK (arg4.view.read _ f0) (arg5.view.read _ f1) (arg6.view.read _ f2) (arg7.view.read _ f3) (arg8.view.read _ f4) (arg9.view.read _ f5) E) _) _
  · iexists _; isplitr
    rotate_left
    · iexact HS1
    · ipureintro
      exact read_allV _ _ ((fun E => plainV (arg4.view.read _ f0) (arg5.view.read _ f1) (arg7.view.read _ f3) (arg8.view.read _ f4) E) _) _

end Runs

end Cert.Kernel.Bwd

end
-- ==== Proof.BitsTile.lean ====
module

public import proofs.«01_k».proof.Proof.BitsFacts
public import proofs.«01_k».proof.Proof.BitsRuns1
public import proofs.«01_k».proof.Proof.BitsRuns2

@[expose] public section

/-!
# One point of the grid

What the body leaves at a point in the query gradient's block and in the two accumulators, whichever path it takes, and the run
of the body at the point.
-/

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev ms0 (t : Fin cfgA.N) : Memref sig .tc .vmem S640x256 .bf16 := spec0_0.stage (cfgA.slots t (0 : Fin 9))
abbrev hs0 (t : Fin cfgA.N) : (ms0 t).IsWhole := hstage0_0 ((cfgA.slots t (0 : Fin 9)).cast nbuf0_0)
abbrev ms1 (t : Fin cfgA.N) : Memref sig .tc .vmem S640x256 .bf16 := spec0_1.stage (cfgA.slots t (1 : Fin 9))
abbrev hs1 (t : Fin cfgA.N) : (ms1 t).IsWhole := hstage0_1 ((cfgA.slots t (1 : Fin 9)).cast nbuf0_1)
abbrev ms2 (t : Fin cfgA.N) : Memref sig .tc .vmem S640x128 .bf16 := spec0_2.stage (cfgA.slots t (2 : Fin 9))
abbrev hs2 (t : Fin cfgA.N) : (ms2 t).IsWhole := hstage0_2 ((cfgA.slots t (2 : Fin 9)).cast nbuf0_2)
abbrev ms3 (t : Fin cfgA.N) : Memref sig .tc .vmem S640x128 .bf16 := spec0_3.stage (cfgA.slots t (3 : Fin 9))
abbrev hs3 (t : Fin cfgA.N) : (ms3 t).IsWhole := hstage0_3 ((cfgA.slots t (3 : Fin 9)).cast nbuf0_3)
abbrev ms4 (t : Fin cfgA.N) : Memref sig .tc .vmem S1x1x640 .f32 := spec0_4.stage (cfgA.slots t (4 : Fin 9))
abbrev hs4 (t : Fin cfgA.N) : (ms4 t).IsWhole := hstage0_4 ((cfgA.slots t (4 : Fin 9)).cast nbuf0_4)
abbrev ms5 (t : Fin cfgA.N) : Memref sig .tc .vmem S1x1x640 .f32 := spec0_5.stage (cfgA.slots t (5 : Fin 9))
abbrev hs5 (t : Fin cfgA.N) : (ms5 t).IsWhole := hstage0_5 ((cfgA.slots t (5 : Fin 9)).cast nbuf0_5)
abbrev ms6 (t : Fin cfgA.N) : Memref sig .tc .vmem S8320x256 .f32 := spec0_6.stage (cfgA.slots t (6 : Fin 9))
abbrev hs6 (t : Fin cfgA.N) : (ms6 t).IsWhole := hstage0_6 ((cfgA.slots t (6 : Fin 9)).cast nbuf0_6)
abbrev ms7 (t : Fin cfgA.N) : Memref sig .tc .vmem S640x256 .f32 := spec0_7.stage (cfgA.slots t (7 : Fin 9))
abbrev hs7 (t : Fin cfgA.N) : (ms7 t).IsWhole := hstage0_7 ((cfgA.slots t (7 : Fin 9)).cast nbuf0_7)
abbrev ms8 (t : Fin cfgA.N) : Memref sig .tc .vmem S640x128 .f32 := spec0_8.stage (cfgA.slots t (8 : Fin 9))
abbrev hs8 (t : Fin cfgA.N) : (ms8 t).IsWhole := hstage0_8 ((cfgA.slots t (8 : Fin 9)).cast nbuf0_8)

section Tile

variable (t : Fin cfgA.N)
variable (q k : S640x256.Idx → Elt Bits .bf16) (v o : S640x128.Idx → Elt Bits .bf16) (l d : S1x1x640.Idx → Elt Bits .f32)
variable (D : S8320x256.Idx → Elt Bits .f32) (A : S640x256.Idx → Elt Bits .f32) (B : S640x128.Idx → Elt Bits .f32)

/-- The query gradient's block as the point's tile finds it, after the head's first point zeroed it, -/
def startD : S8320x256.Idx → Elt Bits .f32 := if k0_cond1 (crd t) = 1#1 then k0_pay1 (F := Bits) else D
/-- and the two accumulators, after a diagonal tile zeroed them. -/
def startA : S640x256.Idx → Elt Bits .f32 := if diagonal (uQ t) (uK t) then k0_pay2 (F := Bits) else A
def startB : S640x128.Idx → Elt Bits .f32 := if diagonal (uQ t) (uK t) then k0_pay3 (F := Bits) else B

/-- What the point leaves in the query gradient's block, -/
def tileD : S8320x256.Idx → Elt Bits .f32 :=
  if h : k0_cond3 (uQ t) (uK t) = 1#1 then maskedQ q k v o l d (startD t D) (uQ t) (uK t) (facts t).1 h
  else plainQ q k v o l d (startD t D) (uQ t) (uK t) (facts t).1 ((facts t).2.2.2.2.1 h)
/-- in the key gradient's accumulator -/
def tileA : S640x256.Idx → Elt Bits .f32 :=
  if k0_cond3 (uQ t) (uK t) = 1#1 then maskedK q k v o l d (startA t A) (uQ t) (uK t) else plainK q k v o l d (startA t A)
/-- and in the value gradient's. -/
def tileB : S640x128.Idx → Elt Bits .f32 :=
  if k0_cond3 (uQ t) (uK t) = 1#1 then maskedV q k o l (startB t B) (uQ t) (uK t) else plainV q k o l (startB t B)

variable (c : Dev nD) (X : S640x256.Idx → Elt Bits .f32) (Y : S640x128.Idx → Elt Bits .f32)

set_option backward.proofsInPublic true in
/-- The body's run at a point, where it writes the key block's gradients out. -/
theorem takes_out (h5 : k0_cond5 (uQ t) = 1#1) :
    Takes c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y
      (tileD t q k v o l d D) (tileA t q k v o l d A) (tileB t q k o l B) (k0_pay9 (F := Bits) (tileA t q k v o l d A)) (tileB t q k o l B) := by
  obtain ⟨hw, hf1, hf2, hf3, hf4, -⟩ := facts t
  have h1 : ¬k0_cond1 (crd t) = 1#1 := fun h => (hf1 h).2 h5
  unfold tileD tileA tileB startD startA startB
  by_cases h3 : k0_cond3 (uQ t) (uK t) = 1#1
  · simp only [dif_pos h3, if_pos h3, if_neg h1]
    by_cases h2 : diagonal (uQ t) (uK t)
    · simp only [if_pos h2]
      exact run_corner c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
    · simp only [if_neg h2]
      exact run_pads_last c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
  · have h2 : ¬diagonal (uQ t) (uK t) := fun h => h3 (hf2 h)
    simp only [dif_neg h3, if_neg h3, if_neg h1, if_neg h2]
    exact run_plain_last c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf4 h3) h5

set_option backward.proofsInPublic true in
/-- The body's run at a point that leaves the key block's gradients to a later one. -/
theorem takes_on (h5 : ¬k0_cond5 (uQ t) = 1#1) :
    Takes c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y
      (tileD t q k v o l d D) (tileA t q k v o l d A) (tileB t q k o l B) X Y := by
  obtain ⟨hw, hf1, hf2, hf3, hf4, -⟩ := facts t
  unfold tileD tileA tileB startD startA startB
  by_cases h3 : k0_cond3 (uQ t) (uK t) = 1#1
  · simp only [dif_pos h3, if_pos h3]
    by_cases h2 : diagonal (uQ t) (uK t)
    · simp only [if_pos h2]
      by_cases h1 : k0_cond1 (crd t) = 1#1
      · simp only [if_pos h1]
        exact run_first c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
      · simp only [if_neg h1]
        exact run_diagonal c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
    · have h1 : ¬k0_cond1 (crd t) = 1#1 := fun h => h2 (hf1 h).1
      simp only [if_neg h2, if_neg h1]
      exact run_pads c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
  · have h2 : ¬diagonal (uQ t) (uK t) := fun h => h3 (hf2 h)
    have h1 : ¬k0_cond1 (crd t) = 1#1 := fun h => h2 (hf1 h).1
    simp only [dif_neg h3, if_neg h3, if_neg h1, if_neg h2]
    exact run_plain c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf4 h3) h5

end Tile

end Cert.Kernel.Bwd

end
-- ==== Proof.BitsData.lean ====
module

public import proofs.«01_k».proof.Proof.BitsTile

@[expose] public section

/-!
# The run of the grid

The contents of the query gradient's block and of the two accumulators before each point, the pipeline's proof data over them,
and the body's obligation at every point.
-/

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (c : Dev nD)

/-- The buffers when the grid begins: after the host's lines. -/
def entry (b : Ref sig .tc) : Buf (Elt Bits) ((c.tc : Thread nD τ).loc b) := StableHlo.after hostOps0 (fun b => m (c, b)) b

/-- Window 0's block at a point. -/
def blk0 (t : Fin cfgA.N) : S640x256.Idx → Elt Bits .bf16 := ((cfgA.win (0 : Fin 9)).blk t).view.read (Elt Bits) (entry m c (Pipeline.arrRef spec0 (0 : Fin 9)))
def blk1 (t : Fin cfgA.N) : S640x256.Idx → Elt Bits .bf16 := ((cfgA.win (1 : Fin 9)).blk t).view.read (Elt Bits) (entry m c (Pipeline.arrRef spec0 (1 : Fin 9)))
def blk2 (t : Fin cfgA.N) : S640x128.Idx → Elt Bits .bf16 := ((cfgA.win (2 : Fin 9)).blk t).view.read (Elt Bits) (entry m c (Pipeline.arrRef spec0 (2 : Fin 9)))
def blk3 (t : Fin cfgA.N) : S640x128.Idx → Elt Bits .bf16 := ((cfgA.win (3 : Fin 9)).blk t).view.read (Elt Bits) (entry m c (Pipeline.arrRef spec0 (3 : Fin 9)))
def blk4 (t : Fin cfgA.N) : S1x1x640.Idx → Elt Bits .f32 := ((cfgA.win (4 : Fin 9)).blk t).view.read (Elt Bits) (entry m c (Pipeline.arrRef spec0 (4 : Fin 9)))
def blk5 (t : Fin cfgA.N) : S1x1x640.Idx → Elt Bits .f32 := ((cfgA.win (5 : Fin 9)).blk t).view.read (Elt Bits) (entry m c (Pipeline.arrRef spec0 (5 : Fin 9)))

/-- The query gradient's block and the two accumulators. -/
abbrev St : Type := (S8320x256.Idx → Elt Bits .f32) × (S640x256.Idx → Elt Bits .f32) × (S640x128.Idx → Elt Bits .f32)

/-- What a point makes of them. -/
def step (t : Fin cfgA.N) (s : St) : St :=
  (tileD t (blk0 m c t) (blk1 m c t) (blk2 m c t) (blk3 m c t) (blk4 m c t) (blk5 m c t) s.1, tileA t (blk0 m c t) (blk1 m c t) (blk2 m c t) (blk3 m c t) (blk4 m c t) (blk5 m c t) s.2.1, tileB t (blk0 m c t) (blk1 m c t) (blk3 m c t) (blk4 m c t) s.2.2)

/-- What they hold before the `n`-th point (before the first, anything). -/
def traj : ℕ → St
  | 0 => (k0_pay1 (F := Bits), k0_pay2 (F := Bits), k0_pay3 (F := Bits))
  | n + 1 => if h : n < cfgA.N then step m c ⟨n, h⟩ (traj n) else traj n

theorem traj_succ (t : Fin cfgA.N) : traj m c (t.val + 1) = step m c t (traj m c t.val) := by
  rw [traj, dif_pos t.isLt]

/-- A point reads of the query gradient's block and the accumulators only what it did not zero. -/
theorem step_congr (t : Fin cfgA.N) (s : St) (D A B) (hD : ¬k0_cond1 (crd t) = 1#1 → D = s.1)
    (hA : ¬diagonal (uQ t) (uK t) → A = s.2.1) (hB : ¬diagonal (uQ t) (uK t) → B = s.2.2) :
    (tileD t (blk0 m c t) (blk1 m c t) (blk2 m c t) (blk3 m c t) (blk4 m c t) (blk5 m c t) D, tileA t (blk0 m c t) (blk1 m c t) (blk2 m c t) (blk3 m c t) (blk4 m c t) (blk5 m c t) A, tileB t (blk0 m c t) (blk1 m c t) (blk3 m c t) (blk4 m c t) B) = step m c t s := by
  have e1 : startD t D = startD t s.1 := by
    unfold startD; split
    · rfl
    · rename_i h; exact hD h
  have e2 : startA t A = startA t s.2.1 := by
    unfold startA; split
    · rfl
    · rename_i h; exact hA h
  have e3 : startB t B = startB t s.2.2 := by
    unfold startB; split
    · rfl
    · rename_i h; exact hB h
  unfold step tileD tileA tileB
  rw [e1, e2, e3]

/-- Between points: the accumulators, the body's halves of the tables, the generator's register. -/
def Phi (n : ℕ) : sProp 𝕄 :=
  iprop((∃ A B, ⌜n ≠ 0 → A = (traj m c n).2.1 ∧ B = (traj m c n).2.2⌝ ∗ owns (c : Thread nD τ) accK fullShare A ∗ owns (c : Thread nD τ) accV fullShare B)
    ∗ (tabQ.view.loc (c : Thread nD τ) ↦{fullShare.right} tQ) ∗ (tabK.view.loc (c : Thread nD τ) ↦{fullShare.right} tK) ∗ ∃ r, prngReg c r)

/-- The pipeline's proof data on a core. -/
def dats (_ : Fin 1) (c : Dev nD) : Dat τ (Elt Bits) Unit ℕ (UR sig nD τ) ℕ cfgA c where
  A w := entry m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => (traj m c (t.val + 1)).1
    | ⟨7, _⟩ => k0_pay9 (F := Bits) (traj m c (t.val + 1)).2.1
    | ⟨8, _⟩ => (traj m c (t.val + 1)).2.2
  Φ t := Phi m c t.val
  q _ := fullShare
  owed _ := 0

theorem after0 (t : Fin cfgA.N) : (dats m 0 c).after (0 : Fin 9) t = blk0 m c t := rfl
theorem after1 (t : Fin cfgA.N) : (dats m 0 c).after (1 : Fin 9) t = blk1 m c t := rfl
theorem after2 (t : Fin cfgA.N) : (dats m 0 c).after (2 : Fin 9) t = blk2 m c t := rfl
theorem after3 (t : Fin cfgA.N) : (dats m 0 c).after (3 : Fin 9) t = blk3 m c t := rfl
theorem after4 (t : Fin cfgA.N) : (dats m 0 c).after (4 : Fin 9) t = blk4 m c t := rfl
theorem after5 (t : Fin cfgA.N) : (dats m 0 c).after (5 : Fin 9) t = blk5 m c t := rfl
theorem after6 (t : Fin cfgA.N) : (dats m 0 c).after (6 : Fin 9) t = (traj m c (t.val + 1)).1 := rfl
theorem after7 (t : Fin cfgA.N) : (dats m 0 c).after (7 : Fin 9) t = k0_pay9 (F := Bits) (traj m c (t.val + 1)).2.1 := rfl
theorem after8 (t : Fin cfgA.N) : (dats m 0 c).after (8 : Fin 9) t = (traj m c (t.val + 1)).2.2 := rfl

/-- An input's window holds its block, fetched at the point or before. -/
theorem before0 (t : Fin cfgA.N) (d) : (dats m 0 c).before (0 : Fin 9) t d = blk0 m c t :=
  ((dats m 0 c).before_in_eq_fetched (0 : Fin 9) rfl (fun _ => rfl) (fun _ _ _ => rfl) (fun t => by rw [after0]; unfold Dat.blockOf blk0; rfl) t d).trans
    (by unfold Dat.fetched Dat.blockOf blk0; rfl)
theorem before1 (t : Fin cfgA.N) (d) : (dats m 0 c).before (1 : Fin 9) t d = blk1 m c t :=
  ((dats m 0 c).before_in_eq_fetched (1 : Fin 9) rfl (fun _ => rfl) (fun _ _ _ => rfl) (fun t => by rw [after1]; unfold Dat.blockOf blk1; rfl) t d).trans
    (by unfold Dat.fetched Dat.blockOf blk1; rfl)
theorem before2 (t : Fin cfgA.N) (d) : (dats m 0 c).before (2 : Fin 9) t d = blk2 m c t :=
  ((dats m 0 c).before_in_eq_fetched (2 : Fin 9) rfl (fun _ => rfl) (fun _ _ _ => rfl) (fun t => by rw [after2]; unfold Dat.blockOf blk2; rfl) t d).trans
    (by unfold Dat.fetched Dat.blockOf blk2; rfl)
theorem before3 (t : Fin cfgA.N) (d) : (dats m 0 c).before (3 : Fin 9) t d = blk3 m c t :=
  ((dats m 0 c).before_in_eq_fetched (3 : Fin 9) rfl (fun _ => rfl) (fun _ _ _ => rfl) (fun t => by rw [after3]; unfold Dat.blockOf blk3; rfl) t d).trans
    (by unfold Dat.fetched Dat.blockOf blk3; rfl)
theorem before4 (t : Fin cfgA.N) (d) : (dats m 0 c).before (4 : Fin 9) t d = blk4 m c t :=
  ((dats m 0 c).before_in_eq_fetched (4 : Fin 9) rfl (fun _ => rfl) (fun _ _ _ => rfl) (fun t => by rw [after4]; unfold Dat.blockOf blk4; rfl) t d).trans
    (by unfold Dat.fetched Dat.blockOf blk4; rfl)
theorem before5 (t : Fin cfgA.N) (d) : (dats m 0 c).before (5 : Fin 9) t d = blk5 m c t :=
  ((dats m 0 c).before_in_eq_fetched (5 : Fin 9) rfl (fun _ => rfl) (fun _ _ _ => rfl) (fun t => by rw [after5]; unfold Dat.blockOf blk5; rfl) t d).trans
    (by unfold Dat.fetched Dat.blockOf blk5; rfl)

/-- Past a head's first point the query gradient's window holds what the point before left. -/
theorem before6 (t : Fin cfgA.N) (d) (h : ¬k0_cond1 (crd t) = 1#1) : (dats m 0 c).before (6 : Fin 9) t d = (traj m c t.val).1 := by
  obtain ⟨h0, hf⟩ := (facts t).2.2.2.2.2.2.2.2 h
  have hi : ∀ i, cfgA.idle (6 : Fin 9) i = false := idle6
  rw [(dats m 0 c).before_out_kept (6 : Fin 9) rfl t h0 hf hi (fun _ _ => rfl) d, after6]
  show (traj m c (t.val - 1 + 1)).1 = _
  rw [Nat.sub_add_cancel (Nat.one_le_iff_ne_zero.2 h0)]

/-- The grid's first point is on the diagonal. -/
theorem first_diagonal (t : Fin cfgA.N) (h : ¬diagonal (uQ t) (uK t)) : t.val ≠ 0 :=
  ((facts t).2.2.2.2.2.2.2.2 fun h1 => h ((facts t).2.1 h1).1).1

/-- The body at a point, as the pipeline calls it. -/
abbrev bodyAt (t : Fin cfgA.N) : Prog (TpuEff nD τ sig (Elt Bits) Λ₀ .tc) PUnit :=
  cc0_attn_bwd (crd t) tabQ (Memref.isWhole_whole _) tabK (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accK (Memref.isWhole_whole _) accV (Memref.isWhole_whole _)

set_option maxHeartbeats 9600000 in
/-- The body's obligation at a point. -/
theorem sound_body (t : Fin cfgA.N) :
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := Bits)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  by_cases h5 : k0_cond5 (uQ t) = 1#1
  · obtain ⟨i6, i7, i8⟩ := And.intro (facts t).2.2.2.2.2.1 ((facts t).2.2.2.2.2.2.1 h5)
    rewrite [i6, i7]
    try rewrite [i8]
    simp only [before0, before1, before2, before3, before4, before5, after0, after1, after2, after3, after4, after5, after6, after7, after8]
    rewrite [show (dats m 0 c).Φ t.succ = Phi m c (t.val + 1) from rfl, show (dats m 0 c).Φ t.castSucc = Phi m c t.val from rfl,
      show (dats m 0 c).owesAt () t.succ = (dats m 0 c).owesAt () t.castSucc from rfl]
    unfold Phi
    iintro ⟨⟨⟨%A, %B, %hAB, HA, HB⟩, HT0, HT1, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hs := step_congr m c t (traj m c t.val) ((dats m 0 c).before (6 : Fin 9) t d6) A B (before6 m c t d6)
      (fun h => (hAB (first_diagonal t h)).1) (fun h => (hAB (first_diagonal t h)).2)
    have e1 := congrArg Prod.fst hs
    have e2 := congrArg (fun s => s.2.1) hs
    have e3 := congrArg (fun s => s.2.2) hs
    rw [← traj_succ] at e1 e2 e3
    dsimp only at e1 e2 e3
    rw [← e1, ← e2, ← e3]
    iapply (takes_out t (blk0 m c t) (blk1 m c t) (blk2 m c t) (blk3 m c t) (blk4 m c t) (blk5 m c t) ((dats m 0 c).before (6 : Fin 9) t d6) A B c ((dats m 0 c).before (7 : Fin 9) t d7) ((dats m 0 c).before (8 : Fin 9) t d8) h5 _)
    unfold held
    isplitl [H0 H1 H2 H3 H4 H5 H6 H7 H8 HA HB HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      isplitl [HT1]; · iexact HT1
      isplitl [H6]; · iexact H6
      isplitl [H7]; · iexact H7
      isplitl [H8]; · iexact H8
      isplitl [HA]; · iexact HA
      iexact HB
    iintro ⟨H0, H1, H2, H3, H4, H5, HT0, HT1, H6, H7, H8, HA, HB⟩
    isplitl [HA HB HT0 HT1 Hp]
    · isplitl [HA HB]
      · iexists _; iexists _
        isplitr
        rotate_left
        · isplitl [HA]
          · iexact HA
          · iexact HB
        · ipureintro; exact fun _ => ⟨rfl, rfl⟩
      isplitl [HT0]; · iexact HT0
      isplitl [HT1]; · iexact HT1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨i6, i7, i8, fl7, fl8⟩ := And.intro (facts t).2.2.2.2.2.1 ((facts t).2.2.2.2.2.2.2.1 h5)
    rewrite [i6, i7]
    try rewrite [i8]
    simp only [before0, before1, before2, before3, before4, before5, after0, after1, after2, after3, after4, after5, after6, fl7, fl8]
    rewrite [show (dats m 0 c).Φ t.succ = Phi m c (t.val + 1) from rfl, show (dats m 0 c).Φ t.castSucc = Phi m c t.val from rfl,
      show (dats m 0 c).owesAt () t.succ = (dats m 0 c).owesAt () t.castSucc from rfl]
    unfold Phi
    iintro ⟨⟨⟨%A, %B, %hAB, HA, HB⟩, HT0, HT1, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hs := step_congr m c t (traj m c t.val) ((dats m 0 c).before (6 : Fin 9) t d6) A B (before6 m c t d6)
      (fun h => (hAB (first_diagonal t h)).1) (fun h => (hAB (first_diagonal t h)).2)
    have e1 := congrArg Prod.fst hs
    have e2 := congrArg (fun s => s.2.1) hs
    have e3 := congrArg (fun s => s.2.2) hs
    rw [← traj_succ] at e1 e2 e3
    dsimp only at e1 e2 e3
    rw [← e1, ← e2, ← e3]
    iapply (takes_on t (blk0 m c t) (blk1 m c t) (blk2 m c t) (blk3 m c t) (blk4 m c t) (blk5 m c t) ((dats m 0 c).before (6 : Fin 9) t d6) A B c ((dats m 0 c).before (7 : Fin 9) t d7) ((dats m 0 c).before (8 : Fin 9) t d8) h5 _)
    unfold held
    isplitl [H0 H1 H2 H3 H4 H5 H6 H7 H8 HA HB HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      isplitl [HT1]; · iexact HT1
      isplitl [H6]; · iexact H6
      isplitl [H7]; · iexact H7
      isplitl [H8]; · iexact H8
      isplitl [HA]; · iexact HA
      iexact HB
    iintro ⟨H0, H1, H2, H3, H4, H5, HT0, HT1, H6, H7, H8, HA, HB⟩
    isplitl [HA HB HT0 HT1 Hp]
    · isplitl [HA HB]
      · iexists _; iexists _
        isplitr
        rotate_left
        · isplitl [HA]
          · iexact HA
          · iexact HB
        · ipureintro; exact fun _ => ⟨rfl, rfl⟩
      isplitl [HT0]; · iexact HT0
      isplitl [HT1]; · iexact HT1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists d7; iexact H7
    iexists d8; iexact H8

theorem body_obligation : BodyObligation (dats m 0 c) (defs₀ (F := Bits)) Variants.none () Set.univ := fun t => by
  rw [bigSep_W0]
  exact sound_body m c t

end Cert.Kernel.Bwd

end
-- ==== Proof.BitsLaunch.lean ====
module

public import proofs.«01_k».proof.Proof.BitsData

@[expose] public section

/-!
# The launch

@main from any memory: the host's lines fill the tables, the grid runs, every output array ends as the write-backs leave it and
every other buffer as the host's lines left it.
-/

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (c : Dev nD) (g : Dev nD → PrngReg)

/-- The buffers that the host's lines write, in order. -/
def written : List (Ref sig .tc) :=
  [main_c, main_c_0, main_cst, main_v0, main_v1, main_cst_1, main_v2, main_v3, main_v4, main_v5, main_v6, main_v7,
    main_v8, main_c_2, main_v9, main_v10, main_v11, main_v12, main_v13, main_v14, main_cst_3, main_v15, main_v16,
    main_cst_4, main_v17, main_v18, main_v19, main_v20, main_v21, main_cst_5, main_v22, main_v23, main_v24,
    main_v25, main_v26, main_v27, main_v28, main_v29, main_v30, main_v31, main_v32, main_v33, main_v34, main_v35,
    main_cst_6, main_v36, main_v37, main_v38, main_v39, main_v40, main_v41, main_v42, main_v43, main_v44]

theorem hostOps0_written : (hostOps0 (F := Bits)).map HloOp.writes = written.map fun r => {Proc.devRef (τ := τ) .tc r} := rfl

/-- A buffer that no host line writes keeps its contents. -/
theorem entry_kept (r : Ref sig .tc) (hr : r ∉ written) : entry m c r = m ((c.tc : Thread nD τ).loc r) :=
  StableHlo.after_of_writes_sub hostOps0 _ (StableHlo.forall_writes_sub_of_map hostOps0_written) hr

theorem lit_tabQ : ∀ x : Fin 91, lit0 x = BitVec.ofNat 32 (qOf x.val) := by decide +kernel
theorem lit_tabK : ∀ x : Fin 91, lit1 x = BitVec.ofNat 32 (kOf x.val) := by decide +kernel

/-- The host's lines write the two tables. -/
theorem entry_tabQ : entry m c main_c = tQ := by
  have h : entry m c main_c = fun i => lit0 (S91.rowMajor i) := by
    unfold entry
    simp only [hostOps0, StableHlo.after_cons, StableHlo.after_nil, StableHlo.readResult]
    exact StableHlo.nullary_result ..
  rw [h]
  funext i
  refine (lit_tabQ (S91.rowMajor i)).trans ?_
  rw [show ((S91.rowMajor i : Fin 91) : ℕ) = (i 0).val from Shape.rowMajor_val_one i]
theorem entry_tabK : entry m c main_c_0 = tK := by
  have h : entry m c main_c_0 = fun i => lit1 (S91.rowMajor i) := by
    unfold entry
    simp only [hostOps0, StableHlo.after_cons, StableHlo.after_nil, StableHlo.readResult]
    exact StableHlo.nullary_result ..
  rw [h]
  funext i
  refine (lit_tabK (S91.rowMajor i)).trans ?_
  rw [show ((S91.rowMajor i : Fin 91) : ℕ) = (i 0).val from Shape.rowMajor_val_one i]

theorem entry_tabs (k : Fin 2) : entry m c (pre0.ref k) = tabs k := by
  match k with
  | ⟨0, _⟩ => exact entry_tabQ m c
  | ⟨1, _⟩ => exact entry_tabK m c

/-- No host line writes an argument. -/
theorem entry_arg0 : entry m c main_arg0 = m ((c.tc : Thread nD τ).loc main_arg0) := entry_kept m c main_arg0 (by decide)
theorem entry_arg1 : entry m c main_arg1 = m ((c.tc : Thread nD τ).loc main_arg1) := entry_kept m c main_arg1 (by decide)
theorem entry_arg2 : entry m c main_arg2 = m ((c.tc : Thread nD τ).loc main_arg2) := entry_kept m c main_arg2 (by decide)
theorem entry_arg3 : entry m c main_arg3 = m ((c.tc : Thread nD τ).loc main_arg3) := entry_kept m c main_arg3 (by decide)

theorem prefHeld_eq (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_first : iprop(Pipeline.ΦA (cfgA).spec c ∗ Pipeline.ΦT pre0 adm.1 c) ⊢ (dats m 0 c).Φ 0 := by
  rw [show (dats m 0 c).Φ 0 = Phi m c 0 from rfl]
  unfold Phi Pipeline.ΦA Pipeline.ΦT
  simp only [owns_whole_eq]
  rw [prefHeld_eq, show (Pipeline.scopedRest (Ix := Unit) (Name := ℕ) (U := UR sig nD τ) (Lvl := ℕ) (Val := Elt Bits) cfgA.spec c : sProp 𝕄) = _ from scopedRest0_eq c]
  iintro ⟨⟨⟨⟨%a0, HS0⟩, ⟨%a1, HS1⟩⟩, Hp⟩, HT0, HT1⟩
  isplitl [HS0 HS1]
  · iexists a0; iexists a1
    isplitr
    · ipureintro; exact fun h => absurd rfl h
    isplitl [HS0]
    · iexists a0; isplitr
      · ipureintro; rfl
      · iexact HS0
    · iexists a1; isplitr
      · ipureintro; rfl
      · iexact HS1
  isplitl [HT0]; · iexact HT0
  isplitl [HT1]; · iexact HT1
  iexact Hp

theorem phi_last : (dats m 0 c).Φ (Fin.last cfgA.N) ⊢ (Pipeline.ΦA (cfgA).spec c : sProp 𝕄) := by
  rw [show (dats m 0 c).Φ (Fin.last cfgA.N) = Phi m c cfgA.N from rfl]
  unfold Phi Pipeline.ΦA
  simp only [owns_whole_eq]
  rw [show (Pipeline.scopedRest (Ix := Unit) (Name := ℕ) (U := UR sig nD τ) (Lvl := ℕ) (Val := Elt Bits) cfgA.spec c : sProp 𝕄) = _ from scopedRest0_eq c]
  iintro ⟨⟨%A, %B, -, ⟨%a0, -, HS0⟩, ⟨%a1, -, HS1⟩⟩, -, -, Hp⟩
  isplitl [HS0 HS1]
  · isplitl [HS0]
    · iexists a0; iexact HS0
    · iexists a1; iexact HS1
  iexact Hp

/-- The run: every array as the write-backs leave it, every other buffer as the host's lines left it. -/
theorem run_main :
    θ_run (defs (F := Bits)) (onTc (τ := τ) (main (F := Bits))) ⟨m, fun _ => 0, g⟩
      (fun r => Pipeline.FramePost pcs (dats m) 0 (entry m) r ∧ r.2.sem = fun _ => 0) :=
  Pipeline.θ_run_frameP_track (pcfgs (F := Bits)) (fun _ => adm) (dats m) 0 (launch0 (F := Bits)) defs₀ Variants.none m g main
    (fun c => (body_obligation m c).loose)
    (fun c w => by unfold Dat.share; split <;> rfl) (fun _ _ => rfl) (entry m)
    (Pipeline.hmainP_prefix (pcfgs (F := Bits)) 0 defs₀ Variants.none m main hostOps0 hostOps0_sub (by repeat' constructor) main_chain)
    (fun _ _ => rfl) (fun c k => entry_tabs m c k) (phi_first m) (phi_last m) _ (fun _ h => h)

theorem frame :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 _ (Pipeline.mem_restRefs_of main_arg0 rfl (by decide))).trans (entry_arg0 m c),
      ((h.1 c).2 _ (Pipeline.mem_restRefs_of main_arg1 rfl (by decide))).trans (entry_arg1 m c),
      ((h.1 c).2 _ (Pipeline.mem_restRefs_of main_arg2 rfl (by decide))).trans (entry_arg2 m c),
      ((h.1 c).2 _ (Pipeline.mem_restRefs_of main_arg3 rfl (by decide))).trans (entry_arg3 m c)⟩, h.2⟩) (run_main m g)

end Cert.Kernel.Bwd

end
-- ==== Proof.IdealBody.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Writes
public import Idealize.ShloMosaic.Lib.WholeRead
public import Idealize.ShloMosaic.Lib.Exec
public import Idealize.ShloMosaic.Lib.Affine
public import Idealize.ShloMosaic.Lib.Tactic

@[expose] public section

/-!
# What one grid point of the kernel does to the buffers it holds

The state a point works on is the resident block of the query gradient, the two scratch accumulators and the two output
windows. `maskedQ`, `maskedK`, `maskedV` name what a masked tile leaves in the three accumulators, `plainQ`, `plainK`,
`plainV` what an unmasked tile leaves; each theorem `run_…` is the body along one of its seven control paths.
-/

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The two prefetched tables and the two scratch accumulators. -/
abbrev tabQ : Memref sig .tc .smem S91 .i32 := Memref.whole main_c
abbrev tabK : Memref sig .tc .smem S91 .i32 := Memref.whole main_c_0
abbrev accK : Memref sig .tc .vmem S640x256 .f32 := Memref.whole cc0_scratch0
abbrev accV : Memref sig .tc .vmem S640x128 .f32 := Memref.whole cc0_scratch1

/-- The word the body reads off the table of query blocks at a grid point, -/
abbrev wordQ (i : grid0.Coords) (T : S91.Idx → BitVec 32) : BitVec 32 :=
  View.readAt (Elt Ideal) tabQ.view (Rect.unit (s := S91) (k0_off1 i) S1.size (k0_off1_inb i)).toLoadRect T (Shape.Idx.first (numel1_S1.symm ▸ Nat.one_pos))
/-- and off the table of key blocks. -/
abbrev wordK (i : grid0.Coords) (T : S91.Idx → BitVec 32) : BitVec 32 :=
  View.readAt (Elt Ideal) tabK.view (Rect.unit (s := S91) (k0_off1 i) S1.size (k0_off1_inb i)).toLoadRect T (Shape.Idx.first (numel1_S1.symm ▸ Nat.one_pos))
/-- The query block is the key block: the body's own comparison of the two words. -/
abbrev diagonal (u v : BitVec 32) : Prop := (Scalar.cmpi .ne (Scalar.extui (Scalar.cmpi .eq u v)) 0#32) = 1#1

/-! ## Reading and overwriting a rectangle of an array -/

section Rects

variable {s : Shape} {α : Type}

/-- The entries of an array under a rectangle. -/
abbrev take (x : s.Idx → α) (r : Rect s) : r.shape.Idx → α := fun j => x (r.idx j)

open Classical in
/-- An array with the entries under a rectangle replaced. -/
def put (r : Rect s) (w : r.shape.Idx → α) (x : s.Idx → α) : s.Idx → α :=
  fun y => if h : ∃ j, r.emb j = y then w h.choose else x y

theorem put_emb (r : Rect s) (w : r.shape.Idx → α) (x : s.Idx → α) (j : r.shape.Idx) : put r w x (r.emb j) = w j := by
  have h : ∃ k, r.emb k = r.emb j := ⟨j, rfl⟩
  unfold put
  rw [dif_pos h]
  exact congrArg w (r.emb.injective h.choose_spec)

theorem put_off (r : Rect s) (w : r.shape.Idx → α) (x : s.Idx → α) (y : s.Idx) (h : ∀ j, r.emb j ≠ y) : put r w x y = x y := by
  unfold put
  rw [dif_neg]
  rintro ⟨j, hj⟩
  exact h j hj

/-- A store over earlier stores leaves the earlier array with the store's rectangle replaced. -/
theorem read_writes_put {κ : Kind} {sp : Space} {e : EltTy} {Val : EltTy → Type} (v : View sig κ sp s e) (f : v.ty.Contents Val)
    (r : Rect s) (w : r.shape.Idx → Val e) (L : List (View.Piece Val s e)) :
    v.read Val (v.writes Val f (⟨r, w⟩ :: L)) = put r w (v.read Val (v.writes Val f L)) := by
  funext y
  by_cases h : y ∈ r.set
  · obtain ⟨j, rfl⟩ := r.exists_idx_of_mem h
    exact (View.read_writes_cons_emb v f r w L j).trans (put_emb r w _ j).symm
  · rw [put_off r w _ y fun j hj => h (hj ▸ r.idx_mem j)]
    exact View.read_writes_cons_miss v f ⟨r, w⟩ L y h

/-- A store over the whole array leaves what it stores. -/
theorem read_writes_all {κ : Kind} {sp : Space} {e : EltTy} {Val : EltTy → Type} (v : View sig κ sp s e) (f : v.ty.Contents Val)
    (r : Rect s) (w : r.shape.Idx → Val e) (L : List (View.Piece Val s e)) (w' : s.Idx → Val e)
    (h : ∀ j : r.shape.Idx, w' (r.emb j) = w j) (hall : ∀ y, ∃ j, r.emb j = y) :
    v.read Val (v.writes Val f (⟨r, w⟩ :: L)) = w' := by
  funext y
  obtain ⟨j, rfl⟩ := hall y
  exact (View.read_writes_cons_emb v f r w L j).trans (h j).symm

end Rects

/-- The rectangles of a block: all of it, its first 256 rows, its last 384 rows. -/
abbrev allQ : Rect S8320x256 := Rect.unit (s := S8320x256) ![0, 0] S8320x256.size inb_S8320x256_S8320x256_0_0
abbrev allK : Rect S640x256 := Rect.unit (s := S640x256) ![0, 0] S640x256.size inb_S640x256_S640x256_0_0
abbrev allV : Rect S640x128 := Rect.unit (s := S640x128) ![0, 0] S640x128.size inb_S640x128_S640x128_0_0
abbrev loK : Rect S640x256 := Rect.unit (s := S640x256) ![0, 0] S256x256.size inb_S640x256_S256x256_0_0
abbrev hiK : Rect S640x256 := Rect.unit (s := S640x256) ![256, 0] S384x256.size inb_S640x256_S384x256_256_0
abbrev loV : Rect S640x128 := Rect.unit (s := S640x128) ![0, 0] S256x128.size inb_S640x128_S256x128_0_0
abbrev hiV : Rect S640x128 := Rect.unit (s := S640x128) ![256, 0] S384x128.size inb_S640x128_S384x128_256_0
abbrev loS : Rect S1x1x640 := Rect.unit (s := S1x1x640) ![0, 0, 0] S1x1x256.size inb_S1x1x640_S1x1x256_0_0_0
abbrev hiS : Rect S1x1x640 := Rect.unit (s := S1x1x640) ![0, 0, 256] S1x1x384.size inb_S1x1x640_S1x1x384_0_0_256

theorem emb_allQ (j : S8320x256.Idx) : allQ.emb j = j := by
  funext a; apply Fin.ext; rw [Rect.emb_apply]
  match a with
  | ⟨0, _⟩ => show 0 + 1 * _ = _; omega
  | ⟨1, _⟩ => show 0 + 1 * _ = _; omega
theorem emb_allK (j : S640x256.Idx) : allK.emb j = j := by
  funext a; apply Fin.ext; rw [Rect.emb_apply]
  match a with
  | ⟨0, _⟩ => show 0 + 1 * _ = _; omega
  | ⟨1, _⟩ => show 0 + 1 * _ = _; omega
theorem emb_allV (j : S640x128.Idx) : allV.emb j = j := by
  funext a; apply Fin.ext; rw [Rect.emb_apply]
  match a with
  | ⟨0, _⟩ => show 0 + 1 * _ = _; omega
  | ⟨1, _⟩ => show 0 + 1 * _ = _; omega

/-- A store over a whole block leaves what it stores; a load of a whole block reads the block. -/
theorem read_allQ {κ : Kind} {sp : Space} {e : EltTy} {Val : EltTy → Type} (v : View sig κ sp S8320x256 e) (f : v.ty.Contents Val)
    (w : S8320x256.Idx → Val e) (L : List (View.Piece Val S8320x256 e)) : v.read Val (v.writes Val f (⟨allQ, w⟩ :: L)) = w :=
  read_writes_all v f allQ w L w (fun j => congrArg w (emb_allQ j)) fun y => ⟨y, emb_allQ y⟩
theorem read_allK {κ : Kind} {sp : Space} {e : EltTy} {Val : EltTy → Type} (v : View sig κ sp S640x256 e) (f : v.ty.Contents Val)
    (w : S640x256.Idx → Val e) (L : List (View.Piece Val S640x256 e)) : v.read Val (v.writes Val f (⟨allK, w⟩ :: L)) = w :=
  read_writes_all v f allK w L w (fun j => congrArg w (emb_allK j)) fun y => ⟨y, emb_allK y⟩
theorem read_allV {κ : Kind} {sp : Space} {e : EltTy} {Val : EltTy → Type} (v : View sig κ sp S640x128 e) (f : v.ty.Contents Val)
    (w : S640x128.Idx → Val e) (L : List (View.Piece Val S640x128 e)) : v.read Val (v.writes Val f (⟨allV, w⟩ :: L)) = w :=
  read_writes_all v f allV w L w (fun j => congrArg w (emb_allV j)) fun y => ⟨y, emb_allV y⟩
theorem take_allK {α : Type} (x : S640x256.Idx → α) : take x allK = x := funext fun j => congrArg x (emb_allK j)
theorem take_allV {α : Type} (x : S640x128.Idx → α) : take x allV = x := funext fun j => congrArg x (emb_allV j)
theorem load_allK {κ : Kind} {sp : Space} {e : EltTy} {Val : EltTy → Type} (v : View sig κ sp S640x256 e) (f : v.ty.Contents Val) :
    v.readAt Val allK.toLoadRect f = v.read Val f := take_allK _
theorem load_allV {κ : Kind} {sp : Space} {e : EltTy} {Val : EltTy → Type} (v : View sig κ sp S640x128 e) (f : v.ty.Contents Val) :
    v.readAt Val allV.toLoadRect f = v.read Val f := take_allV _

/-! ## What a tile leaves in the accumulators -/

section Steps

variable (q k : S640x256.Idx → Elt Ideal .bf16) (v o : S640x128.Idx → Elt Ideal .bf16) (l d : S1x1x640.Idx → Elt Ideal .f32)
variable (D : S8320x256.Idx → Elt Ideal .f32) (A : S640x256.Idx → Elt Ideal .f32) (B : S640x128.Idx → Elt Ideal .f32)
variable (u w : BitVec 32)

/-- The key gradient's accumulator after a masked tile. -/
def maskedK : S640x256.Idx → Elt Ideal .f32 :=
  k0_pay4 (F := Ideal) (k0_pay29 u (k0_pay14 (take v allV) (take o hiV))
    (k0_pay22 (k0_pay13 (take v allV) (take o loV)) (take A allK) (k0_pay15 (take k allK) (take q loK) (take l loS)) (k0_pay16 (F := Ideal) w) (k0_pay17 (F := Ideal) u) (k0_pay18 (F := Ideal) u w) 112#32 (take d loS) (take q loK))
    (k0_pay24 (k0_pay12 (take k allK) (take q hiK)) (take l hiS)) (iota .tc S640x384 32 [0] iota_S640x384_d0_w32) (k0_pay25 (F := Ideal) w) (take d hiS) (take q hiK))

/-- The value gradient's accumulator after a masked tile. -/
def maskedV : S640x128.Idx → Elt Ideal .f32 :=
  k0_pay5 (F := Ideal) (k0_pay27 u
    (k0_pay20 (take B allV) (k0_pay15 (take k allK) (take q loK) (take l loS)) (k0_pay16 (F := Ideal) w) (k0_pay17 (F := Ideal) u) (k0_pay18 (F := Ideal) u w) 112#32 (take o loV))
    (k0_pay24 (k0_pay12 (take k allK) (take q hiK)) (take l hiS)) (iota .tc S640x384 32 [0] iota_S640x384_d0_w32) (k0_pay25 (F := Ideal) w) (take o hiV))

/-- The query gradient's block after the first part of a masked tile, -/
def maskedQ₁ (hw : k0_chk1 u w) (h : k0_cond3 u w = 1#1) : S8320x256.Idx → Elt Ideal .f32 :=
  put (Rect.unit (s := S8320x256) (k0_off2 u) S256x256.size (k0_off2_inb u w hw h))
    (k0_pay23 (F := Ideal) (k0_pay10 (take k allK)) (k0_pay13 (take v allV) (take o loV)) (k0_pay15 (take k allK) (take q loK) (take l loS)) (k0_pay16 (F := Ideal) w) (k0_pay17 (F := Ideal) u) (k0_pay18 (F := Ideal) u w) 112#32 (take d loS)
      (take D (Rect.unit (s := S8320x256) (k0_off2 u) S256x256.size (k0_off2_inb u w hw h)))) D

/-- and after both. -/
def maskedQ (hw : k0_chk1 u w) (h : k0_cond3 u w = 1#1) : S8320x256.Idx → Elt Ideal .f32 :=
  put (Rect.unit (s := S8320x256) (k0_off3 u) S384x256.size (k0_off3_inb u w hw h))
    (k0_pay30 (F := Ideal) u (k0_pay10 (take k allK)) (k0_pay14 (take v allV) (take o hiV)) (k0_pay24 (k0_pay12 (take k allK) (take q hiK)) (take l hiS)) (iota .tc S640x384 32 [0] iota_S640x384_d0_w32) (k0_pay25 (F := Ideal) w) (take d hiS)
      (take (maskedQ₁ q k v o l d D u w hw h) (Rect.unit (s := S8320x256) (k0_off3 u) S384x256.size (k0_off3_inb u w hw h)))) (maskedQ₁ q k v o l d D u w hw h)

/-- The key gradient's accumulator after an unmasked tile. -/
def plainK : S640x256.Idx → Elt Ideal .f32 :=
  k0_pay7 (F := Ideal) (k0_pay44 (k0_pay33 (take k allK) (take q hiK)) (k0_pay34 (take v allV) (take o loV)) (k0_pay35 (take v allV) (take o hiV)) (take A allK)
    (k0_pay36 (take k allK) (take q loK) (take l loS)) (k0_pay38 (take d loS)) (take q loK) (take l hiS) (take d hiS) (take q hiK))

/-- The value gradient's accumulator after an unmasked tile. -/
def plainV : S640x128.Idx → Elt Ideal .f32 :=
  k0_pay8 (F := Ideal) (k0_pay42 (k0_pay33 (take k allK) (take q hiK)) (k0_pay37 (take k allK) (take q loK) (take B allV) (take l loS) (take o loV)) (take l hiS) (take o hiV))

/-- The query gradient's block after the first part of an unmasked tile, -/
def plainQ₁ (hw : k0_chk1 u w) (h : k0_cond4 u w = 1#1) : S8320x256.Idx → Elt Ideal .f32 :=
  put (Rect.unit (s := S8320x256) (k0_off4 u) S256x256.size (k0_off4_inb u w hw h))
    (k0_pay40 (F := Ideal) (k0_pay31 (take k allK)) (k0_pay34 (take v allV) (take o loV)) (k0_pay36 (take k allK) (take q loK) (take l loS)) (k0_pay38 (take d loS))
      (take D (Rect.unit (s := S8320x256) (k0_off4 u) S256x256.size (k0_off4_inb u w hw h)))) D

/-- and after both. -/
def plainQ (hw : k0_chk1 u w) (h : k0_cond4 u w = 1#1) : S8320x256.Idx → Elt Ideal .f32 :=
  put (Rect.unit (s := S8320x256) (k0_off5 u) S384x256.size (k0_off5_inb u w hw h))
    (k0_pay6 (F := Ideal) (k0_pay31 (take k allK)) (k0_pay43 (k0_pay33 (take k allK) (take q hiK)) (k0_pay35 (take v allV) (take o hiV)) (take l hiS) (take d hiS))
      (take (plainQ₁ q k v o l d D u w hw h) (Rect.unit (s := S8320x256) (k0_off5 u) S384x256.size (k0_off5_inb u w hw h)))) (plainQ₁ q k v o l d D u w hw h)

end Steps

/-! ## The body along each path -/

section Runs

variable (c : Dev nD) (i : grid0.Coords)
variable (arg4 : Memref sig .tc .vmem S640x256 .bf16) (harg4 : arg4.IsWhole) (arg5 : Memref sig .tc .vmem S640x256 .bf16) (harg5 : arg5.IsWhole)
variable (arg6 : Memref sig .tc .vmem S640x128 .bf16) (harg6 : arg6.IsWhole) (arg7 : Memref sig .tc .vmem S640x128 .bf16) (harg7 : arg7.IsWhole)
variable (arg8 : Memref sig .tc .vmem S1x1x640 .f32) (harg8 : arg8.IsWhole) (arg9 : Memref sig .tc .vmem S1x1x640 .f32) (harg9 : arg9.IsWhole)
variable (arg10 : Memref sig .tc .vmem S8320x256 .f32) (harg10 : arg10.IsWhole) (arg11 : Memref sig .tc .vmem S640x256 .f32) (harg11 : arg11.IsWhole)
variable (arg12 : Memref sig .tc .vmem S640x128 .f32) (harg12 : arg12.IsWhole) (T0 T1 : S91.Idx → BitVec 32)
variable (q k : S640x256.Idx → Elt Ideal .bf16) (v o : S640x128.Idx → Elt Ideal .bf16) (l d : S1x1x640.Idx → Elt Ideal .f32)
variable (D : S8320x256.Idx → Elt Ideal .f32) (A : S640x256.Idx → Elt Ideal .f32) (B : S640x128.Idx → Elt Ideal .f32)
variable (X : S640x256.Idx → Elt Ideal .f32) (Y : S640x128.Idx → Elt Ideal .f32)

/-- What a point holds: the six input blocks, the two tables, the three outputs' windows and the two scratch accumulators. -/
def held : sProp 𝕄 :=
  iprop(owns (c : Thread nD τ) arg4 fullShare q ∗ owns (c : Thread nD τ) arg5 fullShare k ∗ owns (c : Thread nD τ) arg6 fullShare v
    ∗ owns (c : Thread nD τ) arg7 fullShare o ∗ owns (c : Thread nD τ) arg8 fullShare l ∗ owns (c : Thread nD τ) arg9 fullShare d
    ∗ (tabQ.view.loc (c : Thread nD τ) ↦{fullShare.right} T0) ∗ (tabK.view.loc (c : Thread nD τ) ↦{fullShare.right} T1)
    ∗ owns (c : Thread nD τ) arg10 fullShare D ∗ owns (c : Thread nD τ) arg11 fullShare X ∗ owns (c : Thread nD τ) arg12 fullShare Y
    ∗ owns (c : Thread nD τ) accK fullShare A ∗ owns (c : Thread nD τ) accV fullShare B)

/-- The body at a point takes the accumulators and output windows from the first five contents to the last five. -/
def Takes (D : S8320x256.Idx → Elt Ideal .f32) (A : S640x256.Idx → Elt Ideal .f32) (B : S640x128.Idx → Elt Ideal .f32)
    (X : S640x256.Idx → Elt Ideal .f32) (Y : S640x128.Idx → Elt Ideal .f32)
    (D' : S8320x256.Idx → Elt Ideal .f32) (A' : S640x256.Idx → Elt Ideal .f32) (B' : S640x128.Idx → Elt Ideal .f32)
    (X' : S640x256.Idx → Elt Ideal .f32) (Y' : S640x128.Idx → Elt Ideal .f32) : Prop :=
  ∀ K : PUnit → sProp 𝕄,
    iprop(held c arg4 arg5 arg6 arg7 arg8 arg9 arg10 arg11 arg12 T0 T1 q k v o l d D A B X Y
      ∗ (held c arg4 arg5 arg6 arg7 arg8 arg9 arg10 arg11 arg12 T0 T1 q k v o l d D' A' B' X' Y' -∗ K ⟨⟩))
    ⊢ wp frame (wpE (defs₀ (F := Ideal)) Variants.none c none) Set.univ
      (cc0_attn_bwd i tabQ (Memref.isWhole_whole _) tabK (Memref.isWhole_whole _) arg4 harg4 arg5 harg5 arg6 harg6 arg7 harg7 arg8 harg8 arg9 harg9
        arg10 harg10 arg11 harg11 arg12 harg12 accK (Memref.isWhole_whole _) accV (Memref.isWhole_whole _)) K

end Runs

end Cert.KernelIdeal.Bwd

end
-- ==== Proof.IdealGrid.lean ====
module

public import proofs.«01_k».proof.Proof.IdealBody
public import Idealize.ShloMosaic.Lib.Pipeline.TableIdle
public import Idealize.ShloMosaic.Lib.Pipeline.Kit
public import Idealize.ShloMosaic.Lib.Claim

@[expose] public section

/-!
# The kernel's schedule

Each head walks the 91 pairs (key block, query block) of blocks at or under the diagonal, key block by key block. The two
prefetched tables name each pair's blocks; here they are closed forms of the pair's number, the windows' blocks lie inside
their arrays, and the facts a point's run asks of its words are decided for the 1456 points.
-/

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Pair `p`'s query block and key block: the `p`-th hexadecimal digit, from the right, of a number. -/
def qOf (p : ℕ) : ℕ := (0xccbcbacba9cba98cba987cba9876cba98765cba987654cba9876543cba98765432cba987654321cba9876543210 >>> (4 * p)) % 16
def kOf (p : ℕ) : ℕ := (0xcbbaaa9999888887777776666666555555554444444443333333333222222222221111111111110000000000000 >>> (4 * p)) % 16

/-- The two tables. -/
abbrev tQ : S91.Idx → BitVec 32 := fun x => BitVec.ofNat 32 (qOf (x 0).val)
abbrev tK : S91.Idx → BitVec 32 := fun x => BitVec.ofNat 32 (kOf (x 0).val)

/-- Both, as the launch takes them. -/
def tabs : pre0.Contents (Elt Ideal) := fun | ⟨0, _⟩ => tQ | ⟨1, _⟩ => tK | ⟨_ + 2, h⟩ => absurd h (by simp)

theorem inb0 : ∀ i : grid0.Coords, ∀ a, (cc0_transform_0 k0_off1_inb numel1_S1 tabs i a + 1) * S640x256.size a ≤ S8320x4096.size a := by decide +kernel
theorem inb1 : ∀ i : grid0.Coords, ∀ a, (cc0_transform_1 k0_off1_inb numel1_S1 tabs i a + 1) * S640x256.size a ≤ S8320x4096.size a := by decide +kernel
theorem inb2 : ∀ i : grid0.Coords, ∀ a, (cc0_transform_2 k0_off1_inb numel1_S1 tabs i a + 1) * S640x128.size a ≤ S8320x2048.size a := by decide +kernel
theorem inb3 : ∀ i : grid0.Coords, ∀ a, (cc0_transform_3 k0_off1_inb numel1_S1 tabs i a + 1) * S640x128.size a ≤ S8320x2048.size a := by decide +kernel
theorem inb4 : ∀ i : grid0.Coords, ∀ a, (cc0_transform_4 k0_off1_inb numel1_S1 tabs i a + 1) * S1x1x640.size a ≤ S16x1x8320.size a := by decide +kernel
theorem inb5 : ∀ i : grid0.Coords, ∀ a, (cc0_transform_5 k0_off1_inb numel1_S1 tabs i a + 1) * S1x1x640.size a ≤ S16x1x8320.size a := by decide +kernel
theorem inb6 : ∀ i : grid0.Coords, ∀ a, (cc0_transform_6 i a + 1) * S8320x256.size a ≤ S8320x4096.size a := by decide +kernel
theorem inb7 : ∀ i : grid0.Coords, ∀ a, (cc0_transform_7 k0_off1_inb numel1_S1 tabs i a + 1) * S640x256.size a ≤ S8320x4096.size a := by decide +kernel
theorem inb8 : ∀ i : grid0.Coords, ∀ a, (cc0_transform_8 k0_off1_inb numel1_S1 tabs i a + 1) * S640x128.size a ≤ S8320x2048.size a := by decide +kernel

/-- The side condition of the pipeline at the two tables: every block lies inside its array and moves whole words. -/
theorem ok_tabs : ok0 (F := Ideal) tabs :=
  ⟨fun i => ⟨inb0 i, .inr (Affine.block_words_dvd (by decide) (by decide))⟩,
    fun i => ⟨inb1 i, .inr (Affine.block_words_dvd (by decide) (by decide))⟩,
    fun i => ⟨inb2 i, .inr (Affine.block_words_dvd (by decide) (by decide))⟩,
    fun i => ⟨inb3 i, .inr (Affine.block_words_dvd (by decide) (by decide))⟩,
    fun i => ⟨inb4 i, .inl rfl⟩,
    fun i => ⟨inb5 i, .inl rfl⟩,
    fun i => ⟨inb7 i, .inl rfl⟩,
    fun i => ⟨inb8 i, .inl rfl⟩⟩

def adm : (pcfg0 (F := Ideal)).Adm := ⟨tabs, ok_tabs⟩
abbrev cfgA : Pipeline.Cfg sig Λ₀ := cfg0 (F := Ideal) adm
abbrev pcs : Fin 1 → Pipeline.Cfg sig Λ₀ := Pipeline.pin (pcfgs (F := Ideal)) fun _ => adm

/-- A point's coordinates, and the two words its body reads. -/
abbrev crd (t : Fin cfgA.N) : cfgA.grid.Coords := cfgA.grid.coords t
abbrev uQ (t : Fin cfgA.N) : BitVec 32 := wordQ (crd t) tQ
abbrev uK (t : Fin cfgA.N) : BitVec 32 := wordK (crd t) tK

end Cert.KernelIdeal.Bwd

end
-- ==== Proof.IdealFacts.lean ====
module

public import proofs.«01_k».proof.Proof.IdealGrid

@[expose] public section

/-!
# What each point's words decide

Decided for the 1456 points of the grid: the body's side conditions, which of its five conditions hold together, at which points
each output's window is left alone or written back.
-/

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- What a point's run and its windows' schedule ask of the point. -/
abbrev FactsAt (t : Fin cfgA.N) : Prop :=
  k0_chk1 (uQ t) (uK t)
  ∧ (k0_cond1 (crd t) = 1#1 → diagonal (uQ t) (uK t) ∧ ¬k0_cond5 (uQ t) = 1#1)
  ∧ (diagonal (uQ t) (uK t) → k0_cond3 (uQ t) (uK t) = 1#1)
  ∧ (k0_cond3 (uQ t) (uK t) = 1#1 → ¬k0_cond4 (uQ t) (uK t) = 1#1)
  ∧ (¬k0_cond3 (uQ t) (uK t) = 1#1 → k0_cond4 (uQ t) (uK t) = 1#1)
  ∧ cfgA.idle (6 : Fin 9) (crd t) = false
  ∧ (k0_cond5 (uQ t) = 1#1 → cfgA.idle (7 : Fin 9) (crd t) = false ∧ cfgA.idle (8 : Fin 9) (crd t) = false)
  ∧ (¬k0_cond5 (uQ t) = 1#1 → cfgA.idle (7 : Fin 9) (crd t) = true ∧ cfgA.idle (8 : Fin 9) (crd t) = true
      ∧ (cfgA.win (7 : Fin 9)).flush t = false ∧ (cfgA.win (8 : Fin 9)).flush t = false)
  ∧ (¬k0_cond1 (crd t) = 1#1 → t.val ≠ 0 ∧ (cfgA.win (6 : Fin 9)).flush ⟨t.val - 1, Nat.lt_of_le_of_lt (Nat.sub_le _ _) t.isLt⟩ = false)

set_option synthInstance.maxSize 65536 in
instance FactsAt.dec (t : Fin cfgA.N) : Decidable (FactsAt t) :=
  (@instDecidableAnd _ _ inferInstance
  (@instDecidableAnd _ _ inferInstance
  (@instDecidableAnd _ _ inferInstance
  (@instDecidableAnd _ _ inferInstance
  (@instDecidableAnd _ _ inferInstance
  (@instDecidableAnd _ _ inferInstance
  (@instDecidableAnd _ _ inferInstance
  (@instDecidableAnd _ _ inferInstance
  (inferInstance)))))))))

theorem facts0 : ∀ t : Fin cfgA.N, 0 ≤ t.val → t.val < 91 → FactsAt t := by decide +kernel
theorem facts1 : ∀ t : Fin cfgA.N, 91 ≤ t.val → t.val < 182 → FactsAt t := by decide +kernel
theorem facts2 : ∀ t : Fin cfgA.N, 182 ≤ t.val → t.val < 273 → FactsAt t := by decide +kernel
theorem facts3 : ∀ t : Fin cfgA.N, 273 ≤ t.val → t.val < 364 → FactsAt t := by decide +kernel
theorem facts4 : ∀ t : Fin cfgA.N, 364 ≤ t.val → t.val < 455 → FactsAt t := by decide +kernel
theorem facts5 : ∀ t : Fin cfgA.N, 455 ≤ t.val → t.val < 546 → FactsAt t := by decide +kernel
theorem facts6 : ∀ t : Fin cfgA.N, 546 ≤ t.val → t.val < 637 → FactsAt t := by decide +kernel
theorem facts7 : ∀ t : Fin cfgA.N, 637 ≤ t.val → t.val < 728 → FactsAt t := by decide +kernel
theorem facts8 : ∀ t : Fin cfgA.N, 728 ≤ t.val → t.val < 819 → FactsAt t := by decide +kernel
theorem facts9 : ∀ t : Fin cfgA.N, 819 ≤ t.val → t.val < 910 → FactsAt t := by decide +kernel
theorem facts10 : ∀ t : Fin cfgA.N, 910 ≤ t.val → t.val < 1001 → FactsAt t := by decide +kernel
theorem facts11 : ∀ t : Fin cfgA.N, 1001 ≤ t.val → t.val < 1092 → FactsAt t := by decide +kernel
theorem facts12 : ∀ t : Fin cfgA.N, 1092 ≤ t.val → t.val < 1183 → FactsAt t := by decide +kernel
theorem facts13 : ∀ t : Fin cfgA.N, 1183 ≤ t.val → t.val < 1274 → FactsAt t := by decide +kernel
theorem facts14 : ∀ t : Fin cfgA.N, 1274 ≤ t.val → t.val < 1365 → FactsAt t := by decide +kernel
theorem facts15 : ∀ t : Fin cfgA.N, 1365 ≤ t.val → t.val < 1456 → FactsAt t := by decide +kernel

theorem facts (t : Fin cfgA.N) : FactsAt t := by
  have h0 : 0 ≤ t.val := Nat.zero_le _
  rcases Nat.lt_or_ge t.val 91 with h1 | h1
  · exact facts0 t h0 h1
  rcases Nat.lt_or_ge t.val 182 with h2 | h2
  · exact facts1 t h1 h2
  rcases Nat.lt_or_ge t.val 273 with h3 | h3
  · exact facts2 t h2 h3
  rcases Nat.lt_or_ge t.val 364 with h4 | h4
  · exact facts3 t h3 h4
  rcases Nat.lt_or_ge t.val 455 with h5 | h5
  · exact facts4 t h4 h5
  rcases Nat.lt_or_ge t.val 546 with h6 | h6
  · exact facts5 t h5 h6
  rcases Nat.lt_or_ge t.val 637 with h7 | h7
  · exact facts6 t h6 h7
  rcases Nat.lt_or_ge t.val 728 with h8 | h8
  · exact facts7 t h7 h8
  rcases Nat.lt_or_ge t.val 819 with h9 | h9
  · exact facts8 t h8 h9
  rcases Nat.lt_or_ge t.val 910 with h10 | h10
  · exact facts9 t h9 h10
  rcases Nat.lt_or_ge t.val 1001 with h11 | h11
  · exact facts10 t h10 h11
  rcases Nat.lt_or_ge t.val 1092 with h12 | h12
  · exact facts11 t h11 h12
  rcases Nat.lt_or_ge t.val 1183 with h13 | h13
  · exact facts12 t h12 h13
  rcases Nat.lt_or_ge t.val 1274 with h14 | h14
  · exact facts13 t h13 h14
  rcases Nat.lt_or_ge t.val 1365 with h15 | h15
  · exact facts14 t h14 h15
  exact facts15 t h15 t.isLt

/-- The query gradient's window is stored into at every point. -/
theorem idle6 : ∀ i : grid0.Coords, cfgA.idle (6 : Fin 9) i = false := by decide +kernel

end Cert.KernelIdeal.Bwd

end
-- ==== Proof.IdealRuns1.lean ====
module

public import proofs.«01_k».proof.Proof.IdealBody

@[expose] public section

/-! # The body along the four paths that write no key block out. -/

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

section Runs

variable (c : Dev nD) (i : grid0.Coords)
variable (arg4 : Memref sig .tc .vmem S640x256 .bf16) (harg4 : arg4.IsWhole) (arg5 : Memref sig .tc .vmem S640x256 .bf16) (harg5 : arg5.IsWhole)
variable (arg6 : Memref sig .tc .vmem S640x128 .bf16) (harg6 : arg6.IsWhole) (arg7 : Memref sig .tc .vmem S640x128 .bf16) (harg7 : arg7.IsWhole)
variable (arg8 : Memref sig .tc .vmem S1x1x640 .f32) (harg8 : arg8.IsWhole) (arg9 : Memref sig .tc .vmem S1x1x640 .f32) (harg9 : arg9.IsWhole)
variable (arg10 : Memref sig .tc .vmem S8320x256 .f32) (harg10 : arg10.IsWhole) (arg11 : Memref sig .tc .vmem S640x256 .f32) (harg11 : arg11.IsWhole)
variable (arg12 : Memref sig .tc .vmem S640x128 .f32) (harg12 : arg12.IsWhole) (T0 T1 : S91.Idx → BitVec 32)
variable (q k : S640x256.Idx → Elt Ideal .bf16) (v o : S640x128.Idx → Elt Ideal .bf16) (l d : S1x1x640.Idx → Elt Ideal .f32)
variable (D : S8320x256.Idx → Elt Ideal .f32) (A : S640x256.Idx → Elt Ideal .f32) (B : S640x128.Idx → Elt Ideal .f32)
variable (X : S640x256.Idx → Elt Ideal .f32) (Y : S640x128.Idx → Elt Ideal .f32)

set_option backward.proofsInPublic true in
set_option maxHeartbeats 8000000 in
/-- The first point of a head: the query gradient's block is zeroed, the accumulators are zeroed, a masked tile is added. -/
theorem run_first
    (hw : k0_chk1 (wordQ i T0) (wordK i T1)) (h1 : k0_cond1 i = 1#1) (h2 : diagonal (wordQ i T0) (wordK i T1))
    (h3 : k0_cond3 (wordQ i T0) (wordK i T1) = 1#1) (h4 : ¬k0_cond4 (wordQ i T0) (wordK i T1) = 1#1) (h5 : ¬k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d (k0_pay1 (F := Ideal)) (wordQ i T0) (wordK i T1) hw h3)
      (maskedK q k v o l d (k0_pay2 (F := Ideal)) (wordQ i T0) (wordK i T1)) (maskedV q k o l (k0_pay3 (F := Ideal)) (wordQ i T0) (wordK i T1))
      X Y := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Ideal) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Ideal) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Ideal) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Ideal) (wordK i T1)) (k0_pay17 (F := Ideal) (wordQ i T0)) (k0_pay18 (F := Ideal) (wordQ i T0) (wordK i T1)) 112#32 (take (arg9.view.read _ f5) loS) (take E (Rect.unit (s := S8320x256) (k0_off2 (wordQ i T0)) S256x256.size (k0_off2_inb _ _ hw h3)))) E) ?_
      exact read_allQ _ _ _ _
  isplitl [H7]
  · iexists _; isplitr
    · ipureintro; exact g7
    · iexact H7
  isplitl [H8]
  · iexists _; isplitr
    · ipureintro; exact g8
    · iexact H8
  isplitl [HS0]
  · iexists _; isplitr
    rotate_left
    · iexact HS0
    · ipureintro
      refine (read_allK _ _ ((fun E => maskedK (arg4.view.read _ f0) (arg5.view.read _ f1) (arg6.view.read _ f2) (arg7.view.read _ f3) (arg8.view.read _ f4) (arg9.view.read _ f5) E (wordQ i T0) (wordK i T1)) _) _).trans ?_
      refine congrArg (fun E => maskedK (arg4.view.read _ f0) (arg5.view.read _ f1) (arg6.view.read _ f2) (arg7.view.read _ f3) (arg8.view.read _ f4) (arg9.view.read _ f5) E (wordQ i T0) (wordK i T1)) ?_
      exact read_allK _ _ _ _
  · iexists _; isplitr
    rotate_left
    · iexact HS1
    · ipureintro
      refine (read_allV _ _ ((fun E => maskedV (arg4.view.read _ f0) (arg5.view.read _ f1) (arg7.view.read _ f3) (arg8.view.read _ f4) E (wordQ i T0) (wordK i T1)) _) _).trans ?_
      refine congrArg (fun E => maskedV (arg4.view.read _ f0) (arg5.view.read _ f1) (arg7.view.read _ f3) (arg8.view.read _ f4) E (wordQ i T0) (wordK i T1)) ?_
      exact read_allV _ _ _ _

set_option backward.proofsInPublic true in
set_option maxHeartbeats 8000000 in
/-- A diagonal tile before the last query block: the accumulators are zeroed and a masked tile is added. -/
theorem run_diagonal
    (hw : k0_chk1 (wordQ i T0) (wordK i T1)) (h1 : ¬k0_cond1 i = 1#1) (h2 : diagonal (wordQ i T0) (wordK i T1))
    (h3 : k0_cond3 (wordQ i T0) (wordK i T1) = 1#1) (h4 : ¬k0_cond4 (wordQ i T0) (wordK i T1) = 1#1) (h5 : ¬k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d D (wordQ i T0) (wordK i T1) hw h3)
      (maskedK q k v o l d (k0_pay2 (F := Ideal)) (wordQ i T0) (wordK i T1)) (maskedV q k o l (k0_pay3 (F := Ideal)) (wordQ i T0) (wordK i T1))
      X Y := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Ideal) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Ideal) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Ideal) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Ideal) (wordK i T1)) (k0_pay17 (F := Ideal) (wordQ i T0)) (k0_pay18 (F := Ideal) (wordQ i T0) (wordK i T1)) 112#32 (take (arg9.view.read _ f5) loS) (take E (Rect.unit (s := S8320x256) (k0_off2 (wordQ i T0)) S256x256.size (k0_off2_inb _ _ hw h3)))) E) ?_
      exact rfl
  isplitl [H7]
  · iexists _; isplitr
    · ipureintro; exact g7
    · iexact H7
  isplitl [H8]
  · iexists _; isplitr
    · ipureintro; exact g8
    · iexact H8
  isplitl [HS0]
  · iexists _; isplitr
    rotate_left
    · iexact HS0
    · ipureintro
      refine (read_allK _ _ ((fun E => maskedK (arg4.view.read _ f0) (arg5.view.read _ f1) (arg6.view.read _ f2) (arg7.view.read _ f3) (arg8.view.read _ f4) (arg9.view.read _ f5) E (wordQ i T0) (wordK i T1)) _) _).trans ?_
      refine congrArg (fun E => maskedK (arg4.view.read _ f0) (arg5.view.read _ f1) (arg6.view.read _ f2) (arg7.view.read _ f3) (arg8.view.read _ f4) (arg9.view.read _ f5) E (wordQ i T0) (wordK i T1)) ?_
      exact read_allK _ _ _ _
  · iexists _; isplitr
    rotate_left
    · iexact HS1
    · ipureintro
      refine (read_allV _ _ ((fun E => maskedV (arg4.view.read _ f0) (arg5.view.read _ f1) (arg7.view.read _ f3) (arg8.view.read _ f4) E (wordQ i T0) (wordK i T1)) _) _).trans ?_
      refine congrArg (fun E => maskedV (arg4.view.read _ f0) (arg5.view.read _ f1) (arg7.view.read _ f3) (arg8.view.read _ f4) E (wordQ i T0) (wordK i T1)) ?_
      exact read_allV _ _ _ _

set_option backward.proofsInPublic true in
set_option maxHeartbeats 8000000 in
/-- A tile of the first key block under the diagonal: masked, the accumulators carried on. -/
theorem run_pads
    (hw : k0_chk1 (wordQ i T0) (wordK i T1)) (h1 : ¬k0_cond1 i = 1#1) (h2 : ¬diagonal (wordQ i T0) (wordK i T1))
    (h3 : k0_cond3 (wordQ i T0) (wordK i T1) = 1#1) (h4 : ¬k0_cond4 (wordQ i T0) (wordK i T1) = 1#1) (h5 : ¬k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d D (wordQ i T0) (wordK i T1) hw h3)
      (maskedK q k v o l d A (wordQ i T0) (wordK i T1)) (maskedV q k o l B (wordQ i T0) (wordK i T1))
      X Y := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Ideal) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Ideal) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Ideal) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Ideal) (wordK i T1)) (k0_pay17 (F := Ideal) (wordQ i T0)) (k0_pay18 (F := Ideal) (wordQ i T0) (wordK i T1)) 112#32 (take (arg9.view.read _ f5) loS) (take E (Rect.unit (s := S8320x256) (k0_off2 (wordQ i T0)) S256x256.size (k0_off2_inb _ _ hw h3)))) E) ?_
      exact rfl
  isplitl [H7]
  · iexists _; isplitr
    · ipureintro; exact g7
    · iexact H7
  isplitl [H8]
  · iexists _; isplitr
    · ipureintro; exact g8
    · iexact H8
  isplitl [HS0]
  · iexists _; isplitr
    rotate_left
    · iexact HS0
    · ipureintro
      exact read_allK _ _ ((fun E => maskedK (arg4.view.read _ f0) (arg5.view.read _ f1) (arg6.view.read _ f2) (arg7.view.read _ f3) (arg8.view.read _ f4) (arg9.view.read _ f5) E (wordQ i T0) (wordK i T1)) _) _
  · iexists _; isplitr
    rotate_left
    · iexact HS1
    · ipureintro
      exact read_allV _ _ ((fun E => maskedV (arg4.view.read _ f0) (arg5.view.read _ f1) (arg7.view.read _ f3) (arg8.view.read _ f4) E (wordQ i T0) (wordK i T1)) _) _

set_option backward.proofsInPublic true in
set_option maxHeartbeats 8000000 in
/-- An unmasked tile before the last query block. -/
theorem run_plain
    (hw : k0_chk1 (wordQ i T0) (wordK i T1)) (h1 : ¬k0_cond1 i = 1#1) (h2 : ¬diagonal (wordQ i T0) (wordK i T1))
    (h3 : ¬k0_cond3 (wordQ i T0) (wordK i T1) = 1#1) (h4 : k0_cond4 (wordQ i T0) (wordK i T1) = 1#1) (h5 : ¬k0_cond5 (wordQ i T0) = 1#1) :
    Takes c i arg4 harg4 arg5 harg5 arg6 harg6 arg7 harg7 arg8 harg8 arg9 harg9 arg10 harg10 arg11 harg11 arg12 harg12 T0 T1 q k v o l d
      D A B X Y (plainQ q k v o l d D (wordQ i T0) (wordK i T1) hw h4)
      (plainK q k v o l d A) (plainV q k o l B)
      X Y := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off5 (wordQ i T0)) S384x256.size (k0_off5_inb _ _ hw h4)) (k0_pay6 (F := Ideal) (k0_pay31 (take (arg5.view.read _ f1) allK)) (k0_pay43 (k0_pay33 (take (arg5.view.read _ f1) allK) (take (arg4.view.read _ f0) hiK)) (k0_pay35 (take (arg6.view.read _ f2) allV) (take (arg7.view.read _ f3) hiV)) (take (arg8.view.read _ f4) hiS) (take (arg9.view.read _ f5) hiS)) (take E (Rect.unit (s := S8320x256) (k0_off5 (wordQ i T0)) S384x256.size (k0_off5_inb _ _ hw h4)))) E) ?_
      refine (read_writes_put _ _ _ _ _).trans ?_
      refine congrArg (fun E => put (Rect.unit (s := S8320x256) (k0_off4 (wordQ i T0)) S256x256.size (k0_off4_inb _ _ hw h4)) (k0_pay40 (F := Ideal) (k0_pay31 (take (arg5.view.read _ f1) allK)) (k0_pay34 (take (arg6.view.read _ f2) allV) (take (arg7.view.read _ f3) loV)) (k0_pay36 (take (arg5.view.read _ f1) allK) (take (arg4.view.read _ f0) loK) (take (arg8.view.read _ f4) loS)) (k0_pay38 (take (arg9.view.read _ f5) loS)) (take E (Rect.unit (s := S8320x256) (k0_off4 (wordQ i T0)) S256x256.size (k0_off4_inb _ _ hw h4)))) E) ?_
      exact rfl
  isplitl [H7]
  · iexists _; isplitr
    · ipureintro; exact g7
    · iexact H7
  isplitl [H8]
  · iexists _; isplitr
    · ipureintro; exact g8
    · iexact H8
  isplitl [HS0]
  · iexists _; isplitr
    rotate_left
    · iexact HS0
    · ipureintro
      exact read_allK _ _ ((fun E => plainK (arg4.view.read _ f0) (arg5.view.read _ f1) (arg6.view.read _ f2) (arg7.view.read _ f3) (arg8.view.read _ f4) (arg9.view.read _ f5) E) _) _
  · iexists _; isplitr
    rotate_left
    · iexact HS1
    · ipureintro
      exact read_allV _ _ ((fun E => plainV (arg4.view.read _ f0) (arg5.view.read _ f1) (arg7.view.read _ f3) (arg8.view.read _ f4) E) _) _

end Runs

end Cert.KernelIdeal.Bwd

end
-- ==== Proof.IdealRuns2.lean ====
module

public import proofs.«01_k».proof.Proof.IdealBody

@[expose] public section

/-! # The body along the three paths that write a key block out. -/

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

section Runs

variable (c : Dev nD) (i : grid0.Coords)
variable (arg4 : Memref sig .tc .vmem S640x256 .bf16) (harg4 : arg4.IsWhole) (arg5 : Memref sig .tc .vmem S640x256 .bf16) (harg5 : arg5.IsWhole)
variable (arg6 : Memref sig .tc .vmem S640x128 .bf16) (harg6 : arg6.IsWhole) (arg7 : Memref sig .tc .vmem S640x128 .bf16) (harg7 : arg7.IsWhole)
variable (arg8 : Memref sig .tc .vmem S1x1x640 .f32) (harg8 : arg8.IsWhole) (arg9 : Memref sig .tc .vmem S1x1x640 .f32) (harg9 : arg9.IsWhole)
variable (arg10 : Memref sig .tc .vmem S8320x256 .f32) (harg10 : arg10.IsWhole) (arg11 : Memref sig .tc .vmem S640x256 .f32) (harg11 : arg11.IsWhole)
variable (arg12 : Memref sig .tc .vmem S640x128 .f32) (harg12 : arg12.IsWhole) (T0 T1 : S91.Idx → BitVec 32)
variable (q k : S640x256.Idx → Elt Ideal .bf16) (v o : S640x128.Idx → Elt Ideal .bf16) (l d : S1x1x640.Idx → Elt Ideal .f32)
variable (D : S8320x256.Idx → Elt Ideal .f32) (A : S640x256.Idx → Elt Ideal .f32) (B : S640x128.Idx → Elt Ideal .f32)
variable (X : S640x256.Idx → Elt Ideal .f32) (Y : S640x128.Idx → Elt Ideal .f32)

set_option backward.proofsInPublic true in
set_option maxHeartbeats 8000000 in
/-- The last diagonal tile: as a diagonal tile, and the key block's gradients are written out. -/
theorem run_corner
    (hw : k0_chk1 (wordQ i T0) (wordK i T1)) (h1 : ¬k0_cond1 i = 1#1) (h2 : diagonal (wordQ i T0) (wordK i T1))
    (h3 : k0_cond3 (wordQ i T0) (wordK i T1) = 1#1) (h4 : ¬k0_cond4 (wordQ i T0) (wordK i T1) = 1#1) (h5 : k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d D (wordQ i T0) (wordK i T1) hw h3)
      (maskedK q k v o l d (k0_pay2 (F := Ideal)) (wordQ i T0) (wordK i T1)) (maskedV q k o l (k0_pay3 (F := Ideal)) (wordQ i T0) (wordK i T1))
      (k0_pay9 (maskedK q k v o l d (k0_pay2 (F := Ideal)) (wordQ i T0) (wordK i T1))) (maskedV q k o l (k0_pay3 (F := Ideal)) (wordQ i T0) (wordK i T1)) := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Ideal) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Ideal) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Ideal) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Ideal) (wordK i T1)) (k0_pay17 (F := Ideal) (wordQ i T0)) (k0_pay18 (F := Ideal) (wordQ i T0) (wordK i T1)) 112#32 (take (arg9.view.read _ f5) loS) (take E (Rect.unit (s := S8320x256) (k0_off2 (wordQ i T0)) S256x256.size (k0_off2_inb _ _ hw h3)))) E) ?_
      exact rfl
  isplitl [H7]
  · iexists _; isplitr
    rotate_left
    · iexact H7
    · ipureintro
      refine (read_allK _ _ _ _).trans ?_
      refine congrArg (fun E => k0_pay9 (F := Ideal) E) ?_
      refine (View.readCov_cons_toLoadRect accK.view allK ((fun E => maskedK (arg4.view.read _ f0) (arg5.view.read _ f1) (arg6.view.read _ f2) (arg7.view.read _ f3) (arg8.view.read _ f4) (arg9.view.read _ f5) E (wordQ i T0) (wordK i T1)) _) _).trans ?_
      refine congrArg (fun E => maskedK (arg4.view.read _ f0) (arg5.view.read _ f1) (arg6.view.read _ f2) (arg7.view.read _ f3) (arg8.view.read _ f4) (arg9.view.read _ f5) E (wordQ i T0) (wordK i T1)) ?_
      exact read_allK _ _ _ _
  isplitl [H8]
  · iexists _; isplitr
    rotate_left
    · iexact H8
    · ipureintro
      refine (read_allV _ _ _ _).trans ?_
      refine (View.readCov_cons_toLoadRect accV.view allV ((fun E => maskedV (arg4.view.read _ f0) (arg5.view.read _ f1) (arg7.view.read _ f3) (arg8.view.read _ f4) E (wordQ i T0) (wordK i T1)) _) _).trans ?_
      refine congrArg (fun E => maskedV (arg4.view.read _ f0) (arg5.view.read _ f1) (arg7.view.read _ f3) (arg8.view.read _ f4) E (wordQ i T0) (wordK i T1)) ?_
      exact read_allV _ _ _ _
  isplitl [HS0]
  · iexists _; isplitr
    rotate_left
    · iexact HS0
    · ipureintro
      refine (read_allK _ _ ((fun E => maskedK (arg4.view.read _ f0) (arg5.view.read _ f1) (arg6.view.read _ f2) (arg7.view.read _ f3) (arg8.view.read _ f4) (arg9.view.read _ f5) E (wordQ i T0) (wordK i T1)) _) _).trans ?_
      refine congrArg (fun E => maskedK (arg4.view.read _ f0) (arg5.view.read _ f1) (arg6.view.read _ f2) (arg7.view.read _ f3) (arg8.view.read _ f4) (arg9.view.read _ f5) E (wordQ i T0) (wordK i T1)) ?_
      exact read_allK _ _ _ _
  · iexists _; isplitr
    rotate_left
    · iexact HS1
    · ipureintro
      refine (read_allV _ _ ((fun E => maskedV (arg4.view.read _ f0) (arg5.view.read _ f1) (arg7.view.read _ f3) (arg8.view.read _ f4) E (wordQ i T0) (wordK i T1)) _) _).trans ?_
      refine congrArg (fun E => maskedV (arg4.view.read _ f0) (arg5.view.read _ f1) (arg7.view.read _ f3) (arg8.view.read _ f4) E (wordQ i T0) (wordK i T1)) ?_
      exact read_allV _ _ _ _

set_option backward.proofsInPublic true in
set_option maxHeartbeats 8000000 in
/-- The last tile of the first key block: masked, and the key block's gradients are written out. -/
theorem run_pads_last
    (hw : k0_chk1 (wordQ i T0) (wordK i T1)) (h1 : ¬k0_cond1 i = 1#1) (h2 : ¬diagonal (wordQ i T0) (wordK i T1))
    (h3 : k0_cond3 (wordQ i T0) (wordK i T1) = 1#1) (h4 : ¬k0_cond4 (wordQ i T0) (wordK i T1) = 1#1) (h5 : k0_cond5 (wordQ i T0) = 1#1) :
    Takes c i arg4 harg4 arg5 harg5 arg6 harg6 arg7 harg7 arg8 harg8 arg9 harg9 arg10 harg10 arg11 harg11 arg12 harg12 T0 T1 q k v o l d
      D A B X Y (maskedQ q k v o l d D (wordQ i T0) (wordK i T1) hw h3)
      (maskedK q k v o l d A (wordQ i T0) (wordK i T1)) (maskedV q k o l B (wordQ i T0) (wordK i T1))
      (k0_pay9 (maskedK q k v o l d A (wordQ i T0) (wordK i T1))) (maskedV q k o l B (wordQ i T0) (wordK i T1)) := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off3 (wordQ i T0)) S384x256.size (k0_off3_inb _ _ hw h3)) (k0_pay30 (F := Ideal) (wordQ i T0) (k0_pay10 (take (arg5.view.read _ f1) allK)) (k0_pay14 (take (arg6.view.read _ f2) allV) (take (arg7.view.read _ f3) hiV)) (k0_pay24 (k0_pay12 (take (arg5.view.read _ f1) allK) (take (arg4.view.read _ f0) hiK)) (take (arg8.view.read _ f4) hiS)) (iota .tc S640x384 32 [0] iota_S640x384_d0_w32) (k0_pay25 (F := Ideal) (wordK i T1)) (take (arg9.view.read _ f5) hiS) (take E (Rect.unit (s := S8320x256) (k0_off3 (wordQ i T0)) S384x256.size (k0_off3_inb _ _ hw h3)))) E) ?_
      refine (read_writes_put _ _ _ _ _).trans ?_
      refine congrArg (fun E => put (Rect.unit (s := S8320x256) (k0_off2 (wordQ i T0)) S256x256.size (k0_off2_inb _ _ hw h3)) (k0_pay23 (F := Ideal) (k0_pay10 (take (arg5.view.read _ f1) allK)) (k0_pay13 (take (arg6.view.read _ f2) allV) (take (arg7.view.read _ f3) loV)) (k0_pay15 (take (arg5.view.read _ f1) allK) (take (arg4.view.read _ f0) loK) (take (arg8.view.read _ f4) loS)) (k0_pay16 (F := Ideal) (wordK i T1)) (k0_pay17 (F := Ideal) (wordQ i T0)) (k0_pay18 (F := Ideal) (wordQ i T0) (wordK i T1)) 112#32 (take (arg9.view.read _ f5) loS) (take E (Rect.unit (s := S8320x256) (k0_off2 (wordQ i T0)) S256x256.size (k0_off2_inb _ _ hw h3)))) E) ?_
      exact rfl
  isplitl [H7]
  · iexists _; isplitr
    rotate_left
    · iexact H7
    · ipureintro
      refine (read_allK _ _ _ _).trans ?_
      refine congrArg (fun E => k0_pay9 (F := Ideal) E) ?_
      exact View.readCov_cons_toLoadRect accK.view allK ((fun E => maskedK (arg4.view.read _ f0) (arg5.view.read _ f1) (arg6.view.read _ f2) (arg7.view.read _ f3) (arg8.view.read _ f4) (arg9.view.read _ f5) E (wordQ i T0) (wordK i T1)) _) _
  isplitl [H8]
  · iexists _; isplitr
    rotate_left
    · iexact H8
    · ipureintro
      refine (read_allV _ _ _ _).trans ?_
      exact View.readCov_cons_toLoadRect accV.view allV ((fun E => maskedV (arg4.view.read _ f0) (arg5.view.read _ f1) (arg7.view.read _ f3) (arg8.view.read _ f4) E (wordQ i T0) (wordK i T1)) _) _
  isplitl [HS0]
  · iexists _; isplitr
    rotate_left
    · iexact HS0
    · ipureintro
      exact read_allK _ _ ((fun E => maskedK (arg4.view.read _ f0) (arg5.view.read _ f1) (arg6.view.read _ f2) (arg7.view.read _ f3) (arg8.view.read _ f4) (arg9.view.read _ f5) E (wordQ i T0) (wordK i T1)) _) _
  · iexists _; isplitr
    rotate_left
    · iexact HS1
    · ipureintro
      exact read_allV _ _ ((fun E => maskedV (arg4.view.read _ f0) (arg5.view.read _ f1) (arg7.view.read _ f3) (arg8.view.read _ f4) E (wordQ i T0) (wordK i T1)) _) _

set_option backward.proofsInPublic true in
set_option maxHeartbeats 8000000 in
/-- The last unmasked tile of a key block: its gradients are written out. -/
theorem run_plain_last
    (hw : k0_chk1 (wordQ i T0) (wordK i T1)) (h1 : ¬k0_cond1 i = 1#1) (h2 : ¬diagonal (wordQ i T0) (wordK i T1))
    (h3 : ¬k0_cond3 (wordQ i T0) (wordK i T1) = 1#1) (h4 : k0_cond4 (wordQ i T0) (wordK i T1) = 1#1) (h5 : k0_cond5 (wordQ i T0) = 1#1) :
    Takes c i arg4 harg4 arg5 harg5 arg6 harg6 arg7 harg7 arg8 harg8 arg9 harg9 arg10 harg10 arg11 harg11 arg12 harg12 T0 T1 q k v o l d
      D A B X Y (plainQ q k v o l d D (wordQ i T0) (wordK i T1) hw h4)
      (plainK q k v o l d A) (plainV q k o l B)
      (k0_pay9 (plainK q k v o l d A)) (plainV q k o l B) := by
  intro K
  unfold held owns
  rw [cc0_attn_bwd_eq_skeleton]; unfold cc0_attn_bwd_skel
  iintro ⟨⟨⟨%f0, %g0, H0⟩, ⟨%f1, %g1, H1⟩, ⟨%f2, %g2, H2⟩, ⟨%f3, %g3, H3⟩, ⟨%f4, %g4, H4⟩, ⟨%f5, %g5, H5⟩, HT0, HT1, ⟨%f6, %g6, H6⟩, ⟨%f7, %g7, H7⟩, ⟨%f8, %g8, H8⟩, ⟨%f9, %g9, HS0⟩, ⟨%fa, %ga, HS1⟩⟩, Hk⟩
  subst g0 g1 g2 g3 g4 g5 g6 g9 ga
  have hS0 : accK.IsWhole := Memref.isWhole_whole _
  have hS1 : accV.IsWhole := Memref.isWhole_whole _
  have hT0 : tabQ.IsWhole := Memref.isWhole_whole _
  have hT1 : tabK.IsWhole := Memref.isWhole_whole _
  sl_exec! (disch := first | exact hw | exact h1 | exact h2 | exact h3 | exact h4 | exact h5)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [HT0]
  · iexact HT0
  isplitl [HT1]
  · iexact HT1
  isplitl [H6]
  · iexists _; isplitr
    rotate_left
    · iexact H6
    · ipureintro
      refine (read_writes_put _ _ _ _ _).trans ?_
      refine congrArg (fun E => put (Rect.unit (s := S8320x256) (k0_off5 (wordQ i T0)) S384x256.size (k0_off5_inb _ _ hw h4)) (k0_pay6 (F := Ideal) (k0_pay31 (take (arg5.view.read _ f1) allK)) (k0_pay43 (k0_pay33 (take (arg5.view.read _ f1) allK) (take (arg4.view.read _ f0) hiK)) (k0_pay35 (take (arg6.view.read _ f2) allV) (take (arg7.view.read _ f3) hiV)) (take (arg8.view.read _ f4) hiS) (take (arg9.view.read _ f5) hiS)) (take E (Rect.unit (s := S8320x256) (k0_off5 (wordQ i T0)) S384x256.size (k0_off5_inb _ _ hw h4)))) E) ?_
      refine (read_writes_put _ _ _ _ _).trans ?_
      refine congrArg (fun E => put (Rect.unit (s := S8320x256) (k0_off4 (wordQ i T0)) S256x256.size (k0_off4_inb _ _ hw h4)) (k0_pay40 (F := Ideal) (k0_pay31 (take (arg5.view.read _ f1) allK)) (k0_pay34 (take (arg6.view.read _ f2) allV) (take (arg7.view.read _ f3) loV)) (k0_pay36 (take (arg5.view.read _ f1) allK) (take (arg4.view.read _ f0) loK) (take (arg8.view.read _ f4) loS)) (k0_pay38 (take (arg9.view.read _ f5) loS)) (take E (Rect.unit (s := S8320x256) (k0_off4 (wordQ i T0)) S256x256.size (k0_off4_inb _ _ hw h4)))) E) ?_
      exact rfl
  isplitl [H7]
  · iexists _; isplitr
    rotate_left
    · iexact H7
    · ipureintro
      refine (read_allK _ _ _ _).trans ?_
      refine congrArg (fun E => k0_pay9 (F := Ideal) E) ?_
      exact View.readCov_cons_toLoadRect accK.view allK ((fun E => plainK (arg4.view.read _ f0) (arg5.view.read _ f1) (arg6.view.read _ f2) (arg7.view.read _ f3) (arg8.view.read _ f4) (arg9.view.read _ f5) E) _) _
  isplitl [H8]
  · iexists _; isplitr
    rotate_left
    · iexact H8
    · ipureintro
      refine (read_allV _ _ _ _).trans ?_
      exact View.readCov_cons_toLoadRect accV.view allV ((fun E => plainV (arg4.view.read _ f0) (arg5.view.read _ f1) (arg7.view.read _ f3) (arg8.view.read _ f4) E) _) _
  isplitl [HS0]
  · iexists _; isplitr
    rotate_left
    · iexact HS0
    · ipureintro
      exact read_allK _ _ ((fun E => plainK (arg4.view.read _ f0) (arg5.view.read _ f1) (arg6.view.read _ f2) (arg7.view.read _ f3) (arg8.view.read _ f4) (arg9.view.read _ f5) E) _) _
  · iexists _; isplitr
    rotate_left
    · iexact HS1
    · ipureintro
      exact read_allV _ _ ((fun E => plainV (arg4.view.read _ f0) (arg5.view.read _ f1) (arg7.view.read _ f3) (arg8.view.read _ f4) E) _) _

end Runs

end Cert.KernelIdeal.Bwd

end
-- ==== Proof.IdealTile.lean ====
module

public import proofs.«01_k».proof.Proof.IdealFacts
public import proofs.«01_k».proof.Proof.IdealRuns1
public import proofs.«01_k».proof.Proof.IdealRuns2

@[expose] public section

/-!
# One point of the grid

What the body leaves at a point in the query gradient's block and in the two accumulators, whichever path it takes, and the run
of the body at the point.
-/

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev ms0 (t : Fin cfgA.N) : Memref sig .tc .vmem S640x256 .bf16 := spec0_0.stage (cfgA.slots t (0 : Fin 9))
abbrev hs0 (t : Fin cfgA.N) : (ms0 t).IsWhole := hstage0_0 ((cfgA.slots t (0 : Fin 9)).cast nbuf0_0)
abbrev ms1 (t : Fin cfgA.N) : Memref sig .tc .vmem S640x256 .bf16 := spec0_1.stage (cfgA.slots t (1 : Fin 9))
abbrev hs1 (t : Fin cfgA.N) : (ms1 t).IsWhole := hstage0_1 ((cfgA.slots t (1 : Fin 9)).cast nbuf0_1)
abbrev ms2 (t : Fin cfgA.N) : Memref sig .tc .vmem S640x128 .bf16 := spec0_2.stage (cfgA.slots t (2 : Fin 9))
abbrev hs2 (t : Fin cfgA.N) : (ms2 t).IsWhole := hstage0_2 ((cfgA.slots t (2 : Fin 9)).cast nbuf0_2)
abbrev ms3 (t : Fin cfgA.N) : Memref sig .tc .vmem S640x128 .bf16 := spec0_3.stage (cfgA.slots t (3 : Fin 9))
abbrev hs3 (t : Fin cfgA.N) : (ms3 t).IsWhole := hstage0_3 ((cfgA.slots t (3 : Fin 9)).cast nbuf0_3)
abbrev ms4 (t : Fin cfgA.N) : Memref sig .tc .vmem S1x1x640 .f32 := spec0_4.stage (cfgA.slots t (4 : Fin 9))
abbrev hs4 (t : Fin cfgA.N) : (ms4 t).IsWhole := hstage0_4 ((cfgA.slots t (4 : Fin 9)).cast nbuf0_4)
abbrev ms5 (t : Fin cfgA.N) : Memref sig .tc .vmem S1x1x640 .f32 := spec0_5.stage (cfgA.slots t (5 : Fin 9))
abbrev hs5 (t : Fin cfgA.N) : (ms5 t).IsWhole := hstage0_5 ((cfgA.slots t (5 : Fin 9)).cast nbuf0_5)
abbrev ms6 (t : Fin cfgA.N) : Memref sig .tc .vmem S8320x256 .f32 := spec0_6.stage (cfgA.slots t (6 : Fin 9))
abbrev hs6 (t : Fin cfgA.N) : (ms6 t).IsWhole := hstage0_6 ((cfgA.slots t (6 : Fin 9)).cast nbuf0_6)
abbrev ms7 (t : Fin cfgA.N) : Memref sig .tc .vmem S640x256 .f32 := spec0_7.stage (cfgA.slots t (7 : Fin 9))
abbrev hs7 (t : Fin cfgA.N) : (ms7 t).IsWhole := hstage0_7 ((cfgA.slots t (7 : Fin 9)).cast nbuf0_7)
abbrev ms8 (t : Fin cfgA.N) : Memref sig .tc .vmem S640x128 .f32 := spec0_8.stage (cfgA.slots t (8 : Fin 9))
abbrev hs8 (t : Fin cfgA.N) : (ms8 t).IsWhole := hstage0_8 ((cfgA.slots t (8 : Fin 9)).cast nbuf0_8)

section Tile

variable (t : Fin cfgA.N)
variable (q k : S640x256.Idx → Elt Ideal .bf16) (v o : S640x128.Idx → Elt Ideal .bf16) (l d : S1x1x640.Idx → Elt Ideal .f32)
variable (D : S8320x256.Idx → Elt Ideal .f32) (A : S640x256.Idx → Elt Ideal .f32) (B : S640x128.Idx → Elt Ideal .f32)

/-- The query gradient's block as the point's tile finds it, after the head's first point zeroed it, -/
def startD : S8320x256.Idx → Elt Ideal .f32 := if k0_cond1 (crd t) = 1#1 then k0_pay1 (F := Ideal) else D
/-- and the two accumulators, after a diagonal tile zeroed them. -/
def startA : S640x256.Idx → Elt Ideal .f32 := if diagonal (uQ t) (uK t) then k0_pay2 (F := Ideal) else A
def startB : S640x128.Idx → Elt Ideal .f32 := if diagonal (uQ t) (uK t) then k0_pay3 (F := Ideal) else B

/-- What the point leaves in the query gradient's block, -/
def tileD : S8320x256.Idx → Elt Ideal .f32 :=
  if h : k0_cond3 (uQ t) (uK t) = 1#1 then maskedQ q k v o l d (startD t D) (uQ t) (uK t) (facts t).1 h
  else plainQ q k v o l d (startD t D) (uQ t) (uK t) (facts t).1 ((facts t).2.2.2.2.1 h)
/-- in the key gradient's accumulator -/
def tileA : S640x256.Idx → Elt Ideal .f32 :=
  if k0_cond3 (uQ t) (uK t) = 1#1 then maskedK q k v o l d (startA t A) (uQ t) (uK t) else plainK q k v o l d (startA t A)
/-- and in the value gradient's. -/
def tileB : S640x128.Idx → Elt Ideal .f32 :=
  if k0_cond3 (uQ t) (uK t) = 1#1 then maskedV q k o l (startB t B) (uQ t) (uK t) else plainV q k o l (startB t B)

variable (c : Dev nD) (X : S640x256.Idx → Elt Ideal .f32) (Y : S640x128.Idx → Elt Ideal .f32)

set_option backward.proofsInPublic true in
/-- The body's run at a point, where it writes the key block's gradients out. -/
theorem takes_out (h5 : k0_cond5 (uQ t) = 1#1) :
    Takes c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y
      (tileD t q k v o l d D) (tileA t q k v o l d A) (tileB t q k o l B) (k0_pay9 (F := Ideal) (tileA t q k v o l d A)) (tileB t q k o l B) := by
  obtain ⟨hw, hf1, hf2, hf3, hf4, -⟩ := facts t
  have h1 : ¬k0_cond1 (crd t) = 1#1 := fun h => (hf1 h).2 h5
  unfold tileD tileA tileB startD startA startB
  by_cases h3 : k0_cond3 (uQ t) (uK t) = 1#1
  · simp only [dif_pos h3, if_pos h3, if_neg h1]
    by_cases h2 : diagonal (uQ t) (uK t)
    · simp only [if_pos h2]
      exact run_corner c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
    · simp only [if_neg h2]
      exact run_pads_last c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
  · have h2 : ¬diagonal (uQ t) (uK t) := fun h => h3 (hf2 h)
    simp only [dif_neg h3, if_neg h3, if_neg h1, if_neg h2]
    exact run_plain_last c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf4 h3) h5

set_option backward.proofsInPublic true in
/-- The body's run at a point that leaves the key block's gradients to a later one. -/
theorem takes_on (h5 : ¬k0_cond5 (uQ t) = 1#1) :
    Takes c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y
      (tileD t q k v o l d D) (tileA t q k v o l d A) (tileB t q k o l B) X Y := by
  obtain ⟨hw, hf1, hf2, hf3, hf4, -⟩ := facts t
  unfold tileD tileA tileB startD startA startB
  by_cases h3 : k0_cond3 (uQ t) (uK t) = 1#1
  · simp only [dif_pos h3, if_pos h3]
    by_cases h2 : diagonal (uQ t) (uK t)
    · simp only [if_pos h2]
      by_cases h1 : k0_cond1 (crd t) = 1#1
      · simp only [if_pos h1]
        exact run_first c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
      · simp only [if_neg h1]
        exact run_diagonal c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
    · have h1 : ¬k0_cond1 (crd t) = 1#1 := fun h => h2 (hf1 h).1
      simp only [if_neg h2, if_neg h1]
      exact run_pads c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf3 h3) h5
  · have h2 : ¬diagonal (uQ t) (uK t) := fun h => h3 (hf2 h)
    have h1 : ¬k0_cond1 (crd t) = 1#1 := fun h => h2 (hf1 h).1
    simp only [dif_neg h3, if_neg h3, if_neg h1, if_neg h2]
    exact run_plain c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) tQ tK q k v o l d D A B X Y hw h1 h2 h3 (hf4 h3) h5

end Tile

end Cert.KernelIdeal.Bwd

end
-- ==== Proof.IdealData.lean ====
module

public import proofs.«01_k».proof.Proof.IdealTile

@[expose] public section

/-!
# The run of the grid

The contents of the query gradient's block and of the two accumulators before each point, the pipeline's proof data over them,
and the body's obligation at every point.
-/

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (c : Dev nD)

/-- The buffers when the grid begins: after the host's lines. -/
def entry (b : Ref sig .tc) : Buf (Elt Ideal) ((c.tc : Thread nD τ).loc b) := StableHlo.after hostOps0 (fun b => m (c, b)) b

/-- Window 0's block at a point. -/
def blk0 (t : Fin cfgA.N) : S640x256.Idx → Elt Ideal .bf16 := ((cfgA.win (0 : Fin 9)).blk t).view.read (Elt Ideal) (entry m c (Pipeline.arrRef spec0 (0 : Fin 9)))
def blk1 (t : Fin cfgA.N) : S640x256.Idx → Elt Ideal .bf16 := ((cfgA.win (1 : Fin 9)).blk t).view.read (Elt Ideal) (entry m c (Pipeline.arrRef spec0 (1 : Fin 9)))
def blk2 (t : Fin cfgA.N) : S640x128.Idx → Elt Ideal .bf16 := ((cfgA.win (2 : Fin 9)).blk t).view.read (Elt Ideal) (entry m c (Pipeline.arrRef spec0 (2 : Fin 9)))
def blk3 (t : Fin cfgA.N) : S640x128.Idx → Elt Ideal .bf16 := ((cfgA.win (3 : Fin 9)).blk t).view.read (Elt Ideal) (entry m c (Pipeline.arrRef spec0 (3 : Fin 9)))
def blk4 (t : Fin cfgA.N) : S1x1x640.Idx → Elt Ideal .f32 := ((cfgA.win (4 : Fin 9)).blk t).view.read (Elt Ideal) (entry m c (Pipeline.arrRef spec0 (4 : Fin 9)))
def blk5 (t : Fin cfgA.N) : S1x1x640.Idx → Elt Ideal .f32 := ((cfgA.win (5 : Fin 9)).blk t).view.read (Elt Ideal) (entry m c (Pipeline.arrRef spec0 (5 : Fin 9)))

/-- The query gradient's block and the two accumulators. -/
abbrev St : Type := (S8320x256.Idx → Elt Ideal .f32) × (S640x256.Idx → Elt Ideal .f32) × (S640x128.Idx → Elt Ideal .f32)

/-- What a point makes of them. -/
def step (t : Fin cfgA.N) (s : St) : St :=
  (tileD t (blk0 m c t) (blk1 m c t) (blk2 m c t) (blk3 m c t) (blk4 m c t) (blk5 m c t) s.1, tileA t (blk0 m c t) (blk1 m c t) (blk2 m c t) (blk3 m c t) (blk4 m c t) (blk5 m c t) s.2.1, tileB t (blk0 m c t) (blk1 m c t) (blk3 m c t) (blk4 m c t) s.2.2)

/-- What they hold before the `n`-th point (before the first, anything). -/
def traj : ℕ → St
  | 0 => (k0_pay1 (F := Ideal), k0_pay2 (F := Ideal), k0_pay3 (F := Ideal))
  | n + 1 => if h : n < cfgA.N then step m c ⟨n, h⟩ (traj n) else traj n

theorem traj_succ (t : Fin cfgA.N) : traj m c (t.val + 1) = step m c t (traj m c t.val) := by
  rw [traj, dif_pos t.isLt]

/-- A point reads of the query gradient's block and the accumulators only what it did not zero. -/
theorem step_congr (t : Fin cfgA.N) (s : St) (D A B) (hD : ¬k0_cond1 (crd t) = 1#1 → D = s.1)
    (hA : ¬diagonal (uQ t) (uK t) → A = s.2.1) (hB : ¬diagonal (uQ t) (uK t) → B = s.2.2) :
    (tileD t (blk0 m c t) (blk1 m c t) (blk2 m c t) (blk3 m c t) (blk4 m c t) (blk5 m c t) D, tileA t (blk0 m c t) (blk1 m c t) (blk2 m c t) (blk3 m c t) (blk4 m c t) (blk5 m c t) A, tileB t (blk0 m c t) (blk1 m c t) (blk3 m c t) (blk4 m c t) B) = step m c t s := by
  have e1 : startD t D = startD t s.1 := by
    unfold startD; split
    · rfl
    · rename_i h; exact hD h
  have e2 : startA t A = startA t s.2.1 := by
    unfold startA; split
    · rfl
    · rename_i h; exact hA h
  have e3 : startB t B = startB t s.2.2 := by
    unfold startB; split
    · rfl
    · rename_i h; exact hB h
  unfold step tileD tileA tileB
  rw [e1, e2, e3]

/-- Between points: the accumulators, the body's halves of the tables, the generator's register. -/
def Phi (n : ℕ) : sProp 𝕄 :=
  iprop((∃ A B, ⌜n ≠ 0 → A = (traj m c n).2.1 ∧ B = (traj m c n).2.2⌝ ∗ owns (c : Thread nD τ) accK fullShare A ∗ owns (c : Thread nD τ) accV fullShare B)
    ∗ (tabQ.view.loc (c : Thread nD τ) ↦{fullShare.right} tQ) ∗ (tabK.view.loc (c : Thread nD τ) ↦{fullShare.right} tK) ∗ ∃ r, prngReg c r)

/-- The pipeline's proof data on a core. -/
def dats (_ : Fin 1) (c : Dev nD) : Dat τ (Elt Ideal) Unit ℕ (UR sig nD τ) ℕ cfgA c where
  A w := entry m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => (traj m c (t.val + 1)).1
    | ⟨7, _⟩ => k0_pay9 (F := Ideal) (traj m c (t.val + 1)).2.1
    | ⟨8, _⟩ => (traj m c (t.val + 1)).2.2
  Φ t := Phi m c t.val
  q _ := fullShare
  owed _ := 0

theorem after0 (t : Fin cfgA.N) : (dats m 0 c).after (0 : Fin 9) t = blk0 m c t := rfl
theorem after1 (t : Fin cfgA.N) : (dats m 0 c).after (1 : Fin 9) t = blk1 m c t := rfl
theorem after2 (t : Fin cfgA.N) : (dats m 0 c).after (2 : Fin 9) t = blk2 m c t := rfl
theorem after3 (t : Fin cfgA.N) : (dats m 0 c).after (3 : Fin 9) t = blk3 m c t := rfl
theorem after4 (t : Fin cfgA.N) : (dats m 0 c).after (4 : Fin 9) t = blk4 m c t := rfl
theorem after5 (t : Fin cfgA.N) : (dats m 0 c).after (5 : Fin 9) t = blk5 m c t := rfl
theorem after6 (t : Fin cfgA.N) : (dats m 0 c).after (6 : Fin 9) t = (traj m c (t.val + 1)).1 := rfl
theorem after7 (t : Fin cfgA.N) : (dats m 0 c).after (7 : Fin 9) t = k0_pay9 (F := Ideal) (traj m c (t.val + 1)).2.1 := rfl
theorem after8 (t : Fin cfgA.N) : (dats m 0 c).after (8 : Fin 9) t = (traj m c (t.val + 1)).2.2 := rfl

/-- An input's window holds its block, fetched at the point or before. -/
theorem before0 (t : Fin cfgA.N) (d) : (dats m 0 c).before (0 : Fin 9) t d = blk0 m c t :=
  ((dats m 0 c).before_in_eq_fetched (0 : Fin 9) rfl (fun _ => rfl) (fun _ _ _ => rfl) (fun t => by rw [after0]; unfold Dat.blockOf blk0; rfl) t d).trans
    (by unfold Dat.fetched Dat.blockOf blk0; rfl)
theorem before1 (t : Fin cfgA.N) (d) : (dats m 0 c).before (1 : Fin 9) t d = blk1 m c t :=
  ((dats m 0 c).before_in_eq_fetched (1 : Fin 9) rfl (fun _ => rfl) (fun _ _ _ => rfl) (fun t => by rw [after1]; unfold Dat.blockOf blk1; rfl) t d).trans
    (by unfold Dat.fetched Dat.blockOf blk1; rfl)
theorem before2 (t : Fin cfgA.N) (d) : (dats m 0 c).before (2 : Fin 9) t d = blk2 m c t :=
  ((dats m 0 c).before_in_eq_fetched (2 : Fin 9) rfl (fun _ => rfl) (fun _ _ _ => rfl) (fun t => by rw [after2]; unfold Dat.blockOf blk2; rfl) t d).trans
    (by unfold Dat.fetched Dat.blockOf blk2; rfl)
theorem before3 (t : Fin cfgA.N) (d) : (dats m 0 c).before (3 : Fin 9) t d = blk3 m c t :=
  ((dats m 0 c).before_in_eq_fetched (3 : Fin 9) rfl (fun _ => rfl) (fun _ _ _ => rfl) (fun t => by rw [after3]; unfold Dat.blockOf blk3; rfl) t d).trans
    (by unfold Dat.fetched Dat.blockOf blk3; rfl)
theorem before4 (t : Fin cfgA.N) (d) : (dats m 0 c).before (4 : Fin 9) t d = blk4 m c t :=
  ((dats m 0 c).before_in_eq_fetched (4 : Fin 9) rfl (fun _ => rfl) (fun _ _ _ => rfl) (fun t => by rw [after4]; unfold Dat.blockOf blk4; rfl) t d).trans
    (by unfold Dat.fetched Dat.blockOf blk4; rfl)
theorem before5 (t : Fin cfgA.N) (d) : (dats m 0 c).before (5 : Fin 9) t d = blk5 m c t :=
  ((dats m 0 c).before_in_eq_fetched (5 : Fin 9) rfl (fun _ => rfl) (fun _ _ _ => rfl) (fun t => by rw [after5]; unfold Dat.blockOf blk5; rfl) t d).trans
    (by unfold Dat.fetched Dat.blockOf blk5; rfl)

/-- Past a head's first point the query gradient's window holds what the point before left. -/
theorem before6 (t : Fin cfgA.N) (d) (h : ¬k0_cond1 (crd t) = 1#1) : (dats m 0 c).before (6 : Fin 9) t d = (traj m c t.val).1 := by
  obtain ⟨h0, hf⟩ := (facts t).2.2.2.2.2.2.2.2 h
  have hi : ∀ i, cfgA.idle (6 : Fin 9) i = false := idle6
  rw [(dats m 0 c).before_out_kept (6 : Fin 9) rfl t h0 hf hi (fun _ _ => rfl) d, after6]
  show (traj m c (t.val - 1 + 1)).1 = _
  rw [Nat.sub_add_cancel (Nat.one_le_iff_ne_zero.2 h0)]

/-- The grid's first point is on the diagonal. -/
theorem first_diagonal (t : Fin cfgA.N) (h : ¬diagonal (uQ t) (uK t)) : t.val ≠ 0 :=
  ((facts t).2.2.2.2.2.2.2.2 fun h1 => h ((facts t).2.1 h1).1).1

/-- The body at a point, as the pipeline calls it. -/
abbrev bodyAt (t : Fin cfgA.N) : Prog (TpuEff nD τ sig (Elt Ideal) Λ₀ .tc) PUnit :=
  cc0_attn_bwd (crd t) tabQ (Memref.isWhole_whole _) tabK (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accK (Memref.isWhole_whole _) accV (Memref.isWhole_whole _)

set_option maxHeartbeats 9600000 in
/-- The body's obligation at a point. -/
theorem sound_body (t : Fin cfgA.N) :
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  by_cases h5 : k0_cond5 (uQ t) = 1#1
  · obtain ⟨i6, i7, i8⟩ := And.intro (facts t).2.2.2.2.2.1 ((facts t).2.2.2.2.2.2.1 h5)
    rewrite [i6, i7]
    try rewrite [i8]
    simp only [before0, before1, before2, before3, before4, before5, after0, after1, after2, after3, after4, after5, after6, after7, after8]
    rewrite [show (dats m 0 c).Φ t.succ = Phi m c (t.val + 1) from rfl, show (dats m 0 c).Φ t.castSucc = Phi m c t.val from rfl,
      show (dats m 0 c).owesAt () t.succ = (dats m 0 c).owesAt () t.castSucc from rfl]
    unfold Phi
    iintro ⟨⟨⟨%A, %B, %hAB, HA, HB⟩, HT0, HT1, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hs := step_congr m c t (traj m c t.val) ((dats m 0 c).before (6 : Fin 9) t d6) A B (before6 m c t d6)
      (fun h => (hAB (first_diagonal t h)).1) (fun h => (hAB (first_diagonal t h)).2)
    have e1 := congrArg Prod.fst hs
    have e2 := congrArg (fun s => s.2.1) hs
    have e3 := congrArg (fun s => s.2.2) hs
    rw [← traj_succ] at e1 e2 e3
    dsimp only at e1 e2 e3
    rw [← e1, ← e2, ← e3]
    iapply (takes_out t (blk0 m c t) (blk1 m c t) (blk2 m c t) (blk3 m c t) (blk4 m c t) (blk5 m c t) ((dats m 0 c).before (6 : Fin 9) t d6) A B c ((dats m 0 c).before (7 : Fin 9) t d7) ((dats m 0 c).before (8 : Fin 9) t d8) h5 _)
    unfold held
    isplitl [H0 H1 H2 H3 H4 H5 H6 H7 H8 HA HB HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      isplitl [HT1]; · iexact HT1
      isplitl [H6]; · iexact H6
      isplitl [H7]; · iexact H7
      isplitl [H8]; · iexact H8
      isplitl [HA]; · iexact HA
      iexact HB
    iintro ⟨H0, H1, H2, H3, H4, H5, HT0, HT1, H6, H7, H8, HA, HB⟩
    isplitl [HA HB HT0 HT1 Hp]
    · isplitl [HA HB]
      · iexists _; iexists _
        isplitr
        rotate_left
        · isplitl [HA]
          · iexact HA
          · iexact HB
        · ipureintro; exact fun _ => ⟨rfl, rfl⟩
      isplitl [HT0]; · iexact HT0
      isplitl [HT1]; · iexact HT1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨i6, i7, i8, fl7, fl8⟩ := And.intro (facts t).2.2.2.2.2.1 ((facts t).2.2.2.2.2.2.2.1 h5)
    rewrite [i6, i7]
    try rewrite [i8]
    simp only [before0, before1, before2, before3, before4, before5, after0, after1, after2, after3, after4, after5, after6, fl7, fl8]
    rewrite [show (dats m 0 c).Φ t.succ = Phi m c (t.val + 1) from rfl, show (dats m 0 c).Φ t.castSucc = Phi m c t.val from rfl,
      show (dats m 0 c).owesAt () t.succ = (dats m 0 c).owesAt () t.castSucc from rfl]
    unfold Phi
    iintro ⟨⟨⟨%A, %B, %hAB, HA, HB⟩, HT0, HT1, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hs := step_congr m c t (traj m c t.val) ((dats m 0 c).before (6 : Fin 9) t d6) A B (before6 m c t d6)
      (fun h => (hAB (first_diagonal t h)).1) (fun h => (hAB (first_diagonal t h)).2)
    have e1 := congrArg Prod.fst hs
    have e2 := congrArg (fun s => s.2.1) hs
    have e3 := congrArg (fun s => s.2.2) hs
    rw [← traj_succ] at e1 e2 e3
    dsimp only at e1 e2 e3
    rw [← e1, ← e2, ← e3]
    iapply (takes_on t (blk0 m c t) (blk1 m c t) (blk2 m c t) (blk3 m c t) (blk4 m c t) (blk5 m c t) ((dats m 0 c).before (6 : Fin 9) t d6) A B c ((dats m 0 c).before (7 : Fin 9) t d7) ((dats m 0 c).before (8 : Fin 9) t d8) h5 _)
    unfold held
    isplitl [H0 H1 H2 H3 H4 H5 H6 H7 H8 HA HB HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      isplitl [HT1]; · iexact HT1
      isplitl [H6]; · iexact H6
      isplitl [H7]; · iexact H7
      isplitl [H8]; · iexact H8
      isplitl [HA]; · iexact HA
      iexact HB
    iintro ⟨H0, H1, H2, H3, H4, H5, HT0, HT1, H6, H7, H8, HA, HB⟩
    isplitl [HA HB HT0 HT1 Hp]
    · isplitl [HA HB]
      · iexists _; iexists _
        isplitr
        rotate_left
        · isplitl [HA]
          · iexact HA
          · iexact HB
        · ipureintro; exact fun _ => ⟨rfl, rfl⟩
      isplitl [HT0]; · iexact HT0
      isplitl [HT1]; · iexact HT1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists d7; iexact H7
    iexists d8; iexact H8

theorem body_obligation : BodyObligation (dats m 0 c) (defs₀ (F := Ideal)) Variants.none () Set.univ := fun t => by
  rw [bigSep_W0]
  exact sound_body m c t

end Cert.KernelIdeal.Bwd

end
-- ==== Proof.IdealLaunch.lean ====
module

public import proofs.«01_k».proof.Proof.IdealData

@[expose] public section

/-!
# The launch

@main from any memory: the host's lines fill the tables, the grid runs, every output array ends as the write-backs leave it and
every other buffer as the host's lines left it.
-/

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (c : Dev nD) (g : Dev nD → PrngReg)

/-- The buffers that the host's lines write, in order. -/
def written : List (Ref sig .tc) :=
  [main_c, main_c_0, main_cst, main_v0, main_v1, main_cst_1, main_v2, main_v3, main_v4, main_v5, main_v6, main_v7,
    main_v8, main_c_2, main_v9, main_v10, main_v11, main_v12, main_v13, main_v14, main_cst_3, main_v15, main_v16,
    main_cst_4, main_v17, main_v18, main_v19, main_v20, main_v21, main_cst_5, main_v22, main_v23, main_v24,
    main_v25, main_v26, main_v27, main_v28, main_v29, main_v30, main_v31, main_v32, main_v33, main_v34, main_v35,
    main_cst_6, main_v36, main_v37, main_v38, main_v39, main_v40, main_v41, main_v42, main_v43, main_v44]

theorem hostOps0_written : (hostOps0 (F := Ideal)).map HloOp.writes = written.map fun r => {Proc.devRef (τ := τ) .tc r} := rfl

/-- A buffer that no host line writes keeps its contents. -/
theorem entry_kept (r : Ref sig .tc) (hr : r ∉ written) : entry m c r = m ((c.tc : Thread nD τ).loc r) :=
  StableHlo.after_of_writes_sub hostOps0 _ (StableHlo.forall_writes_sub_of_map hostOps0_written) hr

theorem lit_tabQ : ∀ x : Fin 91, lit0 x = BitVec.ofNat 32 (qOf x.val) := by decide +kernel
theorem lit_tabK : ∀ x : Fin 91, lit1 x = BitVec.ofNat 32 (kOf x.val) := by decide +kernel

/-- The host's lines write the two tables. -/
theorem entry_tabQ : entry m c main_c = tQ := by
  have h : entry m c main_c = fun i => lit0 (S91.rowMajor i) := by
    unfold entry
    simp only [hostOps0, StableHlo.after_cons, StableHlo.after_nil, StableHlo.readResult]
    exact StableHlo.nullary_result ..
  rw [h]
  funext i
  refine (lit_tabQ (S91.rowMajor i)).trans ?_
  rw [show ((S91.rowMajor i : Fin 91) : ℕ) = (i 0).val from Shape.rowMajor_val_one i]
theorem entry_tabK : entry m c main_c_0 = tK := by
  have h : entry m c main_c_0 = fun i => lit1 (S91.rowMajor i) := by
    unfold entry
    simp only [hostOps0, StableHlo.after_cons, StableHlo.after_nil, StableHlo.readResult]
    exact StableHlo.nullary_result ..
  rw [h]
  funext i
  refine (lit_tabK (S91.rowMajor i)).trans ?_
  rw [show ((S91.rowMajor i : Fin 91) : ℕ) = (i 0).val from Shape.rowMajor_val_one i]

theorem entry_tabs (k : Fin 2) : entry m c (pre0.ref k) = tabs k := by
  match k with
  | ⟨0, _⟩ => exact entry_tabQ m c
  | ⟨1, _⟩ => exact entry_tabK m c

/-- No host line writes an argument. -/
theorem entry_arg0 : entry m c main_arg0 = m ((c.tc : Thread nD τ).loc main_arg0) := entry_kept m c main_arg0 (by decide)
theorem entry_arg1 : entry m c main_arg1 = m ((c.tc : Thread nD τ).loc main_arg1) := entry_kept m c main_arg1 (by decide)
theorem entry_arg2 : entry m c main_arg2 = m ((c.tc : Thread nD τ).loc main_arg2) := entry_kept m c main_arg2 (by decide)
theorem entry_arg3 : entry m c main_arg3 = m ((c.tc : Thread nD τ).loc main_arg3) := entry_kept m c main_arg3 (by decide)

theorem prefHeld_eq (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_first : iprop(Pipeline.ΦA (cfgA).spec c ∗ Pipeline.ΦT pre0 adm.1 c) ⊢ (dats m 0 c).Φ 0 := by
  rw [show (dats m 0 c).Φ 0 = Phi m c 0 from rfl]
  unfold Phi Pipeline.ΦA Pipeline.ΦT
  simp only [owns_whole_eq]
  rw [prefHeld_eq, show (Pipeline.scopedRest (Ix := Unit) (Name := ℕ) (U := UR sig nD τ) (Lvl := ℕ) (Val := Elt Ideal) cfgA.spec c : sProp 𝕄) = _ from scopedRest0_eq c]
  iintro ⟨⟨⟨⟨%a0, HS0⟩, ⟨%a1, HS1⟩⟩, Hp⟩, HT0, HT1⟩
  isplitl [HS0 HS1]
  · iexists a0; iexists a1
    isplitr
    · ipureintro; exact fun h => absurd rfl h
    isplitl [HS0]
    · iexists a0; isplitr
      · ipureintro; rfl
      · iexact HS0
    · iexists a1; isplitr
      · ipureintro; rfl
      · iexact HS1
  isplitl [HT0]; · iexact HT0
  isplitl [HT1]; · iexact HT1
  iexact Hp

theorem phi_last : (dats m 0 c).Φ (Fin.last cfgA.N) ⊢ (Pipeline.ΦA (cfgA).spec c : sProp 𝕄) := by
  rw [show (dats m 0 c).Φ (Fin.last cfgA.N) = Phi m c cfgA.N from rfl]
  unfold Phi Pipeline.ΦA
  simp only [owns_whole_eq]
  rw [show (Pipeline.scopedRest (Ix := Unit) (Name := ℕ) (U := UR sig nD τ) (Lvl := ℕ) (Val := Elt Ideal) cfgA.spec c : sProp 𝕄) = _ from scopedRest0_eq c]
  iintro ⟨⟨%A, %B, -, ⟨%a0, -, HS0⟩, ⟨%a1, -, HS1⟩⟩, -, -, Hp⟩
  isplitl [HS0 HS1]
  · isplitl [HS0]
    · iexists a0; iexact HS0
    · iexists a1; iexact HS1
  iexact Hp

/-- The run: every array as the write-backs leave it, every other buffer as the host's lines left it. -/
theorem run_main :
    θ_run (defs (F := Ideal)) (onTc (τ := τ) (main (F := Ideal))) ⟨m, fun _ => 0, g⟩
      (fun r => Pipeline.FramePost pcs (dats m) 0 (entry m) r ∧ r.2.sem = fun _ => 0) :=
  Pipeline.θ_run_frameP_track (pcfgs (F := Ideal)) (fun _ => adm) (dats m) 0 (launch0 (F := Ideal)) defs₀ Variants.none m g main
    (fun c => (body_obligation m c).loose)
    (fun c w => by unfold Dat.share; split <;> rfl) (fun _ _ => rfl) (entry m)
    (Pipeline.hmainP_prefix (pcfgs (F := Ideal)) 0 defs₀ Variants.none m main hostOps0 hostOps0_sub (by repeat' constructor) main_chain)
    (fun _ _ => rfl) (fun c k => entry_tabs m c k) (phi_first m) (phi_last m) _ (fun _ h => h)

theorem frame :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 _ (Pipeline.mem_restRefs_of main_arg0 rfl (by decide))).trans (entry_arg0 m c),
      ((h.1 c).2 _ (Pipeline.mem_restRefs_of main_arg1 rfl (by decide))).trans (entry_arg1 m c),
      ((h.1 c).2 _ (Pipeline.mem_restRefs_of main_arg2 rfl (by decide))).trans (entry_arg2 m c),
      ((h.1 c).2 _ (Pipeline.mem_restRefs_of main_arg3 rfl (by decide))).trans (entry_arg3 m c)⟩, h.2⟩) (run_main m g)

end Cert.KernelIdeal.Bwd

end
-- ==== Proof.RefFrame.lean ====
module

public import proofs.«01_k».proof.Defs
public import proofs.«01_k».proof.Proof.Gen.ReferenceIdeal.Run
public import Idealize.ShloMosaic.Lib.Quiescent

@[expose] public section

/-!
# The reference's run

The reference is a straight line of host operations: it declares no semaphore, so every counter stays at zero.
-/

noncomputable section

namespace Cert.ReferenceIdeal.Bwd

open Cert.ReferenceIdeal Cert.ReferenceIdeal.Gen
open Idealize.ShloMosaic Idealize.SL.Sem

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩)
    (Cert.ReferenceIdeal.Value.run (F := Ideal) m g)

end Cert.ReferenceIdeal.Bwd

end
-- ==== Proof.Attn.lean ====
module

public import Idealize.ShloMosaic.Lib.Pointwise

@[expose] public section

/-!
# The mathematics of one head

Real-valued, over row numbers: which keys a query sees, its weights, the backward pass's products. What the two programs
compute is read in these terms.
-/

noncomputable section

namespace Cert.Attn

open Idealize.ShloMosaic

/-- A query sees the keys up to its own, of which the first 112 are padding: those only themselves see. -/
def sees (k q : ℕ) : Prop := k ≤ q ∧ (112 ≤ k ∨ k = q)

instance (k q : ℕ) : Decidable (sees k q) := inferInstanceAs (Decidable (_ ∧ _))

theorem sees_self (q : ℕ) : sees q q := ⟨le_refl q, .inr rfl⟩

/-- The programs' test of that, on 32-bit words. -/
theorem word_sees (k q : ℕ) (hk : k < 2 ^ 31) (hq : q < 2 ^ 31) :
    IntOp.andi (IntOp.cmpi .sle (BitVec.ofNat 32 k) (BitVec.ofNat 32 q))
      (IntOp.ori (IntOp.cmpi .sge (BitVec.ofNat 32 k) 112#32) (IntOp.cmpi .eq (BitVec.ofNat 32 k) (BitVec.ofNat 32 q)))
      = BitVec.ofBool (decide (sees k q)) := by
  have tk : (BitVec.ofNat 32 k).toInt = k := by
    have n : (BitVec.ofNat 32 k).toNat = k := by rw [BitVec.toNat_ofNat]; omega
    rw [BitVec.toInt_eq_toNat_of_lt (by rw [n]; omega), n]
  have tq : (BitVec.ofNat 32 q).toInt = q := by
    have n : (BitVec.ofNat 32 q).toNat = q := by rw [BitVec.toNat_ofNat]; omega
    rw [BitVec.toInt_eq_toNat_of_lt (by rw [n]; omega), n]
  have e : ((BitVec.ofNat 32 k) == (BitVec.ofNat 32 q)) = decide (k = q) := by
    rw [Bool.eq_iff_iff, beq_iff_eq, decide_eq_true_iff]
    exact ⟨fun h => by have := congrArg BitVec.toInt h; rw [tk, tq] at this; exact_mod_cast this, fun h => h ▸ rfl⟩
  have l : (BitVec.ofNat 32 k).sle (BitVec.ofNat 32 q) = decide (k ≤ q) := by
    rw [BitVec.sle_eq_decide, tk, tq]; simp
  have g : (112#32).sle (BitVec.ofNat 32 k) = decide (112 ≤ k) := by
    rw [BitVec.sle_eq_decide, tk]
    have : (112#32 : BitVec 32).toInt = (112 : ℕ) := by decide
    rw [this]; simp
  unfold IntOp.andi IntOp.ori IntOp.cmpi
  simp only [e, l, g]
  rw [show decide (sees k q) = (decide (k ≤ q) && (decide (112 ≤ k) || decide (k = q))) by rw [Bool.eq_iff_iff, decide_eq_true_iff]; simp [sees]]
  cases decide (k ≤ q) <;> cases decide (112 ≤ k) <;> cases decide (k = q) <;> rfl

/-- The coercion of a real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What the backward pass reads of a head: scaled queries and keys, values and cotangents, the row statistics. -/
structure Head where
  Q : ℕ → Fin 256 → ℝ
  K : ℕ → Fin 256 → ℝ
  V : ℕ → Fin 128 → ℝ
  O : ℕ → Fin 128 → ℝ
  L : ℕ → ℝ
  E : ℕ → ℝ

variable (H : Head)

/-- Two to the score less the row's statistic; -/
def raw (k q : ℕ) : ℝ := Real.rpow 2 ((∑ d, H.K k d * H.Q q d) - H.L q)
/-- the weight: that where the query sees the key, else none; -/
def wt (k q : ℕ) : ℝ := if sees k q then raw H k q else 0
/-- the value's product with the cotangent; -/
def dp (k q : ℕ) : ℝ := ∑ d, H.V k d * H.O q d
/-- the score's gradient. -/
def gr (k q : ℕ) : ℝ := wt H k q * (dp H k q - H.E q)

theorem gr_unseen {k q : ℕ} (h : ¬sees k q) : gr H k q = 0 := by unfold gr wt; rw [if_neg h, zero_mul]
theorem wt_unseen {k q : ℕ} (h : ¬sees k q) : wt H k q = 0 := if_neg h

/-- A tile's contributions: to a query row's gradient, a key row's, a value row's. -/
def tileQ (w R : ℕ) (y : Fin 256) : ℝ := ∑ x : Fin 640, gr H (w * 640 + x.val) R * H.K (w * 640 + x.val) y
def tileK (u R : ℕ) (y : Fin 256) : ℝ := ∑ x : Fin 640, gr H R (u * 640 + x.val) * H.Q (u * 640 + x.val) y
def tileV (u R : ℕ) (y : Fin 128) : ℝ := ∑ x : Fin 640, wt H R (u * 640 + x.val) * H.O (u * 640 + x.val) y

/-- Past the diagonal, and past the pads, a whole tile is seen. -/
theorem sees_tile {w u r x : ℕ} (hr : r < 640) (h : w < u) (h1 : 1 ≤ w) : sees (w * 640 + r) (u * 640 + x) :=
  ⟨by omega, .inl (by omega)⟩

end Cert.Attn

end
-- ==== Proof.IdealTileValue.lean ====
module

public import proofs.«01_k».proof.Proof.IdealBody
public import proofs.«01_k».proof.Proof.Attn

@[expose] public section

/-!
# What a tile computes

The tile's payloads read at an index, where its blocks hold real numbers: each accumulator's entry gains the tile's
contribution.
-/

set_option maxRecDepth 16384

noncomputable section

namespace Cert.KernelIdeal.Bwd

open Cert.KernelIdeal Cert.KernelIdeal.Gen Cert.Attn
open Idealize.ShloMosaic

theorem exp2_ideal (x : Ideal .f32) : FloatOps.exp2 (F := Ideal) x = Ideal.exp2 x := rfl

/-- The blocks of query tile `u` and key tile `w` hold the head's rows. -/
structure Block (H : Head) (u w : ℕ) (q k : S640x256.Idx → Elt Ideal .bf16) (v o : S640x128.Idx → Elt Ideal .bf16)
    (l d : S1x1x640.Idx → Elt Ideal .f32) : Prop where
  hu : u < 13
  hw : w < 13
  hq : ∀ (r : Fin 640) (x : Fin 256), q (ix2 r x) = ((H.Q (u * 640 + r.val) x : ℝ) : EReal)
  hk : ∀ (r : Fin 640) (x : Fin 256), k (ix2 r x) = ((H.K (w * 640 + r.val) x : ℝ) : EReal)
  hv : ∀ (r : Fin 640) (x : Fin 128), v (ix2 r x) = ((H.V (w * 640 + r.val) x : ℝ) : EReal)
  ho : ∀ (r : Fin 640) (x : Fin 128), o (ix2 r x) = ((H.O (u * 640 + r.val) x : ℝ) : EReal)
  hl : ∀ r : Fin 640, l (ix3 0 0 r) = ((H.L (u * 640 + r.val) : ℝ) : EReal)
  hd : ∀ r : Fin 640, d (ix3 0 0 r) = ((H.E (u * 640 + r.val) : ℝ) : EReal)

section

variable {H : Head} {u w : ℕ} {q k : S640x256.Idx → Elt Ideal .bf16} {v o : S640x128.Idx → Elt Ideal .bf16}
variable {l d : S1x1x640.Idx → Elt Ideal .f32} (b : Block H u w q k v o l d)
include b

/-! ## The two parts of the query rows -/

theorem loQ (r : Fin 256) (x : Fin 256) : take q loK (ix2 r x) = ((H.Q (u * 640 + r.val) x : ℝ) : EReal) := by
  pointwise [take, b.hq]
theorem hiQ (r : Fin 384) (x : Fin 256) : take q hiK (ix2 r x) = ((H.Q (u * 640 + (256 + r.val)) x : ℝ) : EReal) := by
  pointwise [take, b.hq]
theorem loO (r : Fin 256) (x : Fin 128) : take o loV (ix2 r x) = ((H.O (u * 640 + r.val) x : ℝ) : EReal) := by
  pointwise [take, b.ho]
theorem hiO (r : Fin 384) (x : Fin 128) : take o hiV (ix2 r x) = ((H.O (u * 640 + (256 + r.val)) x : ℝ) : EReal) := by
  pointwise [take, b.ho]
theorem loL (r : Fin 256) : take l loS (ix3 0 0 r) = ((H.L (u * 640 + r.val) : ℝ) : EReal) := by
  pointwise [take, b.hl]
theorem hiL (r : Fin 384) : take l hiS (ix3 0 0 r) = ((H.L (u * 640 + (256 + r.val)) : ℝ) : EReal) := by
  pointwise [take, b.hl]
theorem loD (r : Fin 256) : take d loS (ix3 0 0 r) = ((H.E (u * 640 + r.val) : ℝ) : EReal) := by
  pointwise [take, b.hd]
theorem hiD (r : Fin 384) : take d hiS (ix3 0 0 r) = ((H.E (u * 640 + (256 + r.val)) : ℝ) : EReal) := by
  pointwise [take, b.hd]

/-! ## The unmasked weights -/

theorem rawLo (r : Fin 640) (x : Fin 256) :
    k0_pay15 (F := Ideal) k (take q loK) (take l loS) (ix2 r x) = ((raw H (w * 640 + r.val) (u * 640 + x.val) : ℝ) : EReal) := by
  unfold k0_pay15 k0_pay10
  pointwise [exp2_ideal, b.hk, loQ b, loL b]
  simp only [← EReal.coe_mul, ← coe_sum, ← EReal.coe_sub, Ideal.exp2_coe]
  rfl
theorem rawHi (r : Fin 640) (x : Fin 384) :
    k0_pay24 (F := Ideal) (k0_pay12 k (take q hiK)) (take l hiS) (ix2 r x) = ((raw H (w * 640 + r.val) (u * 640 + (256 + x.val)) : ℝ) : EReal) := by
  unfold k0_pay24 k0_pay12 k0_pay10
  pointwise [exp2_ideal, b.hk, hiQ b, hiL b]
  simp only [← EReal.coe_mul, ← coe_sum, ← EReal.coe_sub, Ideal.exp2_coe]
  rfl
theorem rawLo' (r : Fin 640) (x : Fin 256) :
    k0_pay36 (F := Ideal) k (take q loK) (take l loS) (ix2 r x) = ((raw H (w * 640 + r.val) (u * 640 + x.val) : ℝ) : EReal) := rawLo b r x
theorem rawHi' (r : Fin 640) (x : Fin 384) :
    k0_pay41 (F := Ideal) (k0_pay33 k (take q hiK)) (take l hiS) (ix2 r x) = ((raw H (w * 640 + r.val) (u * 640 + (256 + x.val)) : ℝ) : EReal) := rawHi b r x

/-- The products with the cotangents. -/
theorem dpLo (r : Fin 640) (x : Fin 256) :
    k0_pay13 (F := Ideal) v (take o loV) (ix2 r x) = ((dp H (w * 640 + r.val) (u * 640 + x.val) : ℝ) : EReal) := by
  unfold k0_pay13 k0_pay11
  pointwise [b.hv, loO b]
  simp only [← EReal.coe_mul, ← coe_sum]
  rfl
theorem dpHi (r : Fin 640) (x : Fin 384) :
    k0_pay14 (F := Ideal) v (take o hiV) (ix2 r x) = ((dp H (w * 640 + r.val) (u * 640 + (256 + x.val)) : ℝ) : EReal) := by
  unfold k0_pay14 k0_pay11
  pointwise [b.hv, hiO b]
  simp only [← EReal.coe_mul, ← coe_sum]
  rfl
theorem dpLo' (r : Fin 640) (x : Fin 256) :
    k0_pay34 (F := Ideal) v (take o loV) (ix2 r x) = ((dp H (w * 640 + r.val) (u * 640 + x.val) : ℝ) : EReal) := dpLo b r x
theorem dpHi' (r : Fin 640) (x : Fin 384) :
    k0_pay35 (F := Ideal) v (take o hiV) (ix2 r x) = ((dp H (w * 640 + r.val) (u * 640 + (256 + x.val)) : ℝ) : EReal) := dpHi b r x

/-! ## The masked weights and the scores' gradients -/

theorem wtLo (r : Fin 640) (x : Fin 256) :
    k0_pay19 (F := Ideal) (k0_pay15 k (take q loK) (take l loS)) (k0_pay16 (F := Ideal) (BitVec.ofNat 32 w)) (k0_pay17 (F := Ideal) (BitVec.ofNat 32 u))
      (k0_pay18 (F := Ideal) (BitVec.ofNat 32 u) (BitVec.ofNat 32 w)) 112#32 (ix2 r x) = ((wt H (w * 640 + r.val) (u * 640 + x.val) : ℝ) : EReal) := by
  have hu := b.hu; have hw := b.hw
  unfold k0_pay19 k0_pay18 k0_pay17 k0_pay16
  pointwise [rawLo b]
  have e1 : IntOp.addi (Scalar.muli (BitVec.ofNat 32 w) 640#32) (BitVec.ofNat 32 r.val) = BitVec.ofNat 32 (w * 640 + r.val) := by
    simp [IntOp.addi, Scalar.muli, IntOp.muli, BitVec.ofNat_add, BitVec.ofNat_mul]
  have e2 : IntOp.addi (Scalar.addi (Scalar.muli (BitVec.ofNat 32 u) 640#32) 0#32) (BitVec.ofNat 32 x.val) = BitVec.ofNat 32 (u * 640 + x.val) := by
    simp [IntOp.addi, Scalar.addi, Scalar.muli, IntOp.muli, BitVec.ofNat_add, BitVec.ofNat_mul]
  rw [e1, e2, word_sees _ _ (by omega) (by omega), Scalar.select_ofBool, wt]
  by_cases h : sees (w * 640 + r.val) (u * 640 + x.val) <;> simp [h]
theorem wtHi (r : Fin 640) (x : Fin 384) :
    k0_pay26 (F := Ideal) (BitVec.ofNat 32 u) (k0_pay24 (k0_pay12 k (take q hiK)) (take l hiS)) (iota .tc S640x384 32 [0] iota_S640x384_d0_w32)
      (k0_pay25 (F := Ideal) (BitVec.ofNat 32 w)) (ix2 r x) = ((wt H (w * 640 + r.val) (u * 640 + (256 + x.val)) : ℝ) : EReal) := by
  have hu := b.hu; have hw := b.hw
  unfold k0_pay26 k0_pay25
  pointwise [rawHi b]
  have e1 : IntOp.addi (Scalar.muli (BitVec.ofNat 32 w) 640#32) (BitVec.ofNat 32 r.val) = BitVec.ofNat 32 (w * 640 + r.val) := by
    simp [IntOp.addi, Scalar.muli, IntOp.muli, BitVec.ofNat_add, BitVec.ofNat_mul]
  have e2 : IntOp.addi (Scalar.addi (Scalar.muli (BitVec.ofNat 32 u) 640#32) 256#32) (BitVec.ofNat 32 x.val) = BitVec.ofNat 32 (u * 640 + (256 + x.val)) := by
    simp [IntOp.addi, Scalar.addi, Scalar.muli, IntOp.muli, BitVec.ofNat_add, BitVec.ofNat_mul, BitVec.add_assoc]
  rw [e1, e2, word_sees _ _ (by omega) (by omega), Scalar.select_ofBool, wt]
  by_cases h : sees (w * 640 + r.val) (u * 640 + (256 + x.val)) <;> simp [h]

theorem grLo (r : Fin 640) (x : Fin 256) :
    k0_pay21 (F := Ideal) (k0_pay13 v (take o loV)) (k0_pay15 k (take q loK) (take l loS)) (k0_pay16 (F := Ideal) (BitVec.ofNat 32 w)) (k0_pay17 (F := Ideal) (BitVec.ofNat 32 u))
      (k0_pay18 (F := Ideal) (BitVec.ofNat 32 u) (BitVec.ofNat 32 w)) 112#32 (take d loS) (ix2 r x) = ((gr H (w * 640 + r.val) (u * 640 + x.val) : ℝ) : EReal) := by
  unfold k0_pay21
  pointwise [wtLo b, dpLo b, loD b]
  simp only [← EReal.coe_mul, ← EReal.coe_sub]
  rfl
theorem grHi (r : Fin 640) (x : Fin 384) :
    k0_pay28 (F := Ideal) (BitVec.ofNat 32 u) (k0_pay14 v (take o hiV)) (k0_pay24 (k0_pay12 k (take q hiK)) (take l hiS)) (iota .tc S640x384 32 [0] iota_S640x384_d0_w32)
      (k0_pay25 (F := Ideal) (BitVec.ofNat 32 w)) (take d hiS) (ix2 r x) = ((gr H (w * 640 + r.val) (u * 640 + (256 + x.val)) : ℝ) : EReal) := by
  unfold k0_pay28
  pointwise [wtHi b, dpHi b, hiD b]
  simp only [← EReal.coe_mul, ← EReal.coe_sub]
  rfl

end

/-- A sum over a tile's rows is over its two parts. -/
theorem parts (f : ℕ → ℝ) : ∑ x : Fin 640, f x.val = (∑ x : Fin 256, f x.val) + ∑ x : Fin 384, f (256 + x.val) :=
  Fin.sum_univ_two_halves 256 384 rfl fun x : Fin 640 => f x.val

section

variable {H : Head} {u w : ℕ} {q k : S640x256.Idx → Elt Ideal .bf16} {v o : S640x128.Idx → Elt Ideal .bf16}
variable {l d : S1x1x640.Idx → Elt Ideal .f32} (b : Block H u w q k v o l d)
include b

/-! ## The masked tile -/

theorem maskedV_at (B : S640x128.Idx → Elt Ideal .f32) (r : Fin 640) (y : Fin 128) (t : ℝ) (hB : B (ix2 r y) = (t : EReal)) :
    maskedV q k o l B (BitVec.ofNat 32 u) (BitVec.ofNat 32 w) (ix2 r y) = ((t + tileV H u (w * 640 + r.val) y : ℝ) : EReal) := by
  unfold maskedV k0_pay5 k0_pay27 k0_pay20
  pointwise [take_allK, take_allV, wtLo b, wtHi b, loO b, hiO b, hB]
  simp only [← EReal.coe_mul, ← coe_sum, ← EReal.coe_add, tileV]
  rw [parts fun x => wt H (w * 640 + r.val) (u * 640 + x) * H.O (u * 640 + x) y, add_assoc]
theorem maskedK_at (A : S640x256.Idx → Elt Ideal .f32) (r : Fin 640) (y : Fin 256) (t : ℝ) (hA : A (ix2 r y) = (t : EReal)) :
    maskedK q k v o l d A (BitVec.ofNat 32 u) (BitVec.ofNat 32 w) (ix2 r y) = ((t + tileK H u (w * 640 + r.val) y : ℝ) : EReal) := by
  unfold maskedK k0_pay4 k0_pay29 k0_pay22
  pointwise [take_allK, take_allV, grLo b, grHi b, loQ b, hiQ b, hA]
  simp only [← EReal.coe_mul, ← coe_sum, ← EReal.coe_add, tileK]
  rw [parts fun x => gr H (w * 640 + r.val) (u * 640 + x) * H.Q (u * 640 + x) y, add_assoc]

end

end Cert.KernelIdeal.Bwd

end
-- ==== Proof.IdealTileQ.lean ====
module

public import proofs.«01_k».proof.Proof.IdealTileValue

@[expose] public section

/-!
# What a tile computes, continued

The unmasked tile's accumulators, and the rows of the query gradient that either kind of tile adds to.
-/

set_option maxRecDepth 16384

noncomputable section

namespace Cert.KernelIdeal.Bwd

open Cert.KernelIdeal Cert.KernelIdeal.Gen Cert.Attn
open Idealize.ShloMosaic

/-- The rows of a tile, as words. -/
theorem off2_eq {u : ℕ} (hu : u < 13) : k0_off2 (BitVec.ofNat 32 u) = ![u * 640, 0] := by
  interval_cases u <;> rfl
theorem off3_eq {u : ℕ} (hu : u < 13) : k0_off3 (BitVec.ofNat 32 u) = ![u * 640 + 256, 0] := by
  interval_cases u <;> rfl
theorem off4_eq {u : ℕ} (hu : u < 13) : k0_off4 (BitVec.ofNat 32 u) = ![u * 640, 0] := by
  interval_cases u <;> rfl
theorem off5_eq {u : ℕ} (hu : u < 13) : k0_off5 (BitVec.ofNat 32 u) = ![u * 640 + 256, 0] := by
  interval_cases u <;> rfl

section

variable {n : ℕ} (off : Fin 2 → ℕ) (hb : ∀ a, off a + (![n, 256] : Fin 2 → ℕ) a ≤ S8320x256.size a) (a : ℕ) (hoff : off = ![a, 0])
variable (D : S8320x256.Idx → Elt Ideal .f32)
include hoff

/-- An entry of a run of rows, -/
theorem rows_at (r : Fin n) (x : Fin 256) (R : Fin 8320) (hR : R.val = a + r.val) :
    (Rect.unit (s := S8320x256) off ![n, 256] hb).emb (ix2 r x) = ix2 R x := by
  subst hoff
  funext i; apply Fin.ext; rw [Rect.emb_apply]
  match i with
  | ⟨0, _⟩ => show a + 1 * r.val = R.val; omega
  | ⟨1, _⟩ => show 0 + 1 * x.val = x.val; omega

/-- read, -/
theorem take_rows (r : Fin n) (x : Fin 256) (R : Fin 8320) (hR : R.val = a + r.val) :
    take D (Rect.unit (s := S8320x256) off ![n, 256] hb) (ix2 r x) = D (ix2 R x) :=
  congrArg D (rows_at off hb a hoff r x R hR)

/-- overwritten, -/
theorem put_rows (w : (Rect.unit (s := S8320x256) off ![n, 256] hb).shape.Idx → Elt Ideal .f32) (r : Fin n) (x : Fin 256) (R : Fin 8320) (hR : R.val = a + r.val) :
    put (Rect.unit (s := S8320x256) off ![n, 256] hb) w D (ix2 R x) = w (ix2 r x) := by
  rw [← rows_at off hb a hoff r x R hR, put_emb]

/-- and one of the other rows. -/
theorem put_other (w : (Rect.unit (s := S8320x256) off ![n, 256] hb).shape.Idx → Elt Ideal .f32) (x : Fin 256) (R : Fin 8320) (hR : R.val < a ∨ a + n ≤ R.val) :
    put (Rect.unit (s := S8320x256) off ![n, 256] hb) w D (ix2 R x) = D (ix2 R x) := by
  apply put_off
  intro j hj
  have h := congrArg (fun z => (z (0 : Fin 2)).val) hj
  rw [Rect.emb_apply] at h
  subst hoff
  have h1 : a + 1 * (j (0 : Fin 2)).val = R.val := h
  have h2 : (j (0 : Fin 2)).val < n := (j (0 : Fin 2)).isLt
  omega

end

section

variable {H : Head} {u w : ℕ} {q k : S640x256.Idx → Elt Ideal .bf16} {v o : S640x128.Idx → Elt Ideal .bf16}
variable {l d : S1x1x640.Idx → Elt Ideal .f32} (b : Block H u w q k v o l d)
include b

/-! ## The unmasked tile, where every query sees every key -/

theorem plainWt (h : w < u) (h1 : 1 ≤ w) (r : Fin 640) (x : ℕ) : raw H (w * 640 + r.val) (u * 640 + x) = wt H (w * 640 + r.val) (u * 640 + x) :=
  (if_pos (sees_tile r.isLt h h1)).symm

theorem grLo' (h : w < u) (h1 : 1 ≤ w) (r : Fin 640) (x : Fin 256) :
    k0_pay39 (F := Ideal) (k0_pay34 v (take o loV)) (k0_pay36 k (take q loK) (take l loS)) (k0_pay38 (take d loS)) (ix2 r x)
      = ((gr H (w * 640 + r.val) (u * 640 + x.val) : ℝ) : EReal) := by
  unfold k0_pay39 k0_pay38
  pointwise [rawLo' b, dpLo' b, loD b]
  simp only [← EReal.coe_mul, ← EReal.coe_sub, plainWt b h h1]
  rfl
theorem grHi' (h : w < u) (h1 : 1 ≤ w) (r : Fin 640) (x : Fin 384) :
    k0_pay43 (F := Ideal) (k0_pay33 k (take q hiK)) (k0_pay35 v (take o hiV)) (take l hiS) (take d hiS) (ix2 r x)
      = ((gr H (w * 640 + r.val) (u * 640 + (256 + x.val)) : ℝ) : EReal) := by
  unfold k0_pay43
  pointwise [rawHi' b, dpHi' b, hiD b]
  simp only [← EReal.coe_mul, ← EReal.coe_sub, plainWt b h h1]
  rfl

theorem plainV_at (h : w < u) (h1 : 1 ≤ w) (B : S640x128.Idx → Elt Ideal .f32) (r : Fin 640) (y : Fin 128) (t : ℝ) (hB : B (ix2 r y) = (t : EReal)) :
    plainV q k o l B (ix2 r y) = ((t + tileV H u (w * 640 + r.val) y : ℝ) : EReal) := by
  unfold plainV k0_pay8 k0_pay42 k0_pay37
  pointwise [take_allK, take_allV, rawLo' b, rawHi' b, loO b, hiO b, hB]
  simp only [← EReal.coe_mul, ← coe_sum, ← EReal.coe_add, tileV, plainWt b h h1]
  rw [parts fun x => wt H (w * 640 + r.val) (u * 640 + x) * H.O (u * 640 + x) y, add_assoc]
theorem plainK_at (h : w < u) (h1 : 1 ≤ w) (A : S640x256.Idx → Elt Ideal .f32) (r : Fin 640) (y : Fin 256) (t : ℝ) (hA : A (ix2 r y) = (t : EReal)) :
    plainK q k v o l d A (ix2 r y) = ((t + tileK H u (w * 640 + r.val) y : ℝ) : EReal) := by
  unfold plainK k0_pay7 k0_pay44
  pointwise [take_allK, take_allV, grLo' b h h1, grHi' b h h1, loQ b, hiQ b, hA]
  simp only [← EReal.coe_mul, ← coe_sum, ← EReal.coe_add, tileK]
  rw [parts fun x => gr H (w * 640 + r.val) (u * 640 + x) * H.Q (u * 640 + x) y, add_assoc]

/-! ## The query gradient's rows -/

theorem dqLo (D : S256x256.Idx → Elt Ideal .f32) (r : Fin 256) (y : Fin 256) (t : ℝ) (hD : D (ix2 r y) = (t : EReal)) :
    k0_pay23 (F := Ideal) (k0_pay10 k) (k0_pay13 v (take o loV)) (k0_pay15 k (take q loK) (take l loS)) (k0_pay16 (F := Ideal) (BitVec.ofNat 32 w))
      (k0_pay17 (F := Ideal) (BitVec.ofNat 32 u)) (k0_pay18 (F := Ideal) (BitVec.ofNat 32 u) (BitVec.ofNat 32 w)) 112#32 (take d loS) D (ix2 r y)
      = ((t + tileQ H w (u * 640 + r.val) y : ℝ) : EReal) := by
  unfold k0_pay23 k0_pay10
  pointwise [grLo b, b.hk, hD]
  simp only [← EReal.coe_mul, ← coe_sum, ← EReal.coe_add, tileQ]
theorem dqHi (D : S384x256.Idx → Elt Ideal .f32) (r : Fin 384) (y : Fin 256) (t : ℝ) (hD : D (ix2 r y) = (t : EReal)) :
    k0_pay30 (F := Ideal) (BitVec.ofNat 32 u) (k0_pay10 k) (k0_pay14 v (take o hiV)) (k0_pay24 (k0_pay12 k (take q hiK)) (take l hiS))
      (iota .tc S640x384 32 [0] iota_S640x384_d0_w32) (k0_pay25 (F := Ideal) (BitVec.ofNat 32 w)) (take d hiS) D (ix2 r y)
      = ((t + tileQ H w (u * 640 + (256 + r.val)) y : ℝ) : EReal) := by
  unfold k0_pay30 k0_pay10
  pointwise [grHi b, b.hk, hD]
  simp only [← EReal.coe_mul, ← coe_sum, ← EReal.coe_add, tileQ]
theorem dqLo' (h : w < u) (h1 : 1 ≤ w) (D : S256x256.Idx → Elt Ideal .f32) (r : Fin 256) (y : Fin 256) (t : ℝ) (hD : D (ix2 r y) = (t : EReal)) :
    k0_pay40 (F := Ideal) (k0_pay31 k) (k0_pay34 v (take o loV)) (k0_pay36 k (take q loK) (take l loS)) (k0_pay38 (take d loS)) D (ix2 r y)
      = ((t + tileQ H w (u * 640 + r.val) y : ℝ) : EReal) := by
  unfold k0_pay40 k0_pay31
  pointwise [grLo' b h h1, b.hk, hD]
  simp only [← EReal.coe_mul, ← coe_sum, ← EReal.coe_add, tileQ]
theorem dqHi' (h : w < u) (h1 : 1 ≤ w) (D : S384x256.Idx → Elt Ideal .f32) (r : Fin 384) (y : Fin 256) (t : ℝ) (hD : D (ix2 r y) = (t : EReal)) :
    k0_pay6 (F := Ideal) (k0_pay31 k) (k0_pay43 (k0_pay33 k (take q hiK)) (k0_pay35 v (take o hiV)) (take l hiS) (take d hiS)) D (ix2 r y)
      = ((t + tileQ H w (u * 640 + (256 + r.val)) y : ℝ) : EReal) := by
  unfold k0_pay6 k0_pay31
  pointwise [grHi' b h h1, b.hk, hD]
  simp only [← EReal.coe_mul, ← coe_sum, ← EReal.coe_add, tileQ]

theorem maskedQ_at (D : S8320x256.Idx → Elt Ideal .f32) (T : ℝ) (R : Fin 8320) (y : Fin 256) (hD : D (ix2 R y) = (T : EReal))
    (hw h) : maskedQ q k v o l d D (BitVec.ofNat 32 u) (BitVec.ofNat 32 w) hw h (ix2 R y)
      = ((T + if R.val / 640 = u then tileQ H w R.val y else 0 : ℝ) : EReal) := by
  have h2 := off2_eq b.hu; have h3 := off3_eq b.hu
  unfold maskedQ
  by_cases g : u * 640 + 256 ≤ R.val ∧ R.val < u * 640 + 640
  · rw [put_rows _ _ _ h3 _ _ ⟨R.val - (u * 640 + 256), by omega⟩ y R (by simp only; omega), take_allK, take_allV,
      dqHi b _ _ y T, if_pos (by omega)]
    · rw [show u * 640 + (256 + (R.val - (u * 640 + 256))) = R.val by omega]
    · rw [take_rows _ _ _ h3 _ _ y R (by simp only; omega)]
      unfold maskedQ₁
      rw [put_other _ _ _ h2 _ _ y R (by omega), hD]
  · rw [put_other _ _ _ h3 _ _ y R (by omega)]
    unfold maskedQ₁
    by_cases g' : u * 640 ≤ R.val ∧ R.val < u * 640 + 256
    · rw [put_rows _ _ _ h2 _ _ ⟨R.val - u * 640, by omega⟩ y R (by simp only; omega), take_allK, take_allV,
        dqLo b _ _ y T, if_pos (by omega)]
      · rw [show u * 640 + (R.val - u * 640) = R.val by omega]
      · rw [take_rows _ _ _ h2 _ _ y R (by simp only; omega), hD]
    · rw [put_other _ _ _ h2 _ _ y R (by omega), hD, if_neg (by omega), add_zero]

theorem plainQ_at (hl : w < u) (hl1 : 1 ≤ w) (D : S8320x256.Idx → Elt Ideal .f32) (T : ℝ) (R : Fin 8320) (y : Fin 256) (hD : D (ix2 R y) = (T : EReal))
    (hw h) : plainQ q k v o l d D (BitVec.ofNat 32 u) (BitVec.ofNat 32 w) hw h (ix2 R y)
      = ((T + if R.val / 640 = u then tileQ H w R.val y else 0 : ℝ) : EReal) := by
  have h2 := off4_eq b.hu; have h3 := off5_eq b.hu
  unfold plainQ
  by_cases g : u * 640 + 256 ≤ R.val ∧ R.val < u * 640 + 640
  · rw [put_rows _ _ _ h3 _ _ ⟨R.val - (u * 640 + 256), by omega⟩ y R (by simp only; omega), take_allK, take_allV,
      dqHi' b hl hl1 _ _ y T, if_pos (by omega)]
    · rw [show u * 640 + (256 + (R.val - (u * 640 + 256))) = R.val by omega]
    · rw [take_rows _ _ _ h3 _ _ y R (by simp only; omega)]
      unfold plainQ₁
      rw [put_other _ _ _ h2 _ _ y R (by omega), hD]
  · rw [put_other _ _ _ h3 _ _ y R (by omega)]
    unfold plainQ₁
    by_cases g' : u * 640 ≤ R.val ∧ R.val < u * 640 + 256
    · rw [put_rows _ _ _ h2 _ _ ⟨R.val - u * 640, by omega⟩ y R (by simp only; omega), take_allK, take_allV,
        dqLo' b hl hl1 _ _ y T, if_pos (by omega)]
      · rw [show u * 640 + (R.val - u * 640) = R.val by omega]
      · rw [take_rows _ _ _ h2 _ _ y R (by simp only; omega), hD]
    · rw [put_other _ _ _ h2 _ _ y R (by omega), hD, if_neg (by omega), add_zero]

end

end Cert.KernelIdeal.Bwd

end
-- ==== Proof.IdealSums.lean ====
module

public import proofs.«01_k».proof.Proof.IdealGrid
public import proofs.«01_k».proof.Proof.Attn

@[expose] public section

/-!
# The pairs a head walks

The 91 pairs of blocks are each pair at or under the diagonal, once. A sum over them of the tiles' contributions to a row is
the sum over the whole sequence, for no query sees a key past the diagonal.
-/

set_option maxRecDepth 16384

noncomputable section

namespace Cert.KernelIdeal.Bwd

open Cert.Attn
open Finset Idealize.ShloMosaic

theorem pair_lt : ∀ p < 91, qOf p < 13 ∧ kOf p < 13 ∧ kOf p ≤ qOf p := by decide +kernel
theorem pair_inj : ∀ p < 91, ∀ p' < 91, qOf p = qOf p' → kOf p = kOf p' → p = p' := by decide +kernel
theorem pair_surj : ∀ w < 13, ∀ u < 13, w ≤ u → ∃ p < 91, qOf p = u ∧ kOf p = w := by decide +kernel
/-- No pair before a diagonal one is of its key block; -/
theorem diagonal_new : ∀ p < 91, qOf p = kOf p → ∀ p' < p, kOf p' ≠ kOf p := by decide +kernel
/-- any other is of the key block of the pair before; -/
theorem diagonal_old : ∀ p < 91, qOf p ≠ kOf p → p ≠ 0 ∧ kOf (p - 1) = kOf p := by decide +kernel
/-- none after the last query block's is of its key block; -/
theorem last_done : ∀ p < 91, qOf p = 12 → ∀ p' < 91, p < p' → kOf p' ≠ kOf p := by decide +kernel
/-- and a head begins on the diagonal. -/
theorem zero_diagonal : qOf 0 = kOf 0 := by decide +kernel

theorem pairs_sum (f : ℕ → ℕ → ℝ) :
    ∑ p ∈ range 91, f (qOf p) (kOf p) = ∑ w ∈ range 13, ∑ u ∈ range 13, if w ≤ u then f u w else 0 := by
  rw [← Finset.sum_product' (range 13) (range 13) fun w u => if w ≤ u then f u w else 0, ← Finset.sum_filter]
  refine Finset.sum_nbij (fun p => (kOf p, qOf p)) ?_ ?_ ?_ fun _ _ => rfl
  · intro p hp
    obtain ⟨h1, h2, h3⟩ := pair_lt p (mem_range.1 hp)
    simp [h1, h2, h3]
  · intro p hp p' hp' h
    exact pair_inj p (mem_range.1 hp) p' (mem_range.1 hp') (congrArg Prod.snd h) (congrArg Prod.fst h)
  · rintro ⟨w, u⟩ h
    simp only [coe_filter, mem_product, mem_range, Set.mem_setOf_eq] at h
    obtain ⟨p, hp, h1, h2⟩ := pair_surj w h.1.1 u h.1.2 h.2
    exact ⟨p, by simpa using hp, by simp [h1, h2]⟩

/-- The contributions of the first `n` pairs to a query row, a key row, a value row. -/
def sumQ (H : Head) (n R : ℕ) (y : Fin 256) : ℝ := ∑ p ∈ range n, if R / 640 = qOf p then tileQ H (kOf p) R y else 0
def sumK (H : Head) (n R : ℕ) (y : Fin 256) : ℝ := ∑ p ∈ range n, if R / 640 = kOf p then tileK H (qOf p) R y else 0
def sumV (H : Head) (n R : ℕ) (y : Fin 128) : ℝ := ∑ p ∈ range n, if R / 640 = kOf p then tileV H (qOf p) R y else 0

/-- The whole rows' gradients. -/
def gradQ (H : Head) (R : ℕ) (y : Fin 256) : ℝ := ∑ k : Fin 8320, gr H k.val R * H.K k.val y
def gradK (H : Head) (R : ℕ) (y : Fin 256) : ℝ := ∑ q : Fin 8320, gr H R q.val * H.Q q.val y
def gradV (H : Head) (R : ℕ) (y : Fin 128) : ℝ := ∑ q : Fin 8320, wt H R q.val * H.O q.val y

theorem rows_sum (f : ℕ → ℝ) : ∑ x : Fin 8320, f x.val = ∑ w ∈ range 13, ∑ x : Fin 640, f (w * 640 + x.val) := by
  rw [Fin.sum_univ_tiles 13 640 rfl, Finset.sum_range]

variable (H : Head)

theorem tileQ_unseen {w R : ℕ} (h : R / 640 < w) (y : Fin 256) : tileQ H w R y = 0 :=
  Finset.sum_eq_zero fun x _ => by rw [gr_unseen H (by unfold sees; omega), zero_mul]
theorem tileK_unseen {u R : ℕ} (h : u < R / 640) (y : Fin 256) : tileK H u R y = 0 :=
  Finset.sum_eq_zero fun x _ => by rw [gr_unseen H (by unfold sees; omega), zero_mul]
theorem tileV_unseen {u R : ℕ} (h : u < R / 640) (y : Fin 128) : tileV H u R y = 0 :=
  Finset.sum_eq_zero fun x _ => by rw [wt_unseen H (by unfold sees; omega), zero_mul]

theorem sumQ_all {R : ℕ} (hR : R < 8320) (y : Fin 256) : sumQ H 91 R y = gradQ H R y := by
  rw [sumQ, gradQ, rows_sum fun k => gr H k R * H.K k y, pairs_sum fun u w => if R / 640 = u then tileQ H w R y else 0]
  refine Finset.sum_congr rfl fun w _ => ?_
  rw [Finset.sum_eq_single (R / 640)]
  · rw [if_pos rfl]
    split
    · rfl
    · rename_i h; exact (tileQ_unseen H (not_le.1 h) y).symm
  · intro u _ h; rw [if_neg (Ne.symm h), ite_self]
  · intro h; exact absurd (mem_range.2 (by omega)) h

theorem sumK_all {R : ℕ} (hR : R < 8320) (y : Fin 256) : sumK H 91 R y = gradK H R y := by
  rw [sumK, gradK, rows_sum fun q => gr H R q * H.Q q y, pairs_sum fun u w => if R / 640 = w then tileK H u R y else 0,
    Finset.sum_eq_single (R / 640)]
  · refine Finset.sum_congr rfl fun u _ => ?_
    rw [if_pos rfl]
    split
    · rfl
    · rename_i h; exact (tileK_unseen H (not_le.1 h) y).symm
  · intro w _ h
    exact Finset.sum_eq_zero fun u _ => by rw [if_neg (Ne.symm h), ite_self]
  · intro h; exact absurd (mem_range.2 (by omega)) h

theorem sumV_all {R : ℕ} (hR : R < 8320) (y : Fin 128) : sumV H 91 R y = gradV H R y := by
  rw [sumV, gradV, rows_sum fun q => wt H R q * H.O q y, pairs_sum fun u w => if R / 640 = w then tileV H u R y else 0,
    Finset.sum_eq_single (R / 640)]
  · refine Finset.sum_congr rfl fun u _ => ?_
    rw [if_pos rfl]
    split
    · rfl
    · rename_i h; exact (tileV_unseen H (not_le.1 h) y).symm
  · intro w _ h
    exact Finset.sum_eq_zero fun u _ => by rw [if_neg (Ne.symm h), ite_self]
  · intro h; exact absurd (mem_range.2 (by omega)) h

/-- After the last query block's pair a key block is done. -/
theorem done_sum (p : ℕ) (hp : p < 91) (h : qOf p = 12) (f : ℕ → ℝ) :
    (∑ p' ∈ range (p + 1), if kOf p = kOf p' then f p' else 0) = ∑ p' ∈ range 91, if kOf p = kOf p' then f p' else 0 := by
  refine Finset.sum_subset (fun x hx => ?_) fun p' h1 h2 => ?_
  · rw [mem_range] at *; omega
  · rw [mem_range] at *
    rw [if_neg (Ne.symm (last_done p hp h p' h1 (by omega)))]

theorem sumK_done (p : ℕ) (hp : p < 91) (h : qOf p = 12) {R : ℕ} (hR : R / 640 = kOf p) (y : Fin 256) : sumK H (p + 1) R y = sumK H 91 R y := by
  unfold sumK; rw [hR]; exact done_sum p hp h fun p' => tileK H (qOf p') R y
theorem sumV_done (p : ℕ) (hp : p < 91) (h : qOf p = 12) {R : ℕ} (hR : R / 640 = kOf p) (y : Fin 128) : sumV H (p + 1) R y = sumV H 91 R y := by
  unfold sumV; rw [hR]; exact done_sum p hp h fun p' => tileV H (qOf p') R y

/-- Before its diagonal pair a key block has nothing. -/
theorem sumK_new (p : ℕ) (hp : p < 91) (h : qOf p = kOf p) {R : ℕ} (hR : R / 640 = kOf p) (y : Fin 256) : sumK H p R y = 0 :=
  Finset.sum_eq_zero fun p' h' => if_neg fun e => diagonal_new p hp h p' (mem_range.1 h') (e.symm.trans hR)
theorem sumV_new (p : ℕ) (hp : p < 91) (h : qOf p = kOf p) {R : ℕ} (hR : R / 640 = kOf p) (y : Fin 128) : sumV H p R y = 0 :=
  Finset.sum_eq_zero fun p' h' => if_neg fun e => diagonal_new p hp h p' (mem_range.1 h') (e.symm.trans hR)

end Cert.KernelIdeal.Bwd

end
-- ==== Proof.IdealTrace.lean ====
module

public import proofs.«01_k».proof.Proof.IdealData
public import proofs.«01_k».proof.Proof.IdealTileQ
public import proofs.«01_k».proof.Proof.IdealSums

@[expose] public section

/-!
# The accumulators along the grid

Where every point's blocks hold its head's rows, the query gradient's block and the two accumulators hold, after each point,
the sums of the contributions of the head's pairs so far.
-/

set_option maxRecDepth 16384

noncomputable section

namespace Cert.KernelIdeal.Bwd

open Cert.KernelIdeal Cert.KernelIdeal.Gen Cert.Attn
open Idealize.ShloMosaic
open Idealize.ShloMosaic.TcCoe

/-- A point's two words are its pair's, and a head's first point is its first pair's. -/
abbrev WordsAt (t : Fin cfgA.N) : Prop :=
  uQ t = BitVec.ofNat 32 (qOf (t.val % 91)) ∧ uK t = BitVec.ofNat 32 (kOf (t.val % 91)) ∧ (k0_cond1 (crd t) = 1#1 ↔ t.val % 91 = 0)

theorem words : ∀ t : Fin cfgA.N, WordsAt t := by decide +kernel

theorem diagonal_iff : ∀ u < 13, ∀ w < 13, (diagonal (BitVec.ofNat 32 u) (BitVec.ofNat 32 w) ↔ u = w) := by decide +kernel
theorem plain_below : ∀ u < 13, ∀ w < 13, w ≤ u → ¬k0_cond3 (BitVec.ofNat 32 u) (BitVec.ofNat 32 w) = 1#1 → w < u ∧ 1 ≤ w := by decide +kernel
theorem cond5_iff : ∀ u < 13, (k0_cond5 (BitVec.ofNat 32 u) = 1#1 ↔ u = 12) := by decide +kernel

theorem pay1_at (R : Fin 8320) (y : Fin 256) : k0_pay1 (F := Ideal) (ix2 R y) = ((0 : ℝ) : EReal) := by
  unfold k0_pay1; pointwise; exact EReal.coe_zero.symm
theorem pay2_at (r : Fin 640) (y : Fin 256) : k0_pay2 (F := Ideal) (ix2 r y) = ((0 : ℝ) : EReal) := by
  unfold k0_pay2; pointwise; exact EReal.coe_zero.symm
theorem pay3_at (r : Fin 640) (y : Fin 128) : k0_pay3 (F := Ideal) (ix2 r y) = ((0 : ℝ) : EReal) := by
  unfold k0_pay3; pointwise; exact EReal.coe_zero.symm

variable (m : (ℓ : Loc nD τ sig) → Buf (Elt Ideal) ℓ) (c : Dev nD) (Hs : ℕ → Head)

/-- The state after a point of pair `p` of a head. -/
def Holds (H : Head) (p : ℕ) (s : St) : Prop :=
  (∀ (R : Fin 8320) (y : Fin 256), s.1 (ix2 R y) = ((sumQ H (p + 1) R.val y : ℝ) : EReal))
  ∧ (∀ (r : Fin 640) (y : Fin 256), s.2.1 (ix2 r y) = ((sumK H (p + 1) (kOf p * 640 + r.val) y : ℝ) : EReal))
  ∧ ∀ (r : Fin 640) (y : Fin 128), s.2.2 (ix2 r y) = ((sumV H (p + 1) (kOf p * 640 + r.val) y : ℝ) : EReal)

variable (hb : ∀ t : Fin cfgA.N, Block (Hs (t.val / 91)) (qOf (t.val % 91)) (kOf (t.val % 91))
  (blk0 m c t) (blk1 m c t) (blk2 m c t) (blk3 m c t) (blk4 m c t) (blk5 m c t))
include hb

theorem holds_step (t : Fin cfgA.N) (s : St) (hs : t.val % 91 ≠ 0 → Holds (Hs (t.val / 91)) (t.val % 91 - 1) s) :
    Holds (Hs (t.val / 91)) (t.val % 91) (step m c t s) := by
  have b := hb t
  obtain ⟨hu, hw, h1⟩ := words t
  have hp : t.val % 91 < 91 := Nat.mod_lt _ (by decide)
  generalize Hs (t.val / 91) = H at *
  generalize t.val % 91 = p at *
  have hD : ∀ (R : Fin 8320) (y : Fin 256), startD t s.1 (ix2 R y) = ((sumQ H p R.val y : ℝ) : EReal) := by
    intro R y
    unfold startD
    by_cases h : p = 0
    · rw [if_pos (h1.2 h), pay1_at, h, sumQ, Finset.sum_range_zero]
    · rw [if_neg fun e => h (h1.1 e), (hs h).1 R y, Nat.sub_add_cancel (Nat.one_le_iff_ne_zero.2 h)]
  have hA : ∀ (r : Fin 640) (y : Fin 256), startA t s.2.1 (ix2 r y) = ((sumK H p (kOf p * 640 + r.val) y : ℝ) : EReal) := by
    intro r y
    unfold startA
    rw [hu, hw]
    by_cases h : qOf p = kOf p
    · rw [if_pos ((diagonal_iff _ b.hu _ b.hw).2 h), pay2_at, sumK_new H p hp h (by omega)]
    · obtain ⟨h0, hk⟩ := diagonal_old p hp h
      rw [if_neg fun e => h ((diagonal_iff _ b.hu _ b.hw).1 e), (hs h0).2.1 r y, Nat.sub_add_cancel (Nat.one_le_iff_ne_zero.2 h0), hk]
  have hB : ∀ (r : Fin 640) (y : Fin 128), startB t s.2.2 (ix2 r y) = ((sumV H p (kOf p * 640 + r.val) y : ℝ) : EReal) := by
    intro r y
    unfold startB
    rw [hu, hw]
    by_cases h : qOf p = kOf p
    · rw [if_pos ((diagonal_iff _ b.hu _ b.hw).2 h), pay3_at, sumV_new H p hp h (by omega)]
    · obtain ⟨h0, hk⟩ := diagonal_old p hp h
      rw [if_neg fun e => h ((diagonal_iff _ b.hu _ b.hw).1 e), (hs h0).2.2 r y, Nat.sub_add_cancel (Nat.one_le_iff_ne_zero.2 h0), hk]
  have e1 : ∀ r : Fin 640, (kOf p * 640 + r.val) / 640 = kOf p := fun r => by omega
  have hc : ∀ (R : ℕ) (y : Fin 256), sumQ H p R y + (if R / 640 = qOf p then tileQ H (kOf p) R y else 0) = sumQ H (p + 1) R y :=
    fun R y => (Finset.sum_range_succ (fun p => if R / 640 = qOf p then tileQ H (kOf p) R y else 0) p).symm
  have hcK : ∀ (r : Fin 640) (y : Fin 256), sumK H p (kOf p * 640 + r.val) y + tileK H (qOf p) (kOf p * 640 + r.val) y = sumK H (p + 1) (kOf p * 640 + r.val) y := by
    intro r y; unfold sumK; rw [Finset.sum_range_succ, if_pos (e1 r)]
  have hcV : ∀ (r : Fin 640) (y : Fin 128), sumV H p (kOf p * 640 + r.val) y + tileV H (qOf p) (kOf p * 640 + r.val) y = sumV H (p + 1) (kOf p * 640 + r.val) y := by
    intro r y; unfold sumV; rw [Finset.sum_range_succ, if_pos (e1 r)]
  have hf := facts t
  refine ⟨fun R y => ?_, fun r y => ?_, fun r y => ?_⟩
  · unfold step tileD
    dsimp only
    generalize_proofs pf1 pf2
    revert pf1 pf2
    rw [hu, hw]
    intro pf1 pf2
    rw [← hc]
    split
    · exact maskedQ_at b _ _ R y (hD R y) _ _
    · rename_i h
      obtain ⟨g1, g2⟩ := plain_below _ b.hu _ b.hw (pair_lt p hp).2.2 h
      exact plainQ_at b g1 g2 _ _ R y (hD R y) _ _
  · unfold step tileA
    dsimp only
    rw [hu, hw, ← hcK]
    split
    · exact maskedK_at b _ r y _ (hA r y)
    · rename_i h
      obtain ⟨g1, g2⟩ := plain_below _ b.hu _ b.hw (pair_lt p hp).2.2 h
      exact plainK_at b g1 g2 _ r y _ (hA r y)
  · unfold step tileB
    dsimp only
    rw [hu, hw, ← hcV]
    split
    · exact maskedV_at b _ r y _ (hB r y)
    · rename_i h
      obtain ⟨g1, g2⟩ := plain_below _ b.hu _ b.hw (pair_lt p hp).2.2 h
      exact plainV_at b g1 g2 _ r y _ (hB r y)

theorem holds_traj : ∀ (n : ℕ) (h : n < cfgA.N), Holds (Hs (n / 91)) (n % 91) (traj m c (n + 1))
  | 0, h => by
    rw [show (0 : ℕ) + 1 = (⟨0, h⟩ : Fin cfgA.N).val + 1 from rfl, traj_succ]
    exact holds_step m c Hs hb ⟨0, h⟩ _ fun h0 => absurd rfl h0
  | n + 1, h => by
    rw [show n + 1 + 1 = (⟨n + 1, h⟩ : Fin cfgA.N).val + 1 from rfl, traj_succ]
    refine holds_step m c Hs hb ⟨n + 1, h⟩ _ fun h0 => ?_
    have ih := holds_traj n (Nat.lt_of_succ_lt h)
    have e1 : (n + 1) / 91 = n / 91 := by have : (n + 1) % 91 ≠ 0 := h0; omega
    have e2 : (n + 1) % 91 - 1 = n % 91 := by have : (n + 1) % 91 ≠ 0 := h0; omega
    show Holds (Hs ((n + 1) / 91)) ((n + 1) % 91 - 1) (traj m c (n + 1))
    rw [e1, e2]
    exact ih

end Cert.KernelIdeal.Bwd

end
-- ==== Proof.HostStages.lean ====
module

public import proofs.«01_k».proof.Proof.IdealData
public import Idealize.ShloMosaic.Lib.Pointwise

@[expose] public section

/-!
# The host's lines before the grid

The six arrays that the grid's blocks come from, as terms in the program's arguments.
-/

set_option maxRecDepth 16384

noncomputable section

namespace Cert.KernelIdeal.Bwd

open Cert.KernelIdeal Cert.KernelIdeal.Gen
open Idealize.ShloMosaic Idealize.ShloMosaic.TcCoe

abbrev A4 : Type := FVec Ideal S8320x4096 .f32
abbrev A2 : Type := FVec Ideal S8320x2048 .f32
/-- One number to each head, query and key; to each head and query. -/
abbrev Sq : Type := FVec Ideal S16x8320x8320 .f32
abbrev Row : Type := FVec Ideal S16x8320x1 .f32

section Stages

variable (a0 a1 : A4) (a2 a3 : A2)

def hScaled : A4 := mulf a0 (broadcastInDim S8320x4096 ![] bcast_S_S8320x4096 (constant S_ .f32 0x3D93CD3A#32))
def hLog2 : FVec Ideal S_ .f32 := Host.log (constant S_ .f32 0x40000000#32)
def hQ : FVec Ideal S8320x16x256 .f32 := shapeCast _ (hScaled a0) shapeCasts_S8320x4096_S8320x16x256
def hK : FVec Ideal S8320x16x256 .f32 := shapeCast _ a1 shapeCasts_S8320x4096_S8320x16x256
def hV : FVec Ideal S8320x16x128 .f32 := shapeCast _ a2 shapeCasts_S8320x2048_S8320x16x128
def hScore : Sq := Host.dotGeneral dot_S8320x16x256_S8320x16x256_S16x8320x8320_2_2_0_0_1_1 none (hQ a0) (hK a1)
def hSees : IVec S16x8320x8320 1 := broadcastInDim S16x8320x8320 ![1, 2] bcast_S8320x8320_S16x8320x8320_1_2 (andi (cmpi .sle (iotaInDim S8320x8320 32 1) (iotaInDim S8320x8320 32 0)) (ori (cmpi .sge (iotaInDim S8320x8320 32 1) (broadcastInDim S8320x8320 ![] bcast_S_S8320x8320 (constantI S_ 32 112#32))) (cmpi .eq (iotaInDim S8320x8320 32 1) (iotaInDim S8320x8320 32 0))))
def hMasked : Sq := select hSees (hScore a0 a1) (broadcastInDim S16x8320x8320 ![] bcast_S_S16x8320x8320 (constant S_ .f32 0xFF800000#32))
def hMax (x : Sq) : FVec Ideal S16x8320 .f32 := Host.reduce FloatOps.maximumf x (constant S_ .f32 0xFF800000#32) reducesTo_S16x8320x8320_S16x8320_d2 h_S_
def hTop : Row := broadcastInDim S16x8320x1 ![0, 1] bcast_S16x8320_S16x8320x1_0_1 (hMax (hMasked a0 a1))
def hEx : Sq := Host.exp (subf (hMasked a0 a1) (broadcastInDim S16x8320x8320 ![0, 1, 2] bcast_S16x8320x1_S16x8320x8320_0_1_2 (hTop a0 a1)))
def hSum : Row := broadcastInDim S16x8320x1 ![0, 1] bcast_S16x8320_S16x8320x1_0_1 (Host.reduceAdd (hEx a0 a1) (constant S_ .f32 0x00000000#32) reducesTo_S16x8320x8320_S16x8320_d2 h_S_)
def hProb : Sq := Host.divf (hEx a0 a1) (broadcastInDim S16x8320x8320 ![0, 1, 2] bcast_S16x8320x1_S16x8320x8320_0_1_2 (hSum a0 a1))
def hOut : FVec Ideal S8320x16x128 .f32 := transpose S8320x16x128 [2, 0, 1] (Host.dotGeneral dot_S8320x16x128_S16x8320x8320_S16x128x8320_0_2_2_1_1_0 none (hV a2) (hProb a0 a1)) transposes_S16x128x8320_S8320x16x128_2_0_1
def hLogs (x y : Row) : Row := Host.divf (addf x (Host.log y)) (broadcastInDim S16x8320x1 ![] bcast_S_S16x8320x1 hLog2)
def hLse : FVec Ideal S16x1x8320 .f32 := shapeCast _ (hLogs (hTop a0 a1) (hSum a0 a1)) shapeCasts_S16x8320x1_S16x1x8320
def hDelta : FVec Ideal S16x1x8320 .f32 := shapeCast _ (transpose S16x8320 [1, 0] (Host.reduceAdd (mulf (shapeCast _ a3 shapeCasts_S8320x2048_S8320x16x128) (hOut a0 a1 a2)) (constant S_ .f32 0x00000000#32) reducesTo_S8320x16x128_S8320x16_d2 h_S_) transposes_S8320x16_S16x8320_1_0) shapeCasts_S16x8320_S16x1x8320
def hWinQ : FVec Ideal S8320x4096 .bf16 := truncf .bf16 (Host.divf (hScaled a0) (broadcastInDim S8320x4096 ![] bcast_S_S8320x4096 hLog2)) bitsLt_bf16_f32
def hWinK : FVec Ideal S8320x4096 .bf16 := truncf .bf16 a1 bitsLt_bf16_f32
def hWinV : FVec Ideal S8320x2048 .bf16 := truncf .bf16 a2 bitsLt_bf16_f32

end Stages

variable (m : (ℓ : Loc nD τ sig) → Buf (Elt Ideal) ℓ) (c : Dev nD)

theorem entry_winQ : entry m c main_v39 = hWinQ (m ((c.tc : Thread nD τ).loc main_arg0)) := by
  unfold entry; after_results_simp <;> rfl
theorem entry_winK : entry m c main_v40 = hWinK (m ((c.tc : Thread nD τ).loc main_arg1)) := by
  unfold entry; after_results_simp <;> rfl
theorem entry_winV : entry m c main_v41 = hWinV (m ((c.tc : Thread nD τ).loc main_arg2)) := by
  unfold entry; after_results_simp <;> rfl
theorem entry_winO : entry m c main_v42 = hWinV (m ((c.tc : Thread nD τ).loc main_arg3)) := by
  unfold entry; after_results_simp <;> rfl
theorem entry_lse : entry m c main_v33 = hLse (m ((c.tc : Thread nD τ).loc main_arg0)) (m ((c.tc : Thread nD τ).loc main_arg1)) := by
  unfold entry; after_results_simp <;> rfl
theorem entry_delta : entry m c main_v44 = hDelta (m ((c.tc : Thread nD τ).loc main_arg0)) (m ((c.tc : Thread nD τ).loc main_arg1)) (m ((c.tc : Thread nD τ).loc main_arg2)) (m ((c.tc : Thread nD τ).loc main_arg3)) := by
  unfold entry; after_results_simp <;> rfl

end Cert.KernelIdeal.Bwd

end
-- ==== Proof.Softmax.lean ====
module

public import proofs.«01_k».proof.Proof.Attn
public import Idealize.ShloMosaic.Lib.Pointwise

@[expose] public section

/-!
# The softmax and its gradients over the reals

One head of the attention, of real inputs. The backward pass reads the row statistics in base 2; a row's weights are its
softmax whatever number is taken off the scores before they are exponentiated.
-/

noncomputable section

namespace Cert.Attn

open Idealize.ShloMosaic

/-! ## The words -/

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_two : Ideal.ofBits .f32 0x40000000#32 = ((2 : ℝ) : EReal) := by
  simp [Ideal.ofBits, Ideal.ieee, -EReal.coe_mul]
  norm_num
/-- The number the queries are scaled by. -/
def scale : ℝ := (Ideal.ofBits .f32 0x3D93CD3A#32).toReal
theorem word_scale : Ideal.ofBits .f32 0x3D93CD3A#32 = ((scale : ℝ) : EReal) := by
  refine (EReal.coe_toReal ?_ ?_).symm <;> simp only [Ideal.ofBits, Ideal.ieee] <;> simp <;> norm_cast <;> exact EReal.coe_ne_top _

/-- The largest of finitely many numbers, none of them positive infinity and one of them real. -/
theorem top_real {n : ℕ} (x : Fin n → EReal) (h : ∀ i, x i ≠ ⊤) (i : Fin n) (hi : x i ≠ ⊥) : ∃ M : ℝ, Finset.fold max ⊥ x Finset.univ = (M : EReal) := by
  refine ⟨(Finset.fold max ⊥ x Finset.univ).toReal, (EReal.coe_toReal ?_ ?_).symm⟩
  · exact ne_of_lt ((Finset.fold_max_lt _).2 ⟨bot_lt_top, fun j _ => lt_top_iff_ne_top.2 (h j)⟩)
  · exact ne_of_gt ((Finset.lt_fold_max _).2 (.inr ⟨i, Finset.mem_univ i, bot_lt_iff_ne_bot.2 hi⟩))

/-! ## One head -/

/-- The queries, keys, values and cotangents of every head side by side. -/
structure Inputs where
  q : ℕ → ℕ → ℝ
  k : ℕ → ℕ → ℝ
  v : ℕ → ℕ → ℝ
  o : ℕ → ℕ → ℝ

variable (X : Inputs) (h : ℕ)

def score (q k : ℕ) : ℝ := ∑ d : Fin 256, X.q q (h * 256 + d.val) * scale * X.k k (h * 256 + d.val)
/-- The exponentials of a row's scores less a number, at the keys it sees, -/
def ex (M : ℝ) (q k : ℕ) : ℝ := if sees k q then Real.exp (score X h q k - M) else 0
/-- their sum, -/
def mass (q : ℕ) : ℝ := ∑ k : Fin 8320, ex X h 0 q k.val
/-- the softmax, -/
def prob (q k : ℕ) : ℝ := ex X h 0 q k / mass X h q
/-- its cotangent, -/
def cot (q k : ℕ) : ℝ := ∑ d : Fin 128, X.v k (h * 128 + d.val) * X.o q (h * 128 + d.val)
/-- the cotangent's mean under the softmax, -/
def mean (q : ℕ) : ℝ := ∑ k : Fin 8320, prob X h q k.val * cot X h q k.val
/-- the scores' cotangent, -/
def ds (q k : ℕ) : ℝ := prob X h q k * (cot X h q k - mean X h q)
/-- and the three gradients. -/
def dq (q : ℕ) (d : Fin 256) : ℝ := ∑ k : Fin 8320, ds X h q k.val * X.k k.val (h * 256 + d.val)
def dk (k : ℕ) (d : Fin 256) : ℝ := ∑ q : Fin 8320, ds X h q.val k * (X.q q.val (h * 256 + d.val) * scale)
def dv (k : ℕ) (d : Fin 128) : ℝ := ∑ q : Fin 8320, prob X h q.val k * X.o q.val (h * 128 + d.val)

theorem ex_eq (M : ℝ) (q k : ℕ) : ex X h M q k = Real.exp (-M) * ex X h 0 q k := by
  unfold ex
  split
  · rw [← Real.exp_add]; congr 1; ring
  · rw [mul_zero]
theorem ex_nonneg (M : ℝ) (q k : ℕ) : 0 ≤ ex X h M q k := by
  unfold ex; split
  · exact (Real.exp_pos _).le
  · exact le_rfl
theorem mass_pos {q : ℕ} (hq : q < 8320) : 0 < mass X h q := by
  refine Finset.sum_pos' (fun k _ => ex_nonneg X h 0 q k.val) ⟨⟨q, hq⟩, Finset.mem_univ _, ?_⟩
  unfold ex
  rw [if_pos (sees_self q)]
  exact Real.exp_pos _
theorem sum_ex (M : ℝ) (q : ℕ) : ∑ k : Fin 8320, ex X h M q k.val = Real.exp (-M) * mass X h q := by
  rw [mass, Finset.mul_sum]
  exact Finset.sum_congr rfl fun k _ => ex_eq X h M q k.val
theorem sum_ex_pos (M : ℝ) {q : ℕ} (hq : q < 8320) : 0 < ∑ k : Fin 8320, ex X h M q k.val := by
  rw [sum_ex]; exact mul_pos (Real.exp_pos _) (mass_pos X h hq)
/-- A row's softmax, whatever is taken off its scores; -/
theorem ex_div (M : ℝ) (q k : ℕ) : ex X h M q k / (∑ k : Fin 8320, ex X h M q k.val) = prob X h q k := by
  rw [sum_ex, ex_eq, prob]
  exact mul_div_mul_left _ _ (Real.exp_ne_zero _)
/-- likewise its log-sum. -/
theorem log_sum (M : ℝ) {q : ℕ} (hq : q < 8320) : M + Real.log (∑ k : Fin 8320, ex X h M q k.val) = Real.log (mass X h q) := by
  rw [sum_ex, Real.log_mul (Real.exp_ne_zero _) (mass_pos X h hq).ne', Real.log_exp]; ring

theorem ln2_pos : 0 < Real.log 2 := Real.log_pos (by norm_num)

/-- What the backward pass reads of the head. -/
def head : Head where
  Q r d := X.q r (h * 256 + d.val) * scale / Real.log 2
  K r d := X.k r (h * 256 + d.val)
  V r d := X.v r (h * 128 + d.val)
  O r d := X.o r (h * 128 + d.val)
  L r := Real.log (mass X h r) / Real.log 2
  E r := mean X h r

theorem raw_head (k : ℕ) {q : ℕ} (hq : q < 8320) : raw (head X h) k q = Real.exp (score X h q k) / mass X h q := by
  have e : (∑ d, (head X h).K k d * (head X h).Q q d) - (head X h).L q = (score X h q k - Real.log (mass X h q)) / Real.log 2 := by
    rw [sub_div, score, Finset.sum_div]
    congr 1
    refine Finset.sum_congr rfl fun d _ => ?_
    show X.k k (h * 256 + d.val) * (X.q q (h * 256 + d.val) * scale / Real.log 2) = _
    ring
  rw [raw, e, Real.rpow_eq_pow, Real.rpow_def_of_pos (by norm_num), mul_div_cancel₀ _ ln2_pos.ne', Real.exp_sub, Real.exp_log (mass_pos X h hq)]
theorem wt_head (k : ℕ) {q : ℕ} (hq : q < 8320) : wt (head X h) k q = prob X h q k := by
  unfold wt prob ex
  split
  · rw [raw_head X h k hq, sub_zero]
  · rw [zero_div]
theorem gr_head (k : ℕ) {q : ℕ} (hq : q < 8320) : gr (head X h) k q = ds X h q k := by
  have e1 : dp (head X h) k q = cot X h q k := rfl
  have e2 : (head X h).E q = mean X h q := by simp only [head]
  rw [gr, ds, wt_head X h k hq, e1, e2]

/-- The row sums of the output times its cotangent are the means. -/
theorem mean_eq (q : ℕ) : ∑ d : Fin 128, X.o q (h * 128 + d.val) * (∑ k : Fin 8320, X.v k.val (h * 128 + d.val) * prob X h q k.val) = mean X h q := by
  unfold mean cot
  simp only [Finset.mul_sum]
  rw [Finset.sum_comm]
  refine Finset.sum_congr rfl fun k _ => Finset.sum_congr rfl fun d _ => by ring

end Cert.Attn

end
-- ==== Proof.HostValue.lean ====
module

public import proofs.«01_k».proof.Proof.HostStages
public import proofs.«01_k».proof.Proof.Softmax

@[expose] public section

/-!
# What the host's lines compute

The six arrays read at an index, where the arguments hold real numbers: the rows of each head.
-/

set_option maxRecDepth 16384

noncomputable section

namespace Cert.KernelIdeal.Bwd

open Cert.KernelIdeal Cert.KernelIdeal.Gen Cert.Attn
open Idealize.ShloMosaic Idealize.ShloMosaic.TcCoe

/-- The arguments hold real numbers. -/
structure Reals (X : Inputs) (a0 a1 : A4) (a2 a3 : A2) : Prop where
  h0 : ∀ (r : Fin 8320) (x : Fin 4096), a0 (ix2 r x) = ((X.q r.val x.val : ℝ) : EReal)
  h1 : ∀ (r : Fin 8320) (x : Fin 4096), a1 (ix2 r x) = ((X.k r.val x.val : ℝ) : EReal)
  h2 : ∀ (r : Fin 8320) (x : Fin 2048), a2 (ix2 r x) = ((X.v r.val x.val : ℝ) : EReal)
  h3 : ∀ (r : Fin 8320) (x : Fin 2048), a3 (ix2 r x) = ((X.o r.val x.val : ℝ) : EReal)

theorem hSees_at (h : Fin 16) (q k : Fin 8320) : hSees (ix3 h q k) = BitVec.ofBool (decide (sees k.val q.val)) := by
  unfold hSees; pointwise
  exact word_sees _ _ (by omega) (by omega)
theorem hMax_at (x : Sq) (h : Fin 16) (q : Fin 8320) :
    hMax x (ix2 h q) = Finset.fold max (Ideal.ofBits .f32 0xFF800000#32) (fun k : Fin 8320 => x (ix3 h q k)) Finset.univ := by
  unfold hMax; pointwise
theorem col_at (x : FVec Ideal S16x8320 .f32) (h : Fin 16) (q : Fin 8320) :
    broadcastInDim S16x8320x1 ![0, 1] bcast_S16x8320_S16x8320x1_0_1 x (ix3 h q 0) = x (ix2 h q) := by
  pointwise
theorem hLog2_at (i : S_.Idx) : hLog2 i = ((Real.log 2 : ℝ) : EReal) := by
  unfold hLog2
  pointwise [word_two]
  rw [Ideal.log_coe, if_neg (by norm_num)]
theorem hLogs_at (x y : Row) (h : Fin 16) (q : Fin 8320) :
    hLogs x y (ix3 h q 0) = Ideal.div (x (ix3 h q 0) + Ideal.log (y (ix3 h q 0))) ((Real.log 2 : ℝ) : EReal) := by
  unfold hLogs; pointwise [hLog2_at]
theorem flat_at (x : Row) (h : Fin 16) (q : Fin 8320) :
    shapeCast S16x1x8320 x shapeCasts_S16x8320x1_S16x1x8320 (ix3 h 0 q) = x (ix3 h q 0) := by
  pointwise

section Values

variable {X : Inputs} {a0 a1 : A4} {a2 a3 : A2} (R : Reals X a0 a1 a2 a3)
include R

theorem hScaled_at (r : Fin 8320) (x : Fin 4096) : hScaled a0 (ix2 r x) = ((X.q r.val x.val * scale : ℝ) : EReal) := by
  unfold hScaled; pointwise [R.h0, word_scale]; rw [← EReal.coe_mul]
theorem hQ_at (r : Fin 8320) (h : Fin 16) (d : Fin 256) : hQ a0 (ix3 r h d) = ((X.q r.val (h.val * 256 + d.val) * scale : ℝ) : EReal) := by
  unfold hQ; pointwise [hScaled_at R]
theorem hK_at (r : Fin 8320) (h : Fin 16) (d : Fin 256) : hK a1 (ix3 r h d) = ((X.k r.val (h.val * 256 + d.val) : ℝ) : EReal) := by
  unfold hK; pointwise [R.h1]
theorem hV_at (r : Fin 8320) (h : Fin 16) (d : Fin 128) : hV a2 (ix3 r h d) = ((X.v r.val (h.val * 128 + d.val) : ℝ) : EReal) := by
  unfold hV; pointwise [R.h2]
theorem hScore_at (h : Fin 16) (q k : Fin 8320) : hScore a0 a1 (ix3 h q k) = ((score X h.val q.val k.val : ℝ) : EReal) := by
  unfold hScore; pointwise [hQ_at R, hK_at R]
  simp only [← EReal.coe_mul, ← coe_sum]
  rw [score]
theorem hMasked_at (h : Fin 16) (q k : Fin 8320) :
    hMasked a0 a1 (ix3 h q k) = if sees k.val q.val then ((score X h.val q.val k.val : ℝ) : EReal) else ⊥ := by
  unfold hMasked; pointwise [hSees_at, hScore_at R, word_bot]
/-- A row's largest score is a real number, and the row's exponentials are relative to it. -/
theorem hTop_at (h : Fin 16) (q : Fin 8320) : ∃ M : ℝ, hTop a0 a1 (ix3 h q 0) = (M : EReal) := by
  obtain ⟨M, hM⟩ := top_real (fun k : Fin 8320 => hMasked a0 a1 (ix3 h q k))
    (fun k => by rw [hMasked_at R]; split; exacts [EReal.coe_ne_top _, bot_ne_top]) q
    (by rw [hMasked_at R, if_pos (sees_self _)]; exact EReal.coe_ne_bot _)
  exact ⟨M, by rw [hTop, col_at, hMax_at, word_bot, hM]⟩

variable {h : Fin 16} {q : Fin 8320} {M : ℝ} (hM : hTop a0 a1 (ix3 h q 0) = (M : EReal))
include hM

theorem hEx_at (k : Fin 8320) : hEx a0 a1 (ix3 h q k) = ((ex X h.val M q.val k.val : ℝ) : EReal) := by
  unfold hEx; pointwise [hMasked_at R, hM]
  unfold ex
  split
  · rw [← EReal.coe_sub]; rfl
  · rfl
theorem hSum_at : hSum a0 a1 (ix3 h q 0) = ((∑ k : Fin 8320, ex X h.val M q.val k.val : ℝ) : EReal) := by
  unfold hSum; pointwise [hEx_at R hM]
  rw [coe_sum]
theorem hProb_at (k : Fin 8320) : hProb a0 a1 (ix3 h q k) = ((prob X h.val q.val k.val : ℝ) : EReal) := by
  unfold hProb; pointwise [hEx_at R hM, hSum_at R hM]
  rw [Ideal.div_coe (sum_ex_pos X h.val M q.isLt).ne', ← EReal.coe_mul, mul_one_div, ex_div]
theorem hLse_row : hLse a0 a1 (ix3 h 0 q) = ((Real.log (mass X h.val q.val) / Real.log 2 : ℝ) : EReal) := by
  rw [hLse, flat_at, hLogs_at, hM, hSum_at R hM, Ideal.log_coe, if_neg (sum_ex_pos X h.val M q.isLt).not_ge, Ideal.div_coe ln2_pos.ne', ← EReal.coe_add, ← EReal.coe_mul, mul_one_div, log_sum X h.val M q.isLt]

end Values

section Rows

variable {X : Inputs} {a0 a1 : A4} {a2 a3 : A2} (R : Reals X a0 a1 a2 a3)
include R

theorem hProb_real (h : Fin 16) (q k : Fin 8320) : hProb a0 a1 (ix3 h q k) = ((prob X h.val q.val k.val : ℝ) : EReal) :=
  let ⟨_, hM⟩ := hTop_at R h q
  hProb_at R hM k
theorem hLse_at (h : Fin 16) (q : Fin 8320) : hLse a0 a1 (ix3 h 0 q) = (((head X h.val).L q.val : ℝ) : EReal) :=
  let ⟨_, hM⟩ := hTop_at R h q
  hLse_row R hM
theorem hOut_at (q : Fin 8320) (h : Fin 16) (d : Fin 128) :
    hOut a0 a1 a2 (ix3 q h d) = ((∑ k : Fin 8320, X.v k.val (h.val * 128 + d.val) * prob X h.val q.val k.val : ℝ) : EReal) := by
  unfold hOut; pointwise [hProb_real R, hV_at R]
  simp only [← EReal.coe_mul, ← coe_sum]
theorem hDelta_at (h : Fin 16) (q : Fin 8320) : hDelta a0 a1 a2 a3 (ix3 h 0 q) = (((head X h.val).E q.val : ℝ) : EReal) := by
  unfold hDelta; pointwise [hOut_at R, R.h3]
  simp only [← EReal.coe_mul, ← coe_sum]
  rw [mean_eq]
  rfl
theorem hWinQ_at (r : Fin 8320) (x : Fin 4096) : hWinQ a0 (ix2 r x) = ((X.q r.val x.val * scale / Real.log 2 : ℝ) : EReal) := by
  unfold hWinQ; pointwise [hScaled_at R, hLog2_at]
  rw [Ideal.div_coe ln2_pos.ne', ← EReal.coe_mul, mul_one_div]
theorem hWinK_at (r : Fin 8320) (x : Fin 4096) : hWinK a1 (ix2 r x) = ((X.k r.val x.val : ℝ) : EReal) := by
  unfold hWinK; pointwise [R.h1]
theorem hWinV_at (r : Fin 8320) (x : Fin 2048) : hWinV a2 (ix2 r x) = ((X.v r.val x.val : ℝ) : EReal) := by
  unfold hWinV; pointwise [R.h2]
theorem hWinO_at (r : Fin 8320) (x : Fin 2048) : hWinV a3 (ix2 r x) = ((X.o r.val x.val : ℝ) : EReal) := by
  unfold hWinV; pointwise [R.h3]

end Rows

end Cert.KernelIdeal.Bwd

end
-- ==== Proof.Schedule.lean ====
module

public import proofs.«01_k».proof.Proof.IdealGrid
public import proofs.«01_k».proof.Proof.IdealFacts
public import Idealize.ShloMosaic.Lib.Pipeline.ValueKit.Geometry

@[expose] public section

/-!
# Where the windows' blocks lie

Each window's block indices at a point, at which points the outputs are written back, and that the written blocks cover the
three results.
-/

set_option maxRecDepth 16384

noncomputable section

namespace Cert.KernelIdeal.Bwd

open Cert.KernelIdeal Cert.KernelIdeal.Gen
open Idealize.ShloMosaic Idealize.ShloMosaic.TcCoe

theorem index0 : ∀ t : Fin cfgA.N, ((pcfg0 (F := Ideal)).win adm (0 : Fin 9)).index t = ![qOf (t.val % 91), t.val / 91] := by decide +kernel
theorem index1 : ∀ t : Fin cfgA.N, ((pcfg0 (F := Ideal)).win adm (1 : Fin 9)).index t = ![kOf (t.val % 91), t.val / 91] := by decide +kernel
theorem index2 : ∀ t : Fin cfgA.N, ((pcfg0 (F := Ideal)).win adm (2 : Fin 9)).index t = ![kOf (t.val % 91), t.val / 91] := by decide +kernel
theorem index3 : ∀ t : Fin cfgA.N, ((pcfg0 (F := Ideal)).win adm (3 : Fin 9)).index t = ![qOf (t.val % 91), t.val / 91] := by decide +kernel
theorem index4 : ∀ t : Fin cfgA.N, ((pcfg0 (F := Ideal)).win adm (4 : Fin 9)).index t = ![t.val / 91, 0, qOf (t.val % 91)] := by decide +kernel
theorem index5 : ∀ t : Fin cfgA.N, ((pcfg0 (F := Ideal)).win adm (5 : Fin 9)).index t = ![t.val / 91, 0, qOf (t.val % 91)] := by decide +kernel
theorem index6 : ∀ t : Fin cfgA.N, ((pcfg0 (F := Ideal)).win adm (6 : Fin 9)).index t = ![0, t.val / 91] := by decide +kernel
theorem index7 : ∀ t : Fin cfgA.N, ((pcfg0 (F := Ideal)).win adm (7 : Fin 9)).index t = ![kOf (t.val % 91), t.val / 91] := by decide +kernel
theorem index8 : ∀ t : Fin cfgA.N, ((pcfg0 (F := Ideal)).win adm (8 : Fin 9)).index t = ![kOf (t.val % 91), t.val / 91] := by decide +kernel

theorem flush6 : ∀ t : Fin cfgA.N, (cfgA.win (6 : Fin 9)).flush t = true → t.val % 91 = 90 := by decide +kernel
theorem flush7 : ∀ t : Fin cfgA.N, (cfgA.win (7 : Fin 9)).flush t = true → qOf (t.val % 91) = 12 := by decide +kernel
theorem flush8 : ∀ t : Fin cfgA.N, (cfgA.win (8 : Fin 9)).flush t = true → qOf (t.val % 91) = 12 := by decide +kernel

theorem covers6 : (cfgA.win (6 : Fin 9)).Covers := by decide +kernel
theorem covers7 : (cfgA.win (7 : Fin 9)).Covers := by decide +kernel
theorem covers8 : (cfgA.win (8 : Fin 9)).Covers := by decide +kernel

end Cert.KernelIdeal.Bwd

end
-- ==== Proof.Blocks.lean ====
module

public import proofs.«01_k».proof.Proof.IdealLaunch
public import proofs.«01_k».proof.Proof.IdealTrace
public import proofs.«01_k».proof.Proof.HostValue
public import proofs.«01_k».proof.Proof.Schedule

@[expose] public section

/-!
# The blocks of a point

Where each window's block lies in its array, and that the six blocks a point reads are its head's rows.
-/

set_option maxRecDepth 16384

noncomputable section

namespace Cert.KernelIdeal.Bwd

open Cert.KernelIdeal Cert.KernelIdeal.Gen Cert.Attn
open Idealize.ShloMosaic Idealize.ShloMosaic.TcCoe

variable (m : (ℓ : Loc nD τ sig) → Buf (Elt Ideal) ℓ) (c : Dev nD)

theorem blk0_at (t : Fin cfgA.N) (r : Fin 640) (x : Fin 256) (R : Fin 8320) (C : Fin 4096)
    (hR : R.val = qOf (t.val % 91) * 640 + r.val) (hC : C.val = t.val / 91 * 256 + x.val) :
    blk0 m c t (ix2 r x) = entry m c main_v39 (ix2 R C) := by
  unfold blk0
  blk_simp
  refine congrArg (entry m c main_v39) ?_
  blk_ext
  · rw [index0, hR]; rfl
  · rw [index0, hC]; rfl
theorem blk1_at (t : Fin cfgA.N) (r : Fin 640) (x : Fin 256) (R : Fin 8320) (C : Fin 4096)
    (hR : R.val = kOf (t.val % 91) * 640 + r.val) (hC : C.val = t.val / 91 * 256 + x.val) :
    blk1 m c t (ix2 r x) = entry m c main_v40 (ix2 R C) := by
  unfold blk1
  blk_simp
  refine congrArg (entry m c main_v40) ?_
  blk_ext
  · rw [index1, hR]; rfl
  · rw [index1, hC]; rfl
theorem blk2_at (t : Fin cfgA.N) (r : Fin 640) (x : Fin 128) (R : Fin 8320) (C : Fin 2048)
    (hR : R.val = kOf (t.val % 91) * 640 + r.val) (hC : C.val = t.val / 91 * 128 + x.val) :
    blk2 m c t (ix2 r x) = entry m c main_v41 (ix2 R C) := by
  unfold blk2
  blk_simp
  refine congrArg (entry m c main_v41) ?_
  blk_ext
  · rw [index2, hR]; rfl
  · rw [index2, hC]; rfl
theorem blk3_at (t : Fin cfgA.N) (r : Fin 640) (x : Fin 128) (R : Fin 8320) (C : Fin 2048)
    (hR : R.val = qOf (t.val % 91) * 640 + r.val) (hC : C.val = t.val / 91 * 128 + x.val) :
    blk3 m c t (ix2 r x) = entry m c main_v42 (ix2 R C) := by
  unfold blk3
  blk_simp
  refine congrArg (entry m c main_v42) ?_
  blk_ext
  · rw [index3, hR]; rfl
  · rw [index3, hC]; rfl
theorem blk4_at (t : Fin cfgA.N) (r : Fin 640) (h : Fin 16) (R : Fin 8320)
    (hR : R.val = qOf (t.val % 91) * 640 + r.val) (hh : h.val = t.val / 91) :
    blk4 m c t (ix3 0 0 r) = entry m c main_v33 (ix3 h 0 R) := by
  unfold blk4
  blk_simp
  refine congrArg (entry m c main_v33) ?_
  blk_ext
  · rw [index4, hh]; rfl
  · rw [index4]; rfl
  · rw [index4, hR]; rfl
theorem blk5_at (t : Fin cfgA.N) (r : Fin 640) (h : Fin 16) (R : Fin 8320)
    (hR : R.val = qOf (t.val % 91) * 640 + r.val) (hh : h.val = t.val / 91) :
    blk5 m c t (ix3 0 0 r) = entry m c main_v44 (ix3 h 0 R) := by
  unfold blk5
  blk_simp
  refine congrArg (entry m c main_v44) ?_
  blk_ext
  · rw [index5, hh]; rfl
  · rw [index5]; rfl
  · rw [index5, hR]; rfl

/-- The arguments of the program hold the inputs' real numbers. -/
abbrev Args (X : Inputs) : Prop :=
  Reals X (m ((c.tc : Thread nD τ).loc main_arg0)) (m ((c.tc : Thread nD τ).loc main_arg1)) (m ((c.tc : Thread nD τ).loc main_arg2)) (m ((c.tc : Thread nD τ).loc main_arg3))

theorem blocks (X : Inputs) (R : Args m c X) (t : Fin cfgA.N) :
    Block (head X (t.val / 91)) (qOf (t.val % 91)) (kOf (t.val % 91)) (blk0 m c t) (blk1 m c t) (blk2 m c t) (blk3 m c t) (blk4 m c t) (blk5 m c t) := by
  obtain ⟨g1, g2, -⟩ := pair_lt (t.val % 91) (Nat.mod_lt _ (by decide))
  have ht : t.val < 1456 := t.isLt
  refine ⟨g1, g2, fun r x => ?_, fun r x => ?_, fun r x => ?_, fun r x => ?_, fun r => ?_, fun r => ?_⟩
  · rw [blk0_at m c t r x ⟨qOf (t.val % 91) * 640 + r.val, by omega⟩ ⟨t.val / 91 * 256 + x.val, by omega⟩ rfl rfl, entry_winQ, hWinQ_at R]; rfl
  · rw [blk1_at m c t r x ⟨kOf (t.val % 91) * 640 + r.val, by omega⟩ ⟨t.val / 91 * 256 + x.val, by omega⟩ rfl rfl, entry_winK, hWinK_at R]; rfl
  · rw [blk2_at m c t r x ⟨kOf (t.val % 91) * 640 + r.val, by omega⟩ ⟨t.val / 91 * 128 + x.val, by omega⟩ rfl rfl, entry_winV, hWinV_at R]; rfl
  · rw [blk3_at m c t r x ⟨qOf (t.val % 91) * 640 + r.val, by omega⟩ ⟨t.val / 91 * 128 + x.val, by omega⟩ rfl rfl, entry_winO, hWinO_at R]; rfl
  · rw [blk4_at m c t r ⟨t.val / 91, by omega⟩ ⟨qOf (t.val % 91) * 640 + r.val, by omega⟩ rfl rfl, entry_lse, hLse_at R]
  · rw [blk5_at m c t r ⟨t.val / 91, by omega⟩ ⟨qOf (t.val % 91) * 640 + r.val, by omega⟩ rfl rfl, entry_delta, hDelta_at R]

end Cert.KernelIdeal.Bwd

end
-- ==== Proof.Outputs.lean ====
module

public import proofs.«01_k».proof.Proof.Blocks

@[expose] public section

/-!
# The kernel's results

The three arrays after the run, where the arguments hold real numbers.
-/

set_option maxRecDepth 16384

noncomputable section

namespace Cert.KernelIdeal.Bwd

open Cert.KernelIdeal Cert.KernelIdeal.Gen Cert.Attn
open Idealize.ShloMosaic Idealize.ShloMosaic.TcCoe
open Idealize.SL.Sem

/-- The three gradients, laid out as the results are. -/
def outQ (X : Inputs) : A4 := fun i => ((dq X ((i 1).val / 256) (i 0).val ⟨(i 1).val % 256, Nat.mod_lt _ (by decide)⟩ : ℝ) : EReal)
def outK (X : Inputs) : A4 := fun i => ((dk X ((i 1).val / 256) (i 0).val ⟨(i 1).val % 256, Nat.mod_lt _ (by decide)⟩ : ℝ) : EReal)
def outV (X : Inputs) : A2 := fun i => ((dv X ((i 1).val / 128) (i 0).val ⟨(i 1).val % 128, Nat.mod_lt _ (by decide)⟩ : ℝ) : EReal)

theorem outQ_at (X : Inputs) (r : Fin 8320) (x : Fin 4096) (h : ℕ) (d : Fin 256) (e : x.val = h * 256 + d.val) :
    outQ X (ix2 r x) = ((dq X h r.val d : ℝ) : EReal) := by
  have e1 : x.val / 256 = h := by omega
  have e2 : (⟨x.val % 256, Nat.mod_lt _ (by decide)⟩ : Fin 256) = d := Fin.ext (by show x.val % 256 = _; omega)
  show ((dq X (x.val / 256) r.val ⟨x.val % 256, _⟩ : ℝ) : EReal) = _
  rw [e1, e2]
theorem outK_at (X : Inputs) (r : Fin 8320) (x : Fin 4096) (h : ℕ) (d : Fin 256) (e : x.val = h * 256 + d.val) :
    outK X (ix2 r x) = ((dk X h r.val d : ℝ) : EReal) := by
  have e1 : x.val / 256 = h := by omega
  have e2 : (⟨x.val % 256, Nat.mod_lt _ (by decide)⟩ : Fin 256) = d := Fin.ext (by show x.val % 256 = _; omega)
  show ((dk X (x.val / 256) r.val ⟨x.val % 256, _⟩ : ℝ) : EReal) = _
  rw [e1, e2]
theorem outV_at (X : Inputs) (r : Fin 8320) (x : Fin 2048) (h : ℕ) (d : Fin 128) (e : x.val = h * 128 + d.val) :
    outV X (ix2 r x) = ((dv X h r.val d : ℝ) : EReal) := by
  have e1 : x.val / 128 = h := by omega
  have e2 : (⟨x.val % 128, Nat.mod_lt _ (by decide)⟩ : Fin 128) = d := Fin.ext (by show x.val % 128 = _; omega)
  show ((dv X (x.val / 128) r.val ⟨x.val % 128, _⟩ : ℝ) : EReal) = _
  rw [e1, e2]

section Sums

variable (X : Inputs) (h : ℕ)

theorem gradQ_head {R : ℕ} (hR : R < 8320) (y : Fin 256) : gradQ (head X h) R y = dq X h R y := by
  unfold gradQ dq
  exact Finset.sum_congr rfl fun k _ => by rw [gr_head X h k.val hR]; simp only [head]
theorem gradK_head (R : ℕ) (y : Fin 256) : gradK (head X h) R y * Real.log 2 = dk X h R y := by
  unfold gradK dk
  rw [Finset.sum_mul]
  refine Finset.sum_congr rfl fun q _ => ?_
  rw [gr_head X h R q.isLt]
  simp only [head]
  rw [mul_assoc, div_mul_cancel₀ _ ln2_pos.ne']
theorem gradV_head (R : ℕ) (y : Fin 128) : gradV (head X h) R y = dv X h R y := by
  unfold gradV dv
  exact Finset.sum_congr rfl fun q _ => by rw [wt_head X h R q.isLt]; simp only [head]

end Sums

/-- The last scaling is by the logarithm of two. -/
theorem pay9_at (x : Vec Ideal S640x256 .f32) (r : Fin 640) (y : Fin 256) :
    k0_pay9 (F := Ideal) x (ix2 r y) = x (ix2 r y) * ((Real.log 2 : ℝ) : EReal) := by
  unfold k0_pay9; pointwise
  rw [IdealRules.named_const.ideal_named_scalar _ _ _ _ rfl]

theorem ix2_of {n k : ℕ} (y : (⟨2, ![n, k]⟩ : Shape).Idx) : ∃ (r : Fin n) (x : Fin k), y = ix2 r x :=
  ⟨y 0, y 1, by funext a; match a with | ⟨0, _⟩ => rfl | ⟨1, _⟩ => rfl⟩

/-- Where an output block lies. -/
theorem emb6 (t : Fin cfgA.N) (r : Fin 8320) (x : Fin 256) :
    ((cfgA.win (6 : Fin 9)).blk t).view.emb (ix2 r x)
      = (ix2 (⟨r.val, r.isLt⟩ : Fin 8320) (⟨t.val / 91 * 256 + x.val, by have : t.val < 1456 := t.isLt; omega⟩ : Fin 4096) : (⟨2, ![8320, 4096]⟩ : Shape).Idx) := by
  blk_ext
  · rw [index6]; show 0 * 8320 + r.val = r.val; rw [Nat.zero_mul, Nat.zero_add]
  · rw [index6]; rfl
theorem emb7 (t : Fin cfgA.N) (r : Fin 640) (x : Fin 256) :
    ((cfgA.win (7 : Fin 9)).blk t).view.emb (ix2 r x)
      = (ix2 (⟨kOf (t.val % 91) * 640 + r.val, by have := (pair_lt (t.val % 91) (Nat.mod_lt _ (by decide))).2.1; omega⟩ : Fin 8320) (⟨t.val / 91 * 256 + x.val, by have : t.val < 1456 := t.isLt; omega⟩ : Fin 4096) : (⟨2, ![8320, 4096]⟩ : Shape).Idx) := by
  blk_ext
  · rw [index7]; rfl
  · rw [index7]; rfl
theorem emb8 (t : Fin cfgA.N) (r : Fin 640) (x : Fin 128) :
    ((cfgA.win (8 : Fin 9)).blk t).view.emb (ix2 r x)
      = (ix2 (⟨kOf (t.val % 91) * 640 + r.val, by have := (pair_lt (t.val % 91) (Nat.mod_lt _ (by decide))).2.1; omega⟩ : Fin 8320) (⟨t.val / 91 * 128 + x.val, by have : t.val < 1456 := t.isLt; omega⟩ : Fin 2048) : (⟨2, ![8320, 2048]⟩ : Shape).Idx) := by
  blk_ext
  · rw [index8]; rfl
  · rw [index8]; rfl

variable (m : (ℓ : Loc nD τ sig) → Buf (Elt Ideal) ℓ) (c : Dev nD) (X : Inputs) (A : Args m c X)
include A

theorem holds (t : Fin cfgA.N) : Holds (head X (t.val / 91)) (t.val % 91) (traj m c (t.val + 1)) :=
  holds_traj m c (head X) (blocks m c X A) t.val t.isLt

theorem final_q : (dats m 0 c).arrAt (6 : Fin 9) cfgA.N = outQ X := by
  refine (dats m 0 c).arrAt_eq_of_covers (6 : Fin 9) _ covers6 fun t hf y => ?_
  blk_simp
  rw [after6]
  obtain ⟨r, x, rfl⟩ := ix2_of y
  rw [emb6, (holds m c X A t).1 r x, flush6 t hf, sumQ_all _ r.isLt, gradQ_head X _ r.isLt]
  exact (outQ_at X _ _ _ x rfl).symm
theorem last_k (t : Fin cfgA.N) (hf : (cfgA.win (7 : Fin 9)).flush t = true) (r : Fin 640) (x : Fin 256) (R : Fin 8320) (Y : Fin 4096)
    (hR : R.val = kOf (t.val % 91) * 640 + r.val) (hY : Y.val = t.val / 91 * 256 + x.val) :
    k0_pay9 (traj m c (t.val + 1)).2.1 (ix2 r x) = outK X (ix2 R Y) := by
  have hlt : kOf (t.val % 91) * 640 + r.val < 8320 := hR ▸ R.isLt
  have hk : (kOf (t.val % 91) * 640 + r.val) / 640 = kOf (t.val % 91) := by omega
  rw [outK_at X R Y (t.val / 91) x hY, pay9_at, (holds m c X A t).2.1 r x, sumK_done _ (t.val % 91) (Nat.mod_lt _ (by decide)) (flush7 t hf) hk, sumK_all _ hlt,
    ← EReal.coe_mul, gradK_head, hR]
theorem final_k : (dats m 0 c).arrAt (7 : Fin 9) cfgA.N = outK X := by
  refine (dats m 0 c).arrAt_eq_of_covers (7 : Fin 9) _ covers7 fun t hf y => ?_
  blk_simp
  rw [after7]
  obtain ⟨r, x, rfl⟩ := ix2_of y
  rw [emb7]
  exact last_k m c X A t hf r x _ _ rfl rfl
theorem last_v (t : Fin cfgA.N) (hf : (cfgA.win (8 : Fin 9)).flush t = true) (r : Fin 640) (x : Fin 128) (R : Fin 8320) (Y : Fin 2048)
    (hR : R.val = kOf (t.val % 91) * 640 + r.val) (hY : Y.val = t.val / 91 * 128 + x.val) :
    (traj m c (t.val + 1)).2.2 (ix2 r x) = outV X (ix2 R Y) := by
  have hlt : kOf (t.val % 91) * 640 + r.val < 8320 := hR ▸ R.isLt
  have hk : (kOf (t.val % 91) * 640 + r.val) / 640 = kOf (t.val % 91) := by omega
  rw [outV_at X R Y (t.val / 91) x hY, (holds m c X A t).2.2 r x, sumV_done _ (t.val % 91) (Nat.mod_lt _ (by decide)) (flush8 t hf) hk, sumV_all _ hlt,
    gradV_head, hR]
theorem final_v : (dats m 0 c).arrAt (8 : Fin 9) cfgA.N = outV X := by
  refine (dats m 0 c).arrAt_eq_of_covers (8 : Fin 9) _ covers8 fun t hf y => ?_
  blk_simp
  rw [after8]
  obtain ⟨r, x, rfl⟩ := ix2_of y
  rw [emb8]
  exact last_v m c X A t hf r x _ _ rfl rfl

omit A in
/-- The run's end: the three gradients, the arguments unchanged. -/
theorem run_value (g : Dev nD → PrngReg) (Xs : Dev nD → Inputs) (As : ∀ c, Args m c (Xs c)) :
    θ_run (defs (F := Ideal)) (onTc (τ := τ) (main (F := Ideal))) ⟨m, fun _ => 0, g⟩ (fun r => ∀ c : Dev nD,
      r.2.mem ((c.tc : Thread nD τ).loc main_v45_0) = outQ (Xs c)
      ∧ r.2.mem ((c.tc : Thread nD τ).loc main_v45_1) = outK (Xs c)
      ∧ r.2.mem ((c.tc : Thread nD τ).loc main_v45_2) = outV (Xs c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 (6 : Fin 9)).trans (final_q m c (Xs c) (As c)),
      ((h.1 c).1 (7 : Fin 9)).trans (final_k m c (Xs c) (As c)),
      ((h.1 c).1 (8 : Fin 9)).trans (final_v m c (Xs c) (As c)),
      ((h.1 c).2 _ (Pipeline.mem_restRefs_of main_arg0 rfl (by decide))).trans (entry_arg0 m c),
      ((h.1 c).2 _ (Pipeline.mem_restRefs_of main_arg1 rfl (by decide))).trans (entry_arg1 m c),
      ((h.1 c).2 _ (Pipeline.mem_restRefs_of main_arg2 rfl (by decide))).trans (entry_arg2 m c),
      ((h.1 c).2 _ (Pipeline.mem_restRefs_of main_arg3 rfl (by decide))).trans (entry_arg3 m c)⟩) (run_main m g)

end Cert.KernelIdeal.Bwd

end
-- ==== Proof.RefStages.lean ====
module

public import proofs.«01_k».proof.Proof.Gen.ReferenceIdeal.Run
public import Idealize.ShloMosaic.Lib.Pointwise

@[expose] public section

/-!
# The stages of the reference

The reference's stages as arrays of its arguments.
-/

set_option maxRecDepth 16384

noncomputable section

namespace Cert.ReferenceIdeal.Bwd

open Cert.ReferenceIdeal Cert.ReferenceIdeal.Gen
open Idealize.ShloMosaic Idealize.ShloMosaic.TcCoe

abbrev A4 : Type := FVec Ideal S8320x4096 .f32
abbrev A2 : Type := FVec Ideal S8320x2048 .f32
/-- One number to each head, query and key; to each head and query. -/
abbrev Sq : Type := FVec Ideal S16x8320x8320 .f32
abbrev Row : Type := FVec Ideal S16x8320x1 .f32

section Stages

variable (a0 a1 : A4) (a2 a3 : A2)

def rQ : FVec Ideal S8320x16x256 .f32 := shapeCast _ (mulf a0 (broadcastInDim S8320x4096 ![] bcast_S_S8320x4096 (constant S_ .f32 0x3D93CD3A#32))) shapeCasts_S8320x4096_S8320x16x256
def rK : FVec Ideal S8320x16x256 .f32 := shapeCast _ a1 shapeCasts_S8320x4096_S8320x16x256
def rV : FVec Ideal S8320x16x128 .f32 := shapeCast _ a2 shapeCasts_S8320x2048_S8320x16x128
def rO : FVec Ideal S16x128x8320 .f32 := transpose S16x128x8320 [1, 2, 0] (shapeCast _ a3 shapeCasts_S8320x2048_S8320x16x128) transposes_S8320x16x128_S16x128x8320_1_2_0
def rScore : Sq := Host.dotGeneral dot_S8320x16x256_S8320x16x256_S16x8320x8320_2_2_0_0_1_1 none (rQ a0) (rK a1)
def rSees : IVec S16x8320x8320 1 := broadcastInDim S16x8320x8320 ![1, 2] bcast_S8320x8320_S16x8320x8320_1_2 (andi (cmpi .sle (broadcastInDim S8320x8320 ![0, 1] bcast_S1x8320_S8320x8320_0_1 (broadcastInDim S1x8320 ![1] bcast_S8320_S1x8320_1 (iotaInDim S8320 32 0))) (broadcastInDim S8320x8320 ![0, 1] bcast_S8320x1_S8320x8320_0_1 (broadcastInDim S8320x1 ![0] bcast_S8320_S8320x1_0 (iotaInDim S8320 32 0)))) (ori (broadcastInDim S8320x8320 ![0, 1] bcast_S1x8320_S8320x8320_0_1 (broadcastInDim S1x8320 ![1] bcast_S8320_S1x8320_1 (cmpi .sge (iotaInDim S8320 32 0) (broadcastInDim S8320 ![] bcast_S_S8320 (constantI S_ 32 112#32))))) (cmpi .eq (broadcastInDim S8320x8320 ![0, 1] bcast_S1x8320_S8320x8320_0_1 (broadcastInDim S1x8320 ![1] bcast_S8320_S1x8320_1 (iotaInDim S8320 32 0))) (broadcastInDim S8320x8320 ![0, 1] bcast_S8320x1_S8320x8320_0_1 (broadcastInDim S8320x1 ![0] bcast_S8320_S8320x1_0 (iotaInDim S8320 32 0))))))
def rMasked : Sq := select rSees (rScore a0 a1) (broadcastInDim S16x8320x8320 ![] bcast_S_S16x8320x8320 (constant S_ .f32 0xFF800000#32))
def rMax (x : Sq) : FVec Ideal S16x8320 .f32 := Host.reduce FloatOps.maximumf x (constant S_ .f32 0xFF800000#32) reducesTo_S16x8320x8320_S16x8320_d2 h_S_
def rTop : FVec Ideal S16x8320 .f32 := maximumf (broadcastInDim S16x8320 ![] bcast_S_S16x8320 (constant S_ .f32 0xFF800000#32)) (rMax (rMasked a0 a1))
def rEx : Sq := Host.exp (subf (rMasked a0 a1) (broadcastInDim S16x8320x8320 ![0, 1, 2] bcast_S16x8320x1_S16x8320x8320_0_1_2 (broadcastInDim S16x8320x1 ![0, 1] bcast_S16x8320_S16x8320x1_0_1 (rTop a0 a1))))
def rSum : Row := broadcastInDim S16x8320x1 ![0, 1] bcast_S16x8320_S16x8320x1_0_1 (Host.reduceAdd (rEx a0 a1) (constant S_ .f32 0x00000000#32) reducesTo_S16x8320x8320_S16x8320_d2 h_S_)
def rProb : Sq := Host.divf (rEx a0 a1) (broadcastInDim S16x8320x8320 ![0, 1, 2] bcast_S16x8320x1_S16x8320x8320_0_1_2 (rSum a0 a1))
def rInv : Row := Host.divf (broadcastInDim S16x8320x1 ![] bcast_S_S16x8320x1 (constant S_ .f32 0x3F800000#32)) (mulf (rSum a0 a1) (rSum a0 a1))
def rCot : Sq := Host.dotGeneral dot_S16x128x8320_S8320x16x128_S16x8320x8320_1_2_2_0_0_1 none (rO a3) (rV a2)
def rMean : Row := Host.negf (shapeCast _ (Host.reduceAdd (mulf (mulf (rCot a2 a3) (broadcastInDim S16x8320x8320 ![0, 1, 2] bcast_S16x8320x1_S16x8320x8320_0_1_2 (rInv a0 a1))) (rEx a0 a1)) (constant S_ .f32 0x00000000#32) reducesTo_S16x8320x8320_S16x8320_d2 h_S_) shapeCasts_S16x8320_S16x8320x1)
def rDiff : Sq := addf (Host.divf (rCot a2 a3) (broadcastInDim S16x8320x8320 ![0, 1, 2] bcast_S16x8320x1_S16x8320x8320_0_1_2 (rSum a0 a1))) (broadcastInDim S16x8320x8320 ![0, 1] bcast_S16x8320_S16x8320x8320_0_1 (Host.reduceAdd (rMean a0 a1 a2 a3) (constant S_ .f32 0x00000000#32) reducesTo_S16x8320x1_S16x8320_d2 h_S_))
def rDs : Sq := select rSees (mulf (rDiff a0 a1 a2 a3) (rEx a0 a1)) (broadcastInDim S16x8320x8320 ![] bcast_S_S16x8320x8320 (constant S_ .f32 0x00000000#32))
def rOutQ : A4 := shapeCast _ (transpose S8320x16x256 [1, 0, 2] (Host.dotGeneral dot_S16x8320x8320_S8320x16x256_S16x8320x256_2_0_1_2_0_1 none (rDs a0 a1 a2 a3) (rK a1)) transposes_S16x8320x256_S8320x16x256_1_0_2) shapeCasts_S8320x16x256_S8320x4096
def rOutK : A4 := shapeCast _ (transpose S8320x16x256 [1, 0, 2] (Host.dotGeneral dot_S16x8320x8320_S8320x16x256_S16x8320x256_1_0_2_2_0_1 none (rDs a0 a1 a2 a3) (rQ a0)) transposes_S16x8320x256_S8320x16x256_1_0_2) shapeCasts_S8320x16x256_S8320x4096
def rOutV : A2 := shapeCast _ (transpose S8320x16x128 [2, 0, 1] (Host.dotGeneral dot_S16x128x8320_S16x8320x8320_S16x128x8320_2_1_1_2_0_0 none (rO a3) (rProb a0 a1)) transposes_S16x128x8320_S8320x16x128_2_0_1) shapeCasts_S8320x16x128_S8320x2048

end Stages

theorem out0_eq (m : (ℓ : Loc nD τ sig) → Buf (Elt Ideal) ℓ) (c : Dev nD) :
    Value.res_main_v79 m c = rOutQ (m ((c.tc : Thread nD τ).loc main_arg0)) (m ((c.tc : Thread nD τ).loc main_arg1)) (m ((c.tc : Thread nD τ).loc main_arg2)) (m ((c.tc : Thread nD τ).loc main_arg3)) := rfl
theorem out1_eq (m : (ℓ : Loc nD τ sig) → Buf (Elt Ideal) ℓ) (c : Dev nD) :
    Value.res_main_v78 m c = rOutK (m ((c.tc : Thread nD τ).loc main_arg0)) (m ((c.tc : Thread nD τ).loc main_arg1)) (m ((c.tc : Thread nD τ).loc main_arg2)) (m ((c.tc : Thread nD τ).loc main_arg3)) := rfl
theorem out2_eq (m : (ℓ : Loc nD τ sig) → Buf (Elt Ideal) ℓ) (c : Dev nD) :
    Value.res_main_v60 m c = rOutV (m ((c.tc : Thread nD τ).loc main_arg0)) (m ((c.tc : Thread nD τ).loc main_arg1)) (m ((c.tc : Thread nD τ).loc main_arg3)) := rfl

end Cert.ReferenceIdeal.Bwd

end
-- ==== Proof.RefValue.lean ====
module

public import proofs.«01_k».proof.Proof.RefStages
public import proofs.«01_k».proof.Proof.Softmax

@[expose] public section

/-!
# What the reference computes

The reference's stages read at an index where the arguments hold real numbers.
-/

set_option maxRecDepth 16384

noncomputable section

namespace Cert.ReferenceIdeal.Bwd

open Cert.ReferenceIdeal Cert.ReferenceIdeal.Gen Cert.Attn
open Idealize.ShloMosaic Idealize.ShloMosaic.TcCoe

/-- The arguments hold real numbers. -/
structure Reals (X : Inputs) (a0 a1 : A4) (a2 a3 : A2) : Prop where
  h0 : ∀ (r : Fin 8320) (x : Fin 4096), a0 (ix2 r x) = ((X.q r.val x.val : ℝ) : EReal)
  h1 : ∀ (r : Fin 8320) (x : Fin 4096), a1 (ix2 r x) = ((X.k r.val x.val : ℝ) : EReal)
  h2 : ∀ (r : Fin 8320) (x : Fin 2048), a2 (ix2 r x) = ((X.v r.val x.val : ℝ) : EReal)
  h3 : ∀ (r : Fin 8320) (x : Fin 2048), a3 (ix2 r x) = ((X.o r.val x.val : ℝ) : EReal)

section Values

variable {X : Inputs} {a0 a1 : A4} {a2 a3 : A2} (R : Reals X a0 a1 a2 a3)
include R

theorem rQ_at (r : Fin 8320) (h : Fin 16) (d : Fin 256) : rQ a0 (ix3 r h d) = ((X.q r.val (h.val * 256 + d.val) * scale : ℝ) : EReal) := by
  unfold rQ; pointwise [R.h0, word_scale]; rw [← EReal.coe_mul]
theorem rK_at (r : Fin 8320) (h : Fin 16) (d : Fin 256) : rK a1 (ix3 r h d) = ((X.k r.val (h.val * 256 + d.val) : ℝ) : EReal) := by
  unfold rK; pointwise [R.h1]
theorem rV_at (r : Fin 8320) (h : Fin 16) (d : Fin 128) : rV a2 (ix3 r h d) = ((X.v r.val (h.val * 128 + d.val) : ℝ) : EReal) := by
  unfold rV; pointwise [R.h2]
theorem rO_at (r : Fin 8320) (h : Fin 16) (d : Fin 128) : rO a3 (ix3 h d r) = ((X.o r.val (h.val * 128 + d.val) : ℝ) : EReal) := by
  unfold rO; pointwise [R.h3]
theorem rScore_at (h : Fin 16) (q k : Fin 8320) : rScore a0 a1 (ix3 h q k) = ((score X h.val q.val k.val : ℝ) : EReal) := by
  unfold rScore; pointwise [rQ_at R, rK_at R]
  simp only [← EReal.coe_mul, ← coe_sum]
  rw [score]
omit R in
theorem rSees_at (h : Fin 16) (q k : Fin 8320) : rSees (ix3 h q k) = BitVec.ofBool (decide (sees k.val q.val)) := by
  unfold rSees; pointwise
  exact word_sees _ _ (by omega) (by omega)
theorem rMasked_at (h : Fin 16) (q k : Fin 8320) :
    rMasked a0 a1 (ix3 h q k) = if sees k.val q.val then ((score X h.val q.val k.val : ℝ) : EReal) else ⊥ := by
  unfold rMasked; pointwise [rSees_at, rScore_at R, word_bot]
omit R in
theorem rMax_at (x : Sq) (h : Fin 16) (q : Fin 8320) :
    rMax x (ix2 h q) = Finset.fold max (Ideal.ofBits .f32 0xFF800000#32) (fun k : Fin 8320 => x (ix3 h q k)) Finset.univ := by
  unfold rMax; pointwise
omit R in
theorem max_at (x y : FVec Ideal S16x8320 .f32) (i : S16x8320.Idx) : maximumf x y i = max (x i) (y i) := rfl
omit R in
theorem least_at (h : Fin 16) (q : Fin 8320) :
    broadcastInDim S16x8320 ![] bcast_S_S16x8320 (constant (F := Ideal) S_ .f32 0xFF800000#32) (ix2 h q) = ⊥ := by
  pointwise [word_bot]
theorem rTop_at (h : Fin 16) (q : Fin 8320) : ∃ M : ℝ, rTop a0 a1 (ix2 h q) = (M : EReal) := by
  obtain ⟨M, hM⟩ := top_real (fun k : Fin 8320 => rMasked a0 a1 (ix3 h q k))
    (fun k => by rw [rMasked_at R]; split; exacts [EReal.coe_ne_top _, bot_ne_top]) q
    (by rw [rMasked_at R, if_pos (sees_self _)]; exact EReal.coe_ne_bot _)
  refine ⟨M, ?_⟩
  rw [rTop, max_at, least_at, rMax_at, word_bot, hM]
  exact max_eq_right bot_le
theorem rEx_at (h : Fin 16) (q : Fin 8320) : ∃ M : ℝ, ∀ k : Fin 8320, rEx a0 a1 (ix3 h q k) = ((ex X h.val M q.val k.val : ℝ) : EReal) := by
  obtain ⟨M, hM⟩ := rTop_at R h q
  refine ⟨M, fun k => ?_⟩
  unfold rEx; pointwise [rMasked_at R, hM]
  unfold ex
  split
  · rw [← EReal.coe_sub]; rfl
  · rfl

variable {h : Fin 16} {q : Fin 8320} {M : ℝ} (hM : ∀ k : Fin 8320, rEx a0 a1 (ix3 h q k) = ((ex X h.val M q.val k.val : ℝ) : EReal))
include hM

theorem rSum_at : rSum a0 a1 (ix3 h q 0) = ((∑ k : Fin 8320, ex X h.val M q.val k.val : ℝ) : EReal) := by
  unfold rSum; pointwise [hM]
  rw [coe_sum]
theorem rProb_at (k : Fin 8320) : rProb a0 a1 (ix3 h q k) = ((prob X h.val q.val k.val : ℝ) : EReal) := by
  unfold rProb; pointwise [hM, rSum_at R hM]
  rw [Ideal.div_coe (sum_ex_pos X h.val M q.isLt).ne', ← EReal.coe_mul, mul_one_div, ex_div]
theorem rInv_at : rInv a0 a1 (ix3 h q 0) = ((1 / ((∑ k : Fin 8320, ex X h.val M q.val k.val) * ∑ k : Fin 8320, ex X h.val M q.val k.val) : ℝ) : EReal) := by
  unfold rInv; pointwise [rSum_at R hM]
  rw [← EReal.coe_mul, Ideal.div_coe (mul_pos (sum_ex_pos X h.val M q.isLt) (sum_ex_pos X h.val M q.isLt)).ne', one_mul]
omit hM in
theorem rCot_at (k : Fin 8320) : rCot a2 a3 (ix3 h q k) = ((cot X h.val q.val k.val : ℝ) : EReal) := by
  unfold rCot; pointwise [rO_at R, rV_at R]
  simp only [← EReal.coe_mul, ← coe_sum, cot]
  congr 1
  exact Finset.sum_congr rfl fun d _ => mul_comm _ _
theorem rMean_at : rMean a0 a1 a2 a3 (ix3 h q 0)
    = ((-(mean X h.val q.val / ∑ k : Fin 8320, ex X h.val M q.val k.val) : ℝ) : EReal) := by
  unfold rMean; pointwise [rCot_at R, rInv_at R hM, hM]
  simp only [← EReal.coe_mul, ← coe_sum, ← EReal.coe_neg]
  congr 2
  rw [mean, Finset.sum_div]
  refine Finset.sum_congr rfl fun k _ => ?_
  rw [← ex_div X h.val M]
  have hp := (sum_ex_pos X h.val M q.isLt).ne'
  generalize (∑ k : Fin 8320, ex X h.val M q.val k.val) = l at *
  field_simp
theorem rDiff_at (k : Fin 8320) : rDiff a0 a1 a2 a3 (ix3 h q k)
    = ((cot X h.val q.val k.val * (1 / ∑ k : Fin 8320, ex X h.val M q.val k.val)
        + -(mean X h.val q.val / ∑ k : Fin 8320, ex X h.val M q.val k.val) : ℝ) : EReal) := by
  unfold rDiff; pointwise [rCot_at R, rSum_at R hM]
  rw [Ideal.div_coe (sum_ex_pos X h.val M q.isLt).ne', Fin.sum_univ_one, rMean_at R hM, ← EReal.coe_mul, ← EReal.coe_add]
theorem rDs_at (k : Fin 8320) : rDs a0 a1 a2 a3 (ix3 h q k) = ((ds X h.val q.val k.val : ℝ) : EReal) := by
  unfold rDs; pointwise [rSees_at, rDiff_at R hM, hM]
  simp only [← EReal.coe_mul]
  rw [ds, ← ex_div X h.val M]
  have hp := (sum_ex_pos X h.val M q.isLt).ne'
  generalize (∑ k : Fin 8320, ex X h.val M q.val k.val) = l at *
  split
  · congr 1; field_simp; ring
  · rename_i hs; rw [ex, if_neg hs, zero_div, zero_mul]; rfl

end Values

section Outputs

variable {X : Inputs} {a0 a1 : A4} {a2 a3 : A2} (R : Reals X a0 a1 a2 a3)
include R

theorem rDs_real (h : Fin 16) (q k : Fin 8320) : rDs a0 a1 a2 a3 (ix3 h q k) = ((ds X h.val q.val k.val : ℝ) : EReal) :=
  let ⟨_, hM⟩ := rEx_at R h q
  rDs_at R hM k
theorem rProb_real (h : Fin 16) (q k : Fin 8320) : rProb a0 a1 (ix3 h q k) = ((prob X h.val q.val k.val : ℝ) : EReal) :=
  let ⟨_, hM⟩ := rEx_at R h q
  rProb_at R hM k

/-- The reference's three results: column `h * 256 + d` (`h * 128 + d` of the values) is of head `h`. -/
theorem rOutQ_at (r : Fin 8320) (h : Fin 16) (d : Fin 256) (x : Fin 4096) (hx : x.val = h.val * 256 + d.val) :
    rOutQ a0 a1 a2 a3 (ix2 r x) = ((dq X h.val r.val d : ℝ) : EReal) := by
  unfold rOutQ; pointwise [rDs_real R, rK_at R]
  rw [show x.val / 256 = h.val by omega, show x.val % 256 = d.val by omega]
  simp only [← EReal.coe_mul, ← coe_sum]
  rw [dq]
theorem rOutK_at (r : Fin 8320) (h : Fin 16) (d : Fin 256) (x : Fin 4096) (hx : x.val = h.val * 256 + d.val) :
    rOutK a0 a1 a2 a3 (ix2 r x) = ((dk X h.val r.val d : ℝ) : EReal) := by
  unfold rOutK; pointwise [rDs_real R, rQ_at R]
  rw [show x.val / 256 = h.val by omega, show x.val % 256 = d.val by omega]
  simp only [← EReal.coe_mul, ← coe_sum]
  rw [dk]
theorem rOutV_at (r : Fin 8320) (h : Fin 16) (d : Fin 128) (x : Fin 2048) (hx : x.val = h.val * 128 + d.val) :
    rOutV a0 a1 a3 (ix2 r x) = ((dv X h.val r.val d : ℝ) : EReal) := by
  unfold rOutV; pointwise [rProb_real R, rO_at R]
  rw [show x.val / 128 = h.val by omega, show x.val % 128 = d.val by omega]
  simp only [← EReal.coe_mul, ← coe_sum]
  rw [dv]
  congr 1
  exact Finset.sum_congr rfl fun q _ => mul_comm _ _

end Outputs

end Cert.ReferenceIdeal.Bwd

end
-- ==== Proof.Finite.lean ====
module

public import proofs.«01_k».proof.Defs
public import proofs.«01_k».proof.Proof.Gen.Pre_finite
public import proofs.«01_k».proof.Proof.Softmax
public import Idealize.ShloMosaic.Lib.Pointwise
public import Idealize.ShloMosaic.Lib.ReduceAll
public import Idealize.ShloMosaic.Lib.Affine

@[expose] public section

/-!
# The precondition

Where the precondition holds every argument's every entry is a real number.
-/

set_option maxRecDepth 16384

noncomputable section

namespace Cert.Pre_finite

open Cert.Pre_finite.Gen Cert.Attn
open Idealize.ShloMosaic Idealize.ShloMosaic.TcCoe

/-- A number whose absolute value is below infinity is real. -/
theorem real_of (x : EReal) (h : Ideal.cmp .olt (max x (-x)) ⊤ = 1#1) : x = ((x.toReal : ℝ) : EReal) := by
  have h' : max x (-x) < ⊤ := by
    by_contra hn
    simp [Ideal.cmp, hn] at h
  refine (EReal.coe_toReal ?_ ?_).symm
  · rintro rfl; simp at h'
  · rintro rfl; simp at h'

theorem below4 (a : FVec Ideal S8320x4096 .f32) (r : Fin 8320) (x : Fin 4096)
    (h : cmpf .olt (Host.absf a) (broadcastInDim S8320x4096 ![] bcast_S_S8320x4096 (constant S_ .f32 0x7F800000#32)) (ix2 r x) = 1#1) :
    a (ix2 r x) = (((a (ix2 r x) : EReal).toReal : ℝ) : EReal) := by
  revert h
  pointwise [word_top]
  exact real_of _
theorem below2 (a : FVec Ideal S8320x2048 .f32) (r : Fin 8320) (x : Fin 2048)
    (h : cmpf .olt (Host.absf a) (broadcastInDim S8320x2048 ![] bcast_S_S8320x2048 (constant S_ .f32 0x7F800000#32)) (ix2 r x) = 1#1) :
    a (ix2 r x) = (((a (ix2 r x) : EReal).toReal : ℝ) : EReal) := by
  revert h
  pointwise [word_top]
  exact real_of _

instance : Subsingleton S_.Idx := ⟨fun i j => funext fun a => absurd a.isLt (Nat.not_lt_zero _)⟩

theorem finite (a0 a1 : FVec Ideal S8320x4096 .f32) (a2 a3 : FVec Ideal S8320x2048 .f32) (h : fn (F := Ideal) a0 a1 a2 a3 = fun _ => 1#1) :
    (∀ (r : Fin 8320) (x : Fin 4096), a0 (ix2 r x) = (((a0 (ix2 r x) : EReal).toReal : ℝ) : EReal))
    ∧ (∀ (r : Fin 8320) (x : Fin 4096), a1 (ix2 r x) = (((a1 (ix2 r x) : EReal).toReal : ℝ) : EReal))
    ∧ (∀ (r : Fin 8320) (x : Fin 2048), a2 (ix2 r x) = (((a2 (ix2 r x) : EReal).toReal : ℝ) : EReal))
    ∧ ∀ (r : Fin 8320) (x : Fin 2048), a3 (ix2 r x) = (((a3 (ix2 r x) : EReal).toReal : ℝ) : EReal) := by
  have h := congrFun h ix0
  unfold fn fn_part1 at h
  dsimp only at h
  obtain ⟨h, h3⟩ := IntOp.andi_eq_one.1 h
  obtain ⟨h, h2⟩ := IntOp.andi_eq_one.1 h
  obtain ⟨h0, h1⟩ := IntOp.andi_eq_one.1 h
  exact ⟨fun r x => below4 a0 r x (Host.reduce_andi_all _ _ _ _ _ h0 _), fun r x => below4 a1 r x (Host.reduce_andi_all _ _ _ _ _ h1 _),
    fun r x => below2 a2 r x (Host.reduce_andi_all _ _ _ _ _ h2 _), fun r x => below2 a3 r x (Host.reduce_andi_all _ _ _ _ _ h3 _)⟩

/-- The inputs of four arrays, zero past their ends. -/
def inputs (a0 a1 : FVec Ideal S8320x4096 .f32) (a2 a3 : FVec Ideal S8320x2048 .f32) : Inputs where
  q r x := if h : r < 8320 ∧ x < 4096 then (a0 (ix2 ⟨r, h.1⟩ ⟨x, h.2⟩) : EReal).toReal else 0
  k r x := if h : r < 8320 ∧ x < 4096 then (a1 (ix2 ⟨r, h.1⟩ ⟨x, h.2⟩) : EReal).toReal else 0
  v r x := if h : r < 8320 ∧ x < 2048 then (a2 (ix2 ⟨r, h.1⟩ ⟨x, h.2⟩) : EReal).toReal else 0
  o r x := if h : r < 8320 ∧ x < 2048 then (a3 (ix2 ⟨r, h.1⟩ ⟨x, h.2⟩) : EReal).toReal else 0

theorem inputs_at (a0 a1 : FVec Ideal S8320x4096 .f32) (a2 a3 : FVec Ideal S8320x2048 .f32) (h : fn (F := Ideal) a0 a1 a2 a3 = fun _ => 1#1) :
    (∀ (r : Fin 8320) (x : Fin 4096), a0 (ix2 r x) = (((inputs a0 a1 a2 a3).q r.val x.val : ℝ) : EReal))
    ∧ (∀ (r : Fin 8320) (x : Fin 4096), a1 (ix2 r x) = (((inputs a0 a1 a2 a3).k r.val x.val : ℝ) : EReal))
    ∧ (∀ (r : Fin 8320) (x : Fin 2048), a2 (ix2 r x) = (((inputs a0 a1 a2 a3).v r.val x.val : ℝ) : EReal))
    ∧ ∀ (r : Fin 8320) (x : Fin 2048), a3 (ix2 r x) = (((inputs a0 a1 a2 a3).o r.val x.val : ℝ) : EReal) := by
  obtain ⟨f0, f1, f2, f3⟩ := finite a0 a1 a2 a3 h
  refine ⟨fun r x => ?_, fun r x => ?_, fun r x => ?_, fun r x => ?_⟩
  · unfold inputs; dsimp only; rw [dif_pos ⟨r.isLt, x.isLt⟩]; exact f0 r x
  · unfold inputs; dsimp only; rw [dif_pos ⟨r.isLt, x.isLt⟩]; exact f1 r x
  · unfold inputs; dsimp only; rw [dif_pos ⟨r.isLt, x.isLt⟩]; exact f2 r x
  · unfold inputs; dsimp only; rw [dif_pos ⟨r.isLt, x.isLt⟩]; exact f3 r x

end Cert.Pre_finite

end
-- ==== Proof.Algebraic.lean ====
module

public import proofs.«01_k».proof.Proof.Outputs
public import proofs.«01_k».proof.Proof.RefValue
public import proofs.«01_k».proof.Proof.Finite

@[expose] public section

/-!
# The kernel and the reference

On finite arguments both end with the same three arrays: the attention's gradients.
-/

set_option maxRecDepth 16384

noncomputable section

namespace Cert.Bwd

open Cert.Attn
open Idealize.ShloMosaic Idealize.ShloMosaic.TcCoe Idealize.SL.Sem

section Reference

variable {X : Inputs} {a0 a1 : Cert.ReferenceIdeal.Bwd.A4} {a2 a3 : Cert.ReferenceIdeal.Bwd.A2} (R : Cert.ReferenceIdeal.Bwd.Reals X a0 a1 a2 a3)
include R

theorem ref_q : Cert.ReferenceIdeal.Bwd.rOutQ a0 a1 a2 a3 = Cert.KernelIdeal.Bwd.outQ X := by
  funext i
  obtain ⟨r, x, rfl⟩ := Cert.KernelIdeal.Bwd.ix2_of i
  have e : x.val = x.val / 256 * 256 + x.val % 256 := by omega
  rw [Cert.ReferenceIdeal.Bwd.rOutQ_at R r ⟨x.val / 256, by omega⟩ ⟨x.val % 256, by omega⟩ x e]
  exact (Cert.KernelIdeal.Bwd.outQ_at X r x _ ⟨x.val % 256, by omega⟩ e).symm
theorem ref_k : Cert.ReferenceIdeal.Bwd.rOutK a0 a1 a2 a3 = Cert.KernelIdeal.Bwd.outK X := by
  funext i
  obtain ⟨r, x, rfl⟩ := Cert.KernelIdeal.Bwd.ix2_of i
  have e : x.val = x.val / 256 * 256 + x.val % 256 := by omega
  rw [Cert.ReferenceIdeal.Bwd.rOutK_at R r ⟨x.val / 256, by omega⟩ ⟨x.val % 256, by omega⟩ x e]
  exact (Cert.KernelIdeal.Bwd.outK_at X r x _ ⟨x.val % 256, by omega⟩ e).symm
theorem ref_v : Cert.ReferenceIdeal.Bwd.rOutV a0 a1 a3 = Cert.KernelIdeal.Bwd.outV X := by
  funext i
  obtain ⟨r, x, rfl⟩ := Cert.KernelIdeal.Bwd.ix2_of i
  have e : x.val = x.val / 128 * 128 + x.val % 128 := by omega
  rw [Cert.ReferenceIdeal.Bwd.rOutV_at R r ⟨x.val / 128, by omega⟩ ⟨x.val % 128, by omega⟩ x e]
  exact (Cert.KernelIdeal.Bwd.outV_at X r x _ ⟨x.val % 128, by omega⟩ e).symm

end Reference

theorem algebraic : Cert.algebraic_KernelIdeal_ReferenceIdeal_pre_finite := by
  intro m g m' g' hpre hargs
  let Xs : Dev Cert.KernelIdeal.nD → Inputs := fun c => Cert.Pre_finite.inputs
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
  have hX := fun c => Cert.Pre_finite.inputs_at _ _ _ _ (hpre c)
  have As : ∀ c, Cert.KernelIdeal.Bwd.Args m c (Xs c) := fun c => ⟨(hX c).1, (hX c).2.1, (hX c).2.2.1, (hX c).2.2.2⟩
  refine ⟨fun c => Cert.KernelIdeal.Bwd.outQ (Xs c), fun c => Cert.KernelIdeal.Bwd.outK (Xs c), fun c => Cert.KernelIdeal.Bwd.outV (Xs c),
    Cert.KernelIdeal.Bwd.run_value m g Xs As, ?_⟩
  refine (θ_run Cert.ReferenceIdeal.defs _ _).mono (fun r h c => ?_) (Cert.ReferenceIdeal.Value.run (F := Ideal) m' g')
  obtain ⟨h0, h1, h2, hk⟩ := h c
  obtain ⟨e0, e1, e2, e3⟩ := hargs c
  have R : Cert.ReferenceIdeal.Bwd.Reals (Xs c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) :=
    ⟨fun r x => (congrFun e0 _).trans ((hX c).1 r x), fun r x => (congrFun e1 _).trans ((hX c).2.1 r x),
      fun r x => (congrFun e2 _).trans ((hX c).2.2.1 r x), fun r x => (congrFun e3 _).trans ((hX c).2.2.2 r x)⟩
  exact ⟨h0.trans ((Cert.ReferenceIdeal.Bwd.out0_eq m' c).trans (ref_q R)), h1.trans ((Cert.ReferenceIdeal.Bwd.out1_eq m' c).trans (ref_k R)),
    h2.trans ((Cert.ReferenceIdeal.Bwd.out2_eq m' c).trans (ref_v R)), hk⟩

end Cert.Bwd

end
-- ==== Proof.Products.lean ====
module

public import Idealize.ShloMosaic.Lib.Pipeline.ValueKit.Geometry
public import Idealize.ShloMosaic.Lib.Pipeline.Value
public import Idealize.ShloMosaic.Lib.Pointwise
public import Idealize.ShloMosaic.PureOps.Ideal

@[expose] public section

/-!
# Products of matrices

The product of a forward pass and the two of a backward pass, entry by entry, and a sum cut into equal runs.
-/

noncomputable section

namespace Cert.Products

open Idealize.ShloMosaic

/-- Rows of the left factor times columns of the right factor. -/
def rowsCols {M N K : ℕ} (a : (⟨2, ![M, K]⟩ : Shape).Idx → EReal) (b : (⟨2, ![K, N]⟩ : Shape).Idx → EReal) : (⟨2, ![M, N]⟩ : Shape).Idx → EReal :=
  fun i => ∑ k : Fin K, a (ix2 (i 0) k) * b (ix2 k (i 1))
/-- Rows of the left factor times rows of the right factor. -/
def rowsRows {M N K : ℕ} (a : (⟨2, ![M, K]⟩ : Shape).Idx → EReal) (b : (⟨2, ![N, K]⟩ : Shape).Idx → EReal) : (⟨2, ![M, N]⟩ : Shape).Idx → EReal :=
  fun i => ∑ k : Fin K, a (ix2 (i 0) k) * b (ix2 (i 1) k)
/-- Columns of the left factor times columns of the right factor. -/
def colsCols {M N K : ℕ} (a : (⟨2, ![K, M]⟩ : Shape).Idx → EReal) (b : (⟨2, ![K, N]⟩ : Shape).Idx → EReal) : (⟨2, ![M, N]⟩ : Shape).Idx → EReal :=
  fun i => ∑ k : Fin K, a (ix2 k (i 0)) * b (ix2 k (i 1))

theorem rowsCols_at {M N K : ℕ} (a : (⟨2, ![M, K]⟩ : Shape).Idx → EReal) (b : (⟨2, ![K, N]⟩ : Shape).Idx → EReal) (r : Fin M) (x : Fin N) :
    rowsCols a b (ix2 r x) = ∑ k : Fin K, a (ix2 r k) * b (ix2 k x) := rfl
theorem rowsRows_at {M N K : ℕ} (a : (⟨2, ![M, K]⟩ : Shape).Idx → EReal) (b : (⟨2, ![N, K]⟩ : Shape).Idx → EReal) (r : Fin M) (x : Fin N) :
    rowsRows a b (ix2 r x) = ∑ k : Fin K, a (ix2 r k) * b (ix2 x k) := rfl
theorem colsCols_at {M N K : ℕ} (a : (⟨2, ![K, M]⟩ : Shape).Idx → EReal) (b : (⟨2, ![K, N]⟩ : Shape).Idx → EReal) (r : Fin M) (x : Fin N) :
    colsCols a b (ix2 r x) = ∑ k : Fin K, a (ix2 k r) * b (ix2 k x) := rfl

theorem ix2_of {A B : ℕ} (y : (⟨2, ![A, B]⟩ : Shape).Idx) : ∃ (r : Fin A) (x : Fin B), y = ix2 r x :=
  ⟨y 0, y 1, funext fun a => by fin_cases a <;> rfl⟩

theorem ix3_all {A B C : ℕ} (y : (⟨3, ![A, B, C]⟩ : Shape).Idx) : ∃ (j : Fin A) (r : Fin B) (x : Fin C), y = ix3 j r x :=
  ⟨y 0, y 1, y 2, funext fun a => by fin_cases a <;> rfl⟩
theorem ix3_of {B C : ℕ} (y : (⟨3, ![1, B, C]⟩ : Shape).Idx) : ∃ (r : Fin B) (x : Fin C), y = ix3 (0 : Fin 1) r x := by
  obtain ⟨j, r, x, rfl⟩ := ix3_all y
  exact ⟨r, x, congrArg (fun j => ix3 j r x) (Fin.ext (by omega))⟩

theorem column_lt {J n : ℕ} (j : Fin J) (x : Fin n) : j.val * n + x.val < J * n :=
  calc j.val * n + x.val < j.val * n + n := by omega
    _ = (j.val + 1) * n := by ring
    _ ≤ J * n := Nat.mul_le_mul_right _ j.isLt

/-- The columns of a matrix in `J` blocks of `n`, one after the other. -/
def columnBlocks {J M n N : ℕ} (w : (⟨2, ![M, N]⟩ : Shape).Idx → EReal) (h : J * n = N := by rfl) : (⟨3, ![J, M, n]⟩ : Shape).Idx → EReal :=
  fun i => w (ix2 (i 1) ⟨(i 0).val * n + (i 2).val, h ▸ column_lt (J := J) (n := n) (i 0) (i 2)⟩)
theorem columnBlocks_at {J M n N : ℕ} (w : (⟨2, ![M, N]⟩ : Shape).Idx → EReal) (h : J * n = N) (j : Fin J) (r : Fin M) (x : Fin n) :
    columnBlocks w h (ix3 j r x) = w (ix2 r ⟨j.val * n + x.val, h ▸ column_lt j x⟩) := rfl

/-- A sum over `J` runs of `n` terms each. -/
theorem sum_runs {N J n : ℕ} (h : J * n = N) (f : Fin N → EReal) :
    ∑ k, f k = ∑ j : Fin J, ∑ k : Fin n, f ⟨j.val * n + k.val, h ▸ column_lt j k⟩ := by
  subst h
  rw [← finProdFinEquiv.sum_comp, Fintype.sum_prod_type]
  refine Finset.sum_congr rfl fun j _ => Finset.sum_congr rfl fun k _ => congrArg f (Fin.ext ?_)
  simp only [finProdFinEquiv_apply_val]; ring

/-- A sum whose two halves are known. -/
theorem sum_halves {N n : ℕ} (h : 2 * n = N) (f : Fin N → EReal) (u v : EReal)
    (hu : u = ∑ k : Fin n, f ⟨k.val, by omega⟩) (hv : v = ∑ k : Fin n, f ⟨n + k.val, by omega⟩) : u + v = ∑ k, f k := by
  rw [sum_runs h, Fin.sum_univ_two, hu, hv]
  congr 1
  · exact Finset.sum_congr rfl fun k _ => congrArg f (Fin.ext (by simp))
  · exact Finset.sum_congr rfl fun k _ => congrArg f (Fin.ext (by simp))

/-- A sum whose three thirds are known. -/
theorem sum_thirds {N n : ℕ} (h : 3 * n = N) (f : Fin N → EReal) (u v w : EReal) (hu : u = ∑ k : Fin n, f ⟨k.val, by omega⟩)
    (hv : v = ∑ k : Fin n, f ⟨n + k.val, by omega⟩) (hw : w = ∑ k : Fin n, f ⟨2 * n + k.val, by omega⟩) : u + v + w = ∑ k, f k := by
  rw [sum_runs h, Fin.sum_univ_three, hu, hv, hw]
  refine congrArg₂ (· + ·) (congrArg₂ (· + ·) ?_ ?_) ?_ <;>
    exact Finset.sum_congr rfl fun k _ => congrArg f (Fin.ext (by simp))

end Cert.Products

end
-- ==== Proof.DAct.lean ====
module

public import proofs.«01_k».proof.Defs
public import proofs.«01_k».proof.Proof.Products
public import proofs.«01_k».proof.Proof.Gen.Kernel2.Frame
public import proofs.«01_k».proof.Proof.Gen.Kernel2Ideal.Value
public import proofs.«01_k».proof.Proof.Gen.Reference2Ideal.Run
public import Idealize.ShloMosaic.Lib.Quiescent

@[expose] public section

/-!
# The gradient of the activations

The product of the cotangent and the transposed output weights, in one pass over the inner axis.
-/

set_option maxRecDepth 16384

noncomputable section

namespace Cert.Kernel2Ideal.Value

open Cert.Kernel2Ideal Cert.Kernel2Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 11, 0] := by decide +kernel
theorem index1 : ∀ t : Fin grid0.N, win0_1.index t = ![t.val % 11, 0] := by decide +kernel
theorem index2 : ∀ t : Fin grid0.N, win0_2.index t = ![t.val / 11, t.val % 11] := by decide +kernel
theorem covers : (cfg0.win 2).Covers := by decide +kernel

/-- What a point stores, entry by entry. -/
theorem out_at (a : Vec Ideal S1040x2048 .bf16) (b : Vec Ideal S512x2048 .bf16) (r : Fin 1040) (x : Fin 512) :
    out0_2 a b (ix2 r x) = ∑ k : Fin 2048, a (ix2 r k) * b (ix2 x k) := by
  unfold out0_2
  rw [View.canon_unit_zero hz]
  simp only [View.ld_unit_zero (S := S1040x2048) hz, View.ld_unit_zero (S := S512x2048) hz]
  unfold k0_pay1
  pointwise

theorem final : (dats m 0 c).arrAt 2 cfg0.N
    = rowsRows (M := 8320) (N := 5632) (K := 2048) (m ((c : Thread nD τ).loc main_arg1)) (m ((c : Thread nD τ).loc main_arg0)) := by
  refine (dats m 0 c).arrAt_eq_of_covers 2 _ covers fun t hf y => ?_
  blk_simp
  rw [after0_2]
  obtain ⟨r, x, rfl⟩ := ix2_of y
  rw [out_at]
  refine Finset.sum_congr (M := EReal) rfl fun k _ => congrArg₂ (· * ·) ?_ ?_
  · unfold iblk
    blk_simp
    refine congrArg (m ((c : Thread nD τ).loc main_arg1)) ?_
    blk_ext
    · exact congrArg (· * 1040 + r.val) ((congrFun (index0 t) 0).trans (congrFun (index2 t) 0).symm)
    · rw [index0]; exact Nat.zero_add _
  · unfold iblk
    blk_simp
    refine congrArg (m ((c : Thread nD τ).loc main_arg0)) ?_
    blk_ext
    · exact congrArg (· * 512 + x.val) ((congrFun (index1 t) 0).trans (congrFun (index2 t) 1).symm)
    · rw [index1]; exact Nat.zero_add _

end Cert.Kernel2Ideal.Value

namespace Cert.DAct

open Cert.Products
open Idealize.ShloMosaic Idealize.ShloMosaic.TcCoe Idealize.SL.Sem

theorem frame_kernel : Cert.quiescent_Kernel2 (hKernel2 := Cert.Kernel2.Gen.facts) :=
  fun m g _ => Cert.Kernel2.Gen.frame (F := Bits) m g

theorem frame_ideal : Cert.quiescent_Kernel2Ideal (hKernel2Ideal := Cert.Kernel2Ideal.Gen.facts) := fun m g _ => Cert.Kernel2Ideal.Gen.frame (F := Ideal) m g

theorem frame_reference : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run (F := Ideal) m g)

theorem reference_eq (a : Vec Ideal Cert.Reference2Ideal.S8320x2048 .bf16) (b : Vec Ideal Cert.Reference2Ideal.S5632x2048 .bf16) :
    truncf (F := Ideal) .bf16 (Host.dotGeneral Cert.Reference2Ideal.dot_S8320x2048_S5632x2048_S8320x5632_1_1_0_0_n_n none
      (extf .f32 a Cert.Reference2Ideal.Facts₀.bitsLt_bf16_f32) (extf .f32 b Cert.Reference2Ideal.Facts₀.bitsLt_bf16_f32)) Cert.Reference2Ideal.Facts₀.bitsLt_bf16_f32
      = rowsRows (M := 8320) (N := 5632) (K := 2048) a b := by
  funext i
  obtain ⟨r, x, rfl⟩ := ix2_of i
  rw [rowsRows_at]
  pointwise

/-- Kernel and reference end with the same product. -/
theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => rowsRows (M := 8320) (N := 5632) (K := 2048)
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg0)),
    (θ_run _ _ _).mono (fun r h c => ⟨(h c).1.trans (Cert.Kernel2Ideal.Value.final m c), (h c).2⟩) (Cert.Kernel2Ideal.Value.run_blocks (F := Ideal) m g),
    (θ_run _ _ _).mono (fun r h c => ⟨(h c).1.trans ((reference_eq _ _).trans (congrArg₂ _ (hargs c).2 (hargs c).1)), (h c).2⟩)
      (Cert.Reference2Ideal.Value.run (F := Ideal) m' g')⟩

end Cert.DAct

end
-- ==== Proof.DwFfnOut.lean ====
module

public import proofs.«01_k».proof.Defs
public import proofs.«01_k».proof.Proof.Products
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent

@[expose] public section

/-!
# The gradient of the output weights

The product of the transposed activations and the cotangent, in two passes over the rows.
-/

set_option maxRecDepth 16384

noncomputable section

namespace Cert.Kernel3Ideal.Value

open Cert.Kernel3Ideal Cert.Kernel3Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val % 2, t.val / 4] := by decide +kernel
theorem index1 : ∀ t : Fin grid0.N, win0_1.index t = ![t.val % 2, t.val / 2 % 2] := by decide +kernel
theorem index2 : ∀ t : Fin grid0.N, win0_2.index t = ![t.val / 4, t.val / 2 % 2] := by decide +kernel
theorem covers : (cfg0.win 2).Covers := by decide +kernel

theorem pay1_at (a : Vec Ideal S4160x512 .bf16) (b : Vec Ideal S4160x1024 .bf16) (r : Fin 512) (x : Fin 1024) :
    k0_pay1 a b (ix2 r x) = ∑ k : Fin 4160, a (ix2 k r) * b (ix2 k x) := by
  unfold k0_pay1
  pointwise

/-- The first pass leaves its product in the accumulator. -/
theorem out_A (i : grid0.Coords) (a3 : Memref sig .tc .vmem S4160x512 .bf16) (h3 : a3.IsWhole) (a4 : Memref sig .tc .vmem S4160x1024 .bf16) (h4 : a4.IsWhole)
    (a5 : Memref sig .tc .vmem S512x1024 .bf16) (h5 : a5.IsWhole) (a6 : Memref sig .tc .vmem S512x1024 .f32) (h6 : a6.IsWhole)
    (e0 : cond0_0 i) (e1 : ¬cond0_1 i) (e2 : ¬cond0_2 i) (a : Vec Ideal S4160x512 .bf16) (b : Vec Ideal S4160x1024 .bf16) :
    sout0_A_0 c i a3 h3 a4 h4 a5 h5 a6 h6 e0 e1 e2 a b = k0_pay1 a b := by
  unfold sout0_A_0
  rw [View.read_writes_eq_canon _ _ _ (scover0_A_0 c i a3 h3 a4 h4 a5 h5 a6 h6 e0 e1 e2 a b)]
  unfold kernelRun0_A
  dsimp only
  rw [View.canon_unit_zero hz]
  unfold k0_pay2
  simp only [View.readAt_eq_ld, h3.read_unread, h4.read_unread, View.ld_unit_zero (S := S4160x512) hz, View.ld_unit_zero (S := S4160x1024) hz, shapeCast_self]

/-- The last pass adds its own and stores the sum. -/
theorem out_B (i : grid0.Coords) (a3 : Memref sig .tc .vmem S4160x512 .bf16) (h3 : a3.IsWhole) (a4 : Memref sig .tc .vmem S4160x1024 .bf16) (h4 : a4.IsWhole)
    (a5 : Memref sig .tc .vmem S512x1024 .bf16) (h5 : a5.IsWhole) (a6 : Memref sig .tc .vmem S512x1024 .f32) (h6 : a6.IsWhole)
    (e0 : ¬cond0_0 i) (e1 : ¬cond0_1 i) (e2 : cond0_2 i) (a : Vec Ideal S4160x512 .bf16) (b : Vec Ideal S4160x1024 .bf16) (s : Vec Ideal S512x1024 .f32) :
    out0_B_2 c i a3 h3 a4 h4 a5 h5 a6 h6 e0 e1 e2 a b s = k0_pay4 a b s := by
  unfold out0_B_2
  rw [View.read_writes_eq_canon _ _ _ (cover0_B_2 c i a3 h3 a4 h4 a5 h5 a6 h6 e0 e1 e2 a b s)]
  unfold kernelRun0_B
  dsimp only
  rw [View.canon_unit_zero hz]
  simp only [View.readAt_eq_ld, h3.read_unread, h4.read_unread, h6.read_unread, View.ld_unit_zero (S := S4160x512) hz, View.ld_unit_zero (S := S4160x1024) hz,
    View.ld_unit_zero (S := S512x1024) hz]

theorem iblk0_at (t : Fin cfg0.N) (k : Fin 4160) (r : Fin 512) (K : Fin 8320) (R : Fin 5632) (hK : K.val = t.val % 2 * 4160 + k.val) (hR : R.val = t.val / 4 * 512 + r.val) :
    iblk m c 0 t (ix2 k r) = m ((c : Thread nD τ).loc main_arg0) (ix2 K R) := by
  unfold iblk
  blk_simp
  refine congrArg (m ((c : Thread nD τ).loc main_arg0)) ?_
  blk_ext
  · rw [index0, hK]; rfl
  · rw [index0, hR]; rfl
theorem iblk1_at (t : Fin cfg0.N) (k : Fin 4160) (x : Fin 1024) (K : Fin 8320) (X : Fin 2048) (hK : K.val = t.val % 2 * 4160 + k.val) (hX : X.val = t.val / 2 % 2 * 1024 + x.val) :
    iblk m c 1 t (ix2 k x) = m ((c : Thread nD τ).loc main_arg1) (ix2 K X) := by
  unfold iblk
  blk_simp
  refine congrArg (m ((c : Thread nD τ).loc main_arg1)) ?_
  blk_ext
  · rw [index1, hK]; rfl
  · rw [index1, hX]; rfl
theorem emb2 (t : Fin cfg0.N) (r : Fin 512) (x : Fin 1024) :
    ((cfg0.win 2).blk t).view.emb (ix2 r x)
      = (ix2 (⟨t.val / 4 * 512 + r.val, by have : t.val < 44 := t.isLt; omega⟩ : Fin 5632) (⟨t.val / 2 % 2 * 1024 + x.val, by omega⟩ : Fin 2048) : (⟨2, ![5632, 2048]⟩ : Shape).Idx) := by
  blk_ext
  · rw [index2]; rfl
  · rw [index2]; rfl

theorem final : (dats m 0 c).arrAt 2 cfg0.N
    = colsCols (M := 5632) (N := 2048) (K := 8320) (m ((c : Thread nD τ).loc main_arg0)) (m ((c : Thread nD τ).loc main_arg1)) := by
  refine (dats m 0 c).arrAt_eq_of_covers 2 _ covers fun t hf y => ?_
  have ht : t.val % 2 = 1 := (flush0_2 t).mp hf
  have hlt : t.val < 44 := t.isLt
  have e := outsAt0_A m c ⟨t.val - 1, lt_of_le_of_lt (Nat.sub_le _ _) t.isLt⟩ (by dsimp only; omega) (by dsimp only; omega)
  blk_simp
  rw [after0_2, outsAt0_B m c t (by omega) ht]
  dsimp only at e ⊢
  rw [out_B, e]
  dsimp only
  rw [out_A]
  obtain ⟨r, x, rfl⟩ := ix2_of y
  rw [emb2, colsCols_at]
  unfold k0_pay4
  pointwise [pay1_at]
  refine sum_halves (n := 4160) (by decide) _ _ _ (Finset.sum_congr rfl fun k _ => ?_) (Finset.sum_congr rfl fun k _ => ?_)
  · rw [iblk0_at m c _ k r ⟨k.val, by omega⟩ ⟨t.val / 4 * 512 + r.val, by omega⟩ (by dsimp only; omega) (by dsimp only; omega),
      iblk1_at m c _ k x ⟨k.val, by omega⟩ ⟨t.val / 2 % 2 * 1024 + x.val, by omega⟩ (by dsimp only; omega) (by dsimp only; omega)]
  · rw [iblk0_at m c _ k r ⟨4160 + k.val, by omega⟩ ⟨t.val / 4 * 512 + r.val, by omega⟩ (by dsimp only; omega) (by dsimp only),
      iblk1_at m c _ k x ⟨4160 + k.val, by omega⟩ ⟨t.val / 2 % 2 * 1024 + x.val, by omega⟩ (by dsimp only; omega) (by dsimp only)]

end Cert.Kernel3Ideal.Value

namespace Cert.DwFfnOut

open Cert.Products
open Idealize.ShloMosaic Idealize.ShloMosaic.TcCoe Idealize.SL.Sem

theorem frame_kernel : Cert.quiescent_Kernel3 (hKernel3 := Cert.Kernel3.Gen.facts) := fun m g _ => Cert.Kernel3.Gen.frame (F := Bits) m g
theorem frame_ideal : Cert.quiescent_Kernel3Ideal (hKernel3Ideal := Cert.Kernel3Ideal.Gen.facts) := fun m g _ => Cert.Kernel3Ideal.Gen.frame (F := Ideal) m g
theorem frame_reference : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run (F := Ideal) m g)

theorem reference_eq (a : Vec Ideal Cert.Reference3Ideal.S8320x5632 .bf16) (b : Vec Ideal Cert.Reference3Ideal.S8320x2048 .bf16) :
    truncf (F := Ideal) .bf16 (transpose Cert.Reference3Ideal.S5632x2048 [1, 0] (Host.dotGeneral Cert.Reference3Ideal.dot_S8320x2048_S8320x5632_S2048x5632_0_0_1_1_n_n none
      (extf .f32 b Cert.Reference3Ideal.Facts₀.bitsLt_bf16_f32) (extf .f32 a Cert.Reference3Ideal.Facts₀.bitsLt_bf16_f32))
      Cert.Reference3Ideal.Facts₀.transposes_S2048x5632_S5632x2048_1_0) Cert.Reference3Ideal.Facts₀.bitsLt_bf16_f32
      = colsCols (M := 5632) (N := 2048) (K := 8320) a b := by
  funext i
  obtain ⟨r, x, rfl⟩ := ix2_of i
  rw [colsCols_at]
  pointwise
  exact Finset.sum_congr rfl fun k _ => mul_comm _ _

/-- Kernel and reference end with the same product. -/
theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => colsCols (M := 5632) (N := 2048) (K := 8320)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    (θ_run _ _ _).mono (fun r h c => ⟨(h c).1.trans (Cert.Kernel3Ideal.Value.final m c), (h c).2⟩) (Cert.Kernel3Ideal.Value.run_blocks (F := Ideal) m g),
    (θ_run _ _ _).mono (fun r h c => ⟨(h c).1.trans ((reference_eq _ _).trans (congrArg₂ _ (hargs c).1 (hargs c).2)), (h c).2⟩)
      (Cert.Reference3Ideal.Value.run (F := Ideal) m' g')⟩

end Cert.DwFfnOut

end
-- ==== Proof.DU2.lean ====
module

public import proofs.«01_k».proof.Defs
public import proofs.«01_k».proof.Proof.Products
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

/-!
# The input gradient of the feed-forward input weights

The product of the cotangent and the transposed weights, in two passes over the inner index.
-/

set_option maxRecDepth 16384

noncomputable section

namespace Cert.Kernel4Ideal.Value

open Cert.Kernel4Ideal Cert.Kernel4Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 4, t.val % 2] := by decide +kernel
theorem index1 : ∀ t : Fin grid0.N, win0_1.index t = ![t.val / 2 % 2, t.val % 2] := by decide +kernel
theorem index2 : ∀ t : Fin grid0.N, win0_2.index t = ![t.val / 4, t.val / 2 % 2] := by decide +kernel
theorem covers : (cfg0.win 2).Covers := by decide +kernel

theorem pay1_at (a : Vec Ideal S520x5632 .bf16) (b : Vec Ideal S1024x5632 .bf16) (r : Fin 520) (x : Fin 1024) :
    k0_pay1 a b (ix2 r x) = ∑ k : Fin 5632, a (ix2 r k) * b (ix2 x k) := by
  unfold k0_pay1
  pointwise

/-- The first pass leaves its product in the accumulator. -/
theorem first (i : grid0.Coords) (a3 : Memref sig .tc .vmem S520x5632 .bf16) (h3 : a3.IsWhole) (a4 : Memref sig .tc .vmem S1024x5632 .bf16) (h4 : a4.IsWhole)
    (ao : Memref sig .tc .vmem S520x1024 .f32) (ho : ao.IsWhole) (ac : Memref sig .tc .vmem S520x1024 .f32) (hc : ac.IsWhole)
    (e0 : cond0_0 i) (e1 : ¬cond0_1 i) (e2 : ¬cond0_2 i) (a : Vec Ideal S520x5632 .bf16) (b : Vec Ideal S1024x5632 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S520x5632) hz, View.ld_unit_zero (S := S1024x5632) hz, shapeCast_self]

/-- The last pass adds its product and stores the sum. -/
theorem last (i : grid0.Coords) (a3 : Memref sig .tc .vmem S520x5632 .bf16) (h3 : a3.IsWhole) (a4 : Memref sig .tc .vmem S1024x5632 .bf16) (h4 : a4.IsWhole)
    (ao : Memref sig .tc .vmem S520x1024 .f32) (ho : ao.IsWhole) (ac : Memref sig .tc .vmem S520x1024 .f32) (hc : ac.IsWhole)
    (e0 : ¬cond0_0 i) (e1 : ¬cond0_1 i) (e2 : cond0_2 i) (a : Vec Ideal S520x5632 .bf16) (b : Vec Ideal S1024x5632 .bf16) (s : Vec Ideal S520x1024 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz]
  simp only [View.readAt_eq_ld, h3.read_unread, h4.read_unread, hc.read_unread, View.ld_unit_zero (S := S520x5632) hz, View.ld_unit_zero (S := S1024x5632) hz, View.ld_unit_zero (S := S520x1024) hz]

theorem left_at (t : Fin cfg0.N) (y : Fin 520) (z : Fin 5632) (Y : Fin 8320) (Z : Fin 11264) (hY : Y.val = t.val / 4 * 520 + y.val) (hZ : Z.val = t.val % 2 * 5632 + z.val) :
    iblk m c 0 t (ix2 y z) = m ((c : Thread nD τ).loc main_arg1) (ix2 Y Z) := by
  unfold iblk
  blk_simp
  refine congrArg (m ((c : Thread nD τ).loc main_arg1)) ?_
  blk_ext
  · rw [index0, hY]; rfl
  · rw [index0, hZ]; rfl

theorem right_at (t : Fin cfg0.N) (y : Fin 1024) (z : Fin 5632) (Y : Fin 2048) (Z : Fin 11264) (hY : Y.val = t.val / 2 % 2 * 1024 + y.val) (hZ : Z.val = t.val % 2 * 5632 + z.val) :
    iblk m c 1 t (ix2 y z) = m ((c : Thread nD τ).loc main_arg0) (ix2 Y Z) := by
  unfold iblk
  blk_simp
  refine congrArg (m ((c : Thread nD τ).loc main_arg0)) ?_
  blk_ext
  · rw [index1, hY]; rfl
  · rw [index1, hZ]; rfl

theorem emb2 (t : Fin cfg0.N) (r : Fin 520) (x : Fin 1024) :
    ((cfg0.win 2).blk t).view.emb (ix2 r x)
      = (ix2 (⟨t.val / 4 * 520 + r.val, by have : t.val < 64 := t.isLt; omega⟩ : Fin 8320) (⟨t.val / 2 % 2 * 1024 + x.val, by omega⟩ : Fin 2048) : (⟨2, ![8320, 2048]⟩ : Shape).Idx) := by
  blk_ext
  · rw [index2]; rfl
  · rw [index2]; rfl

theorem final : (dats m 0 c).arrAt 2 cfg0.N
    = rowsRows (M := 8320) (N := 2048) (K := 11264) (m ((c : Thread nD τ).loc main_arg1)) (m ((c : Thread nD τ).loc main_arg0)) := by
  refine (dats m 0 c).arrAt_eq_of_covers 2 _ covers fun t hf y => ?_
  have hlt : t.val < 64 := t.isLt
  have ht : t.val % 2 = 1 := (flush0_2 t).mp hf
  have e := outsAt0_A m c ⟨t.val - 1, by have : cfg0.N = 64 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix2_of y
  rw [emb2, rowsRows_at]
  unfold k0_pay4
  pointwise [pay1_at]
  refine sum_halves (n := 5632) (by decide) _ _ _ (Finset.sum_congr rfl fun k _ => ?_) (Finset.sum_congr rfl fun k _ => ?_)
  · rw [left_at m c _ r k ⟨t.val / 4 * 520 + r.val, by omega⟩ ⟨k.val, by omega⟩ (by dsimp only <;> omega) (by dsimp only <;> omega),
      right_at m c _ x k ⟨t.val / 2 % 2 * 1024 + x.val, by omega⟩ ⟨k.val, by omega⟩ (by dsimp only <;> omega) (by dsimp only <;> omega)]
  · rw [left_at m c _ r k ⟨t.val / 4 * 520 + r.val, by omega⟩ ⟨5632 + k.val, by omega⟩ (by dsimp only <;> omega) (by dsimp only <;> omega),
      right_at m c _ x k ⟨t.val / 2 % 2 * 1024 + x.val, by omega⟩ ⟨5632 + k.val, by omega⟩ (by dsimp only <;> omega) (by dsimp only <;> omega)]

end Cert.Kernel4Ideal.Value

namespace Cert.Reference4Ideal.Value

open Cert.Reference4Ideal Cert.Reference4Ideal.Gen Cert.Products
open Idealize.ShloMosaic Idealize.ShloMosaic.TcCoe Idealize.SL.Sem

theorem eq_product (a : Vec Ideal S8320x11264 .bf16) (b : Vec Ideal S2048x11264 .bf16) :
    Host.dotGeneral (F := Ideal) dot_S8320x11264_S2048x11264_S8320x2048_1_1_0_0_n_n none (extf .f32 a Facts₀.bitsLt_bf16_f32) (extf .f32 b Facts₀.bitsLt_bf16_f32)
      = rowsRows (M := 8320) (N := 2048) (K := 11264) a b := by
  funext i
  obtain ⟨r, x, rfl⟩ := ix2_of i
  rw [rowsRows_at]
  pointwise

end Cert.Reference4Ideal.Value

namespace Cert.DU2

open Cert.Products
open Idealize.ShloMosaic Idealize.ShloMosaic.TcCoe Idealize.SL.Sem

theorem frame_kernel : Cert.quiescent_Kernel4 (hKernel4 := Cert.Kernel4.Gen.facts) := fun m g _ => Cert.Kernel4.Gen.frame (F := Bits) m g
theorem frame_ideal : Cert.quiescent_Kernel4Ideal (hKernel4Ideal := Cert.Kernel4Ideal.Gen.facts) := fun m g _ => Cert.Kernel4Ideal.Gen.frame (F := Ideal) m g
theorem frame_reference : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run (F := Ideal) m g)

/-- Kernel and reference end with the same product. -/
theorem algebraic : Cert.algebraic_Kernel4Ideal_Reference4Ideal (hKernel4Ideal := Cert.Kernel4Ideal.Gen.facts) (hReference4Ideal := Cert.Reference4Ideal.Gen.facts) := by
  intro m g m' g' _ hargs
  refine ⟨fun c => rowsRows (M := 8320) (N := 2048) (K := 11264)
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg0)),
    (θ_run _ _ _).mono (fun r h c => ⟨(h c).1.trans (Cert.Kernel4Ideal.Value.final m c), (h c).2⟩) (Cert.Kernel4Ideal.Value.run_blocks (F := Ideal) m g),
    (θ_run _ _ _).mono (fun r h c => ⟨(h c).1.trans ((Cert.Reference4Ideal.Value.eq_product _ _).trans (congrArg₂ _ (hargs c).2 (hargs c).1)), (h c).2⟩)
      (Cert.Reference4Ideal.Value.run (F := Ideal) m' g')⟩

end Cert.DU2

end
-- ==== Proof.DwFfnIn.lean ====
module

public import proofs.«01_k».proof.Defs
public import proofs.«01_k».proof.Proof.Products
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent

@[expose] public section

/-!
# The gradient of the feed-forward input weights

The product of the transposed inputs and the cotangent, in two passes over the rows, stored in eight blocks of columns.
-/

set_option maxRecDepth 16384

noncomputable section

namespace Cert.Kernel5Ideal.Value

open Cert.Kernel5Ideal Cert.Kernel5Ideal.Gen Cert.Products
open Idealize.ShloMosaic Idealize.ShloMosaic.TcCoe Idealize.SL.Sem

variable (m : (ℓ : Loc nD τ sig) → Buf (Elt Ideal) ℓ) (c : Dev nD)

theorem hz3 : (![0, 0, 0] : Fin 3 → Nat) = fun _ => 0 := funext fun a => by fin_cases a <;> rfl
theorem hz : (![0, 0] : Fin 2 → Nat) = fun _ => 0 := funext fun a => by fin_cases a <;> rfl

theorem index0 : ∀ t : Fin grid0.N, win0_0.index t = ![t.val % 2, t.val / 16] := by decide +kernel
theorem index1 : ∀ t : Fin grid0.N, win0_1.index t = ![t.val % 2, t.val / 2 % 8] := by decide +kernel
theorem index2 : ∀ t : Fin grid0.N, win0_2.index t = ![t.val / 2 % 8, t.val / 16, 0] := by decide +kernel
theorem covers : (cfg0.win 2).Covers := by decide +kernel

theorem pay1_at (a : Vec Ideal S4160x512 .bf16) (b : Vec Ideal S4160x1408 .bf16) (r : Fin 512) (x : Fin 1408) :
    k0_pay1 a b (ix2 r x) = ∑ k : Fin 4160, a (ix2 k r) * b (ix2 k x) := by
  unfold k0_pay1
  pointwise

/-- The first pass leaves its product in the accumulator. -/
theorem first (i : grid0.Coords) (a3 : Memref sig .tc .vmem S4160x512 .bf16) (h3 : a3.IsWhole) (a4 : Memref sig .tc .vmem S4160x1408 .bf16) (h4 : a4.IsWhole)
    (ao : Memref sig .tc .vmem S1x512x1408 .bf16) (ho : ao.IsWhole) (ac : Memref sig .tc .vmem S512x1408 .f32) (hc : ac.IsWhole)
    (e0 : cond0_0 i) (e1 : ¬cond0_1 i) (e2 : ¬cond0_2 i) (a : Vec Ideal S4160x512 .bf16) (b : Vec Ideal S4160x1408 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S4160x512) hz, View.ld_unit_zero (S := S4160x1408) hz, shapeCast_self]

/-- The last pass adds its product and stores the sum. -/
theorem last (i : grid0.Coords) (a3 : Memref sig .tc .vmem S4160x512 .bf16) (h3 : a3.IsWhole) (a4 : Memref sig .tc .vmem S4160x1408 .bf16) (h4 : a4.IsWhole)
    (ao : Memref sig .tc .vmem S1x512x1408 .bf16) (ho : ao.IsWhole) (ac : Memref sig .tc .vmem S512x1408 .f32) (hc : ac.IsWhole)
    (e0 : ¬cond0_0 i) (e1 : ¬cond0_1 i) (e2 : cond0_2 i) (a : Vec Ideal S4160x512 .bf16) (b : Vec Ideal S4160x1408 .bf16) (s : Vec Ideal S512x1408 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz3]
  simp only [View.readAt_eq_ld, h3.read_unread, h4.read_unread, hc.read_unread, View.ld_unit_zero (S := S4160x512) hz, View.ld_unit_zero (S := S4160x1408) hz, View.ld_unit_zero (S := S512x1408) hz]

theorem left_at (t : Fin cfg0.N) (y : Fin 4160) (z : Fin 512) (Y : Fin 8320) (Z : Fin 2048) (hY : Y.val = t.val % 2 * 4160 + y.val) (hZ : Z.val = t.val / 16 * 512 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 4160) (z : Fin 1408) (Y : Fin 8320) (Z : Fin 11264) (hY : Y.val = t.val % 2 * 4160 + y.val) (hZ : Z.val = t.val / 2 % 8 * 1408 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 512) (x : Fin 1408) :
    ((cfg0.win 2).blk t).view.emb (ix3 (0 : Fin 1) r x)
      = (ix3 (⟨t.val / 2 % 8, by omega⟩ : Fin 8) (⟨t.val / 16 * 512 + r.val, by have : t.val < 64 := t.isLt; omega⟩ : Fin 2048) x : (⟨3, ![8, 2048, 1408]⟩ : Shape).Idx) := by
  blk_ext
  · rw [index2]; exact Nat.add_zero _
  · rw [index2]; rfl
  · rw [index2]; exact Nat.zero_add _

theorem final : (dats m 0 c).arrAt 2 cfg0.N
    = columnBlocks (J := 8) (M := 2048) (n := 1408) (colsCols (M := 2048) (N := 11264) (K := 8320) (m ((c : Thread nD τ).loc main_arg0)) (m ((c : Thread nD τ).loc main_arg1))) := by
  refine (dats m 0 c).arrAt_eq_of_covers 2 _ covers fun t hf y => ?_
  have hlt : t.val < 64 := t.isLt
  have ht : t.val % 2 = 1 := (flush0_2 t).mp hf
  have e := outsAt0_A m c ⟨t.val - 1, by have : cfg0.N = 64 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix3_of y
  rw [emb2, columnBlocks_at, colsCols_at]
  unfold k0_pay4
  pointwise [pay1_at]
  refine sum_halves (n := 4160) (by decide) _ _ _ (Finset.sum_congr rfl fun k _ => ?_) (Finset.sum_congr rfl fun k _ => ?_)
  · rw [left_at m c _ k r ⟨k.val, by omega⟩ ⟨t.val / 16 * 512 + r.val, by omega⟩ (by dsimp only <;> omega) (by dsimp only <;> omega),
      right_at m c _ k x ⟨k.val, by omega⟩ ⟨t.val / 2 % 8 * 1408 + x.val, by omega⟩ (by dsimp only <;> omega) (by dsimp only <;> omega)]
  · rw [left_at m c _ k r ⟨4160 + k.val, by omega⟩ ⟨t.val / 16 * 512 + r.val, by omega⟩ (by dsimp only <;> omega) (by dsimp only <;> omega),
      right_at m c _ k x ⟨4160 + k.val, by omega⟩ ⟨t.val / 2 % 8 * 1408 + x.val, by omega⟩ (by dsimp only <;> omega) (by dsimp only <;> omega)]

end Cert.Kernel5Ideal.Value

namespace Cert.Reference5Ideal.Value

open Cert.Reference5Ideal Cert.Reference5Ideal.Gen Cert.Products
open Idealize.ShloMosaic Idealize.ShloMosaic.TcCoe Idealize.SL.Sem

theorem eq_product (a : Vec Ideal S8320x2048 .bf16) (b : Vec Ideal S8320x11264 .bf16) :
    transpose S8x2048x1408 [1, 0, 2] (shapeCast S2048x8x1408 (truncf (F := Ideal) .bf16 (transpose S2048x11264 [1, 0] (Host.dotGeneral (F := Ideal) dot_S8320x11264_S8320x2048_S11264x2048_0_0_1_1_n_n none
      (extf .f32 b Facts₀.bitsLt_bf16_f32) (extf .f32 a Facts₀.bitsLt_bf16_f32)) Facts₀.transposes_S11264x2048_S2048x11264_1_0) Facts₀.bitsLt_bf16_f32)
      Facts₀.shapeCasts_S2048x11264_S2048x8x1408) Facts₀.transposes_S2048x8x1408_S8x2048x1408_1_0_2
      = columnBlocks (J := 8) (M := 2048) (n := 1408) (colsCols (M := 2048) (N := 11264) (K := 8320) a b) := by
  funext i
  obtain ⟨j, r, x, rfl⟩ := ix3_all i
  rw [columnBlocks_at, colsCols_at]
  pointwise
  exact Finset.sum_congr rfl fun k _ => mul_comm _ _

end Cert.Reference5Ideal.Value

namespace Cert.DwFfnIn

open Cert.Products
open Idealize.ShloMosaic Idealize.ShloMosaic.TcCoe Idealize.SL.Sem

theorem frame_kernel : Cert.quiescent_Kernel5 (hKernel5 := Cert.Kernel5.Gen.facts) := fun m g _ => Cert.Kernel5.Gen.frame (F := Bits) m g
theorem frame_ideal : Cert.quiescent_Kernel5Ideal (hKernel5Ideal := Cert.Kernel5Ideal.Gen.facts) := fun m g _ => Cert.Kernel5Ideal.Gen.frame (F := Ideal) m g
theorem frame_reference : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run (F := Ideal) m g)

/-- Kernel and reference end with the same product. -/
theorem algebraic : Cert.algebraic_Kernel5Ideal_Reference5Ideal (hKernel5Ideal := Cert.Kernel5Ideal.Gen.facts) (hReference5Ideal := Cert.Reference5Ideal.Gen.facts) := by
  intro m g m' g' _ hargs
  refine ⟨fun c => columnBlocks (J := 8) (M := 2048) (n := 1408) (colsCols (M := 2048) (N := 11264) (K := 8320)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))),
    (θ_run _ _ _).mono (fun r h c => ⟨(h c).1.trans (Cert.Kernel5Ideal.Value.final m c), (h c).2⟩) (Cert.Kernel5Ideal.Value.run_blocks (F := Ideal) m g),
    (θ_run _ _ _).mono (fun r h c => ⟨(h c).1.trans ((Cert.Reference5Ideal.Value.eq_product _ _).trans (congrArg₂ (fun a b => columnBlocks (colsCols a b)) (hargs c).1 (hargs c).2)), (h c).2⟩)
      (Cert.Reference5Ideal.Value.run (F := Ideal) m' g')⟩

end Cert.DwFfnIn

end
-- ==== Proof.DwIn.lean ====
module

public import proofs.«01_k».proof.Defs
public import proofs.«01_k».proof.Proof.Products
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent

@[expose] public section

/-!
# The gradient of the projection weights

The product of the transposed inputs and the cotangent, in two passes over the rows. The last argument orders the call after another one and is not read.
-/

set_option maxRecDepth 16384

noncomputable section

namespace Cert.Kernel6Ideal.Value

open Cert.Kernel6Ideal Cert.Kernel6Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val % 2, t.val / 38] := by decide +kernel
theorem index1 : ∀ t : Fin grid0.N, win0_1.index t = ![t.val % 2, t.val / 2 % 19] := by decide +kernel
theorem index2 : ∀ t : Fin grid0.N, win0_2.index t = ![t.val / 38, t.val / 2 % 19] := by decide +kernel
theorem covers : (cfg0.win 2).Covers := by decide +kernel

theorem pay1_at (a : Vec Ideal S4160x1024 .bf16) (b : Vec Ideal S4160x768 .bf16) (r : Fin 1024) (x : Fin 768) :
    k0_pay1 a b (ix2 r x) = ∑ k : Fin 4160, a (ix2 k r) * b (ix2 k x) := by
  unfold k0_pay1
  pointwise

/-- The first pass leaves its product in the accumulator. -/
theorem first (i : grid0.Coords) (a3 : Memref sig .tc .vmem S4160x1024 .bf16) (h3 : a3.IsWhole) (a4 : Memref sig .tc .vmem S4160x768 .bf16) (h4 : a4.IsWhole)
    (ao : Memref sig .tc .vmem S1024x768 .bf16) (ho : ao.IsWhole) (ac : Memref sig .tc .vmem S1024x768 .f32) (hc : ac.IsWhole)
    (e0 : cond0_0 i) (e1 : ¬cond0_1 i) (e2 : ¬cond0_2 i) (a : Vec Ideal S4160x1024 .bf16) (b : Vec Ideal S4160x768 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S4160x1024) hz, View.ld_unit_zero (S := S4160x768) hz, shapeCast_self]

/-- The last pass adds its product and stores the sum. -/
theorem last (i : grid0.Coords) (a3 : Memref sig .tc .vmem S4160x1024 .bf16) (h3 : a3.IsWhole) (a4 : Memref sig .tc .vmem S4160x768 .bf16) (h4 : a4.IsWhole)
    (ao : Memref sig .tc .vmem S1024x768 .bf16) (ho : ao.IsWhole) (ac : Memref sig .tc .vmem S1024x768 .f32) (hc : ac.IsWhole)
    (e0 : ¬cond0_0 i) (e1 : ¬cond0_1 i) (e2 : cond0_2 i) (a : Vec Ideal S4160x1024 .bf16) (b : Vec Ideal S4160x768 .bf16) (s : Vec Ideal S1024x768 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz]
  simp only [View.readAt_eq_ld, h3.read_unread, h4.read_unread, hc.read_unread, View.ld_unit_zero (S := S4160x1024) hz, View.ld_unit_zero (S := S4160x768) hz, View.ld_unit_zero (S := S1024x768) hz]

theorem left_at (t : Fin cfg0.N) (y : Fin 4160) (z : Fin 1024) (Y : Fin 8320) (Z : Fin 2048) (hY : Y.val = t.val % 2 * 4160 + y.val) (hZ : Z.val = t.val / 38 * 1024 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 4160) (z : Fin 768) (Y : Fin 8320) (Z : Fin 14592) (hY : Y.val = t.val % 2 * 4160 + y.val) (hZ : Z.val = t.val / 2 % 19 * 768 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 1024) (x : Fin 768) :
    ((cfg0.win 2).blk t).view.emb (ix2 r x)
      = (ix2 (⟨t.val / 38 * 1024 + r.val, by have : t.val < 76 := t.isLt; omega⟩ : Fin 2048) (⟨t.val / 2 % 19 * 768 + x.val, by omega⟩ : Fin 14592) : (⟨2, ![2048, 14592]⟩ : Shape).Idx) := by
  blk_ext
  · rw [index2]; rfl
  · rw [index2]; rfl

theorem final : (dats m 0 c).arrAt 2 cfg0.N
    = colsCols (M := 2048) (N := 14592) (K := 8320) (m ((c : Thread nD τ).loc main_arg0)) (m ((c : Thread nD τ).loc main_arg1)) := by
  refine (dats m 0 c).arrAt_eq_of_covers 2 _ covers fun t hf y => ?_
  have hlt : t.val < 76 := t.isLt
  have ht : t.val % 2 = 1 := (flush0_2 t).mp hf
  have e := outsAt0_A m c ⟨t.val - 1, by have : cfg0.N = 76 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix2_of y
  rw [emb2, colsCols_at]
  unfold k0_pay4
  pointwise [pay1_at]
  refine sum_halves (n := 4160) (by decide) _ _ _ (Finset.sum_congr rfl fun k _ => ?_) (Finset.sum_congr rfl fun k _ => ?_)
  · rw [left_at m c _ k r ⟨k.val, by omega⟩ ⟨t.val / 38 * 1024 + r.val, by omega⟩ (by dsimp only <;> omega) (by dsimp only <;> omega),
      right_at m c _ k x ⟨k.val, by omega⟩ ⟨t.val / 2 % 19 * 768 + x.val, by omega⟩ (by dsimp only <;> omega) (by dsimp only <;> omega)]
  · rw [left_at m c _ k r ⟨4160 + k.val, by omega⟩ ⟨t.val / 38 * 1024 + r.val, by omega⟩ (by dsimp only <;> omega) (by dsimp only <;> omega),
      right_at m c _ k x ⟨4160 + k.val, by omega⟩ ⟨t.val / 2 % 19 * 768 + x.val, by omega⟩ (by dsimp only <;> omega) (by dsimp only <;> omega)]

end Cert.Kernel6Ideal.Value

namespace Cert.Reference6Ideal.Value

open Cert.Reference6Ideal Cert.Reference6Ideal.Gen Cert.Products
open Idealize.ShloMosaic Idealize.ShloMosaic.TcCoe Idealize.SL.Sem

theorem eq_product (a : Vec Ideal S8320x2048 .bf16) (b : Vec Ideal S8320x14592 .bf16) :
    truncf (F := Ideal) .bf16 (transpose S2048x14592 [1, 0] (Host.dotGeneral (F := Ideal) dot_S8320x14592_S8320x2048_S14592x2048_0_0_1_1_n_n none (extf .f32 b Facts₀.bitsLt_bf16_f32) (extf .f32 a Facts₀.bitsLt_bf16_f32)) Facts₀.transposes_S14592x2048_S2048x14592_1_0) Facts₀.bitsLt_bf16_f32
      = colsCols (M := 2048) (N := 14592) (K := 8320) a b := by
  funext i
  obtain ⟨r, x, rfl⟩ := ix2_of i
  rw [colsCols_at]
  pointwise
  exact Finset.sum_congr rfl fun k _ => mul_comm _ _

end Cert.Reference6Ideal.Value

namespace Cert.DwIn

open Cert.Products
open Idealize.ShloMosaic Idealize.ShloMosaic.TcCoe Idealize.SL.Sem

theorem frame_kernel : Cert.quiescent_Kernel6 (hKernel6 := Cert.Kernel6.Gen.facts) := fun m g _ => Cert.Kernel6.Gen.frame (F := Bits) m g
theorem frame_ideal : Cert.quiescent_Kernel6Ideal (hKernel6Ideal := Cert.Kernel6Ideal.Gen.facts) := fun m g _ => Cert.Kernel6Ideal.Gen.frame (F := Ideal) m g
theorem frame_reference : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run (F := Ideal) m g)

/-- Kernel and reference end with the same product. -/
theorem algebraic : Cert.algebraic_Kernel6Ideal_Reference6Ideal (hKernel6Ideal := Cert.Kernel6Ideal.Gen.facts) (hReference6Ideal := Cert.Reference6Ideal.Gen.facts) := by
  intro m g m' g' _ hargs
  refine ⟨fun c => colsCols (M := 2048) (N := 14592) (K := 8320)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run _ _ _).mono (fun r h c => ⟨(h c).1.trans (Cert.Kernel6Ideal.Value.final m c), (h c).2⟩) (Cert.Kernel6Ideal.Value.run_blocks (F := Ideal) m g),
    (θ_run _ _ _).mono (fun r h c => ⟨(h c).1.trans ((Cert.Reference6Ideal.Value.eq_product _ _).trans (congrArg₂ _ (hargs c).1 (hargs c).2.1)), (h c).2⟩)
      (Cert.Reference6Ideal.Value.run (F := Ideal) m' g')⟩

end Cert.DwIn

end
-- ==== Proof.DU1.lean ====
module

public import proofs.«01_k».proof.Defs
public import proofs.«01_k».proof.Proof.Products
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent

@[expose] public section

/-!
# The input gradient of the projection

The product of the cotangent and the transposed weights, in three passes over the inner index. The last argument orders the call after another one and is not read.
-/

set_option maxRecDepth 16384

noncomputable section

namespace Cert.Kernel7Ideal.Value

open Cert.Kernel7Ideal Cert.Kernel7Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 6, t.val % 3] := by decide +kernel
theorem index1 : ∀ t : Fin grid0.N, win0_1.index t = ![t.val / 3 % 2, t.val % 3] := by decide +kernel
theorem index2 : ∀ t : Fin grid0.N, win0_2.index t = ![t.val / 6, t.val / 3 % 2] := by decide +kernel
theorem covers : (cfg0.win 2).Covers := by decide +kernel

theorem pay1_at (a : Vec Ideal S520x4864 .bf16) (b : Vec Ideal S1024x4864 .bf16) (r : Fin 520) (x : Fin 1024) :
    k0_pay1 a b (ix2 r x) = ∑ k : Fin 4864, a (ix2 r k) * b (ix2 x k) := by
  unfold k0_pay1
  pointwise

/-- The first pass leaves its product in the accumulator. -/
theorem first (i : grid0.Coords) (a3 : Memref sig .tc .vmem S520x4864 .bf16) (h3 : a3.IsWhole) (a4 : Memref sig .tc .vmem S1024x4864 .bf16) (h4 : a4.IsWhole)
    (ao : Memref sig .tc .vmem S520x1024 .f32) (ho : ao.IsWhole) (ac : Memref sig .tc .vmem S520x1024 .f32) (hc : ac.IsWhole)
    (e0 : cond0_0 i) (e1 : ¬cond0_1 i) (e2 : ¬cond0_2 i) (a : Vec Ideal S520x4864 .bf16) (b : Vec Ideal S1024x4864 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S520x4864) hz, View.ld_unit_zero (S := S1024x4864) hz, shapeCast_self]

/-- The second pass adds its product. -/
theorem second (i : grid0.Coords) (a3 : Memref sig .tc .vmem S520x4864 .bf16) (h3 : a3.IsWhole) (a4 : Memref sig .tc .vmem S1024x4864 .bf16) (h4 : a4.IsWhole)
    (ao : Memref sig .tc .vmem S520x1024 .f32) (ho : ao.IsWhole) (ac : Memref sig .tc .vmem S520x1024 .f32) (hc : ac.IsWhole)
    (e0 : ¬cond0_0 i) (e1 : cond0_1 i) (e2 : ¬cond0_2 i) (a : Vec Ideal S520x4864 .bf16) (b : Vec Ideal S1024x4864 .bf16) (s : Vec Ideal S520x1024 .f32) :
    sout0_B_0 c i a3 h3 a4 h4 ao ho ac hc e0 e1 e2 a b s = addf s (k0_pay1 a b) := by
  unfold sout0_B_0
  rw [View.read_writes_eq_canon _ _ _ (scover0_B_0 c i a3 h3 a4 h4 ao ho ac hc e0 e1 e2 a b s)]
  unfold kernelRun0_B
  dsimp only
  rw [View.canon_unit_zero hz]
  unfold k0_pay3
  simp only [View.readAt_eq_ld, h3.read_unread, h4.read_unread, hc.read_unread, View.ld_unit_zero (S := S520x4864) hz, View.ld_unit_zero (S := S1024x4864) hz, View.ld_unit_zero (S := S520x1024) hz, shapeCast_self]

/-- The last pass adds its product and stores the sum. -/
theorem last (i : grid0.Coords) (a3 : Memref sig .tc .vmem S520x4864 .bf16) (h3 : a3.IsWhole) (a4 : Memref sig .tc .vmem S1024x4864 .bf16) (h4 : a4.IsWhole)
    (ao : Memref sig .tc .vmem S520x1024 .f32) (ho : ao.IsWhole) (ac : Memref sig .tc .vmem S520x1024 .f32) (hc : ac.IsWhole)
    (e0 : ¬cond0_0 i) (e1 : ¬cond0_1 i) (e2 : cond0_2 i) (a : Vec Ideal S520x4864 .bf16) (b : Vec Ideal S1024x4864 .bf16) (s : Vec Ideal S520x1024 .f32) :
    out0_C_2 c i a3 h3 a4 h4 ao ho ac hc e0 e1 e2 a b s = k0_pay4 a b s := by
  unfold out0_C_2
  rw [View.read_writes_eq_canon _ _ _ (cover0_C_2 c i a3 h3 a4 h4 ao ho ac hc e0 e1 e2 a b s)]
  unfold kernelRun0_C
  dsimp only
  rw [View.canon_unit_zero hz]
  simp only [View.readAt_eq_ld, h3.read_unread, h4.read_unread, hc.read_unread, View.ld_unit_zero (S := S520x4864) hz, View.ld_unit_zero (S := S1024x4864) hz, View.ld_unit_zero (S := S520x1024) hz]

theorem left_at (t : Fin cfg0.N) (y : Fin 520) (z : Fin 4864) (Y : Fin 8320) (Z : Fin 14592) (hY : Y.val = t.val / 6 * 520 + y.val) (hZ : Z.val = t.val % 3 * 4864 + z.val) :
    iblk m c 0 t (ix2 y z) = m ((c : Thread nD τ).loc main_arg1) (ix2 Y Z) := by
  unfold iblk
  blk_simp
  refine congrArg (m ((c : Thread nD τ).loc main_arg1)) ?_
  blk_ext
  · rw [index0, hY]; rfl
  · rw [index0, hZ]; rfl

theorem right_at (t : Fin cfg0.N) (y : Fin 1024) (z : Fin 4864) (Y : Fin 2048) (Z : Fin 14592) (hY : Y.val = t.val / 3 % 2 * 1024 + y.val) (hZ : Z.val = t.val % 3 * 4864 + z.val) :
    iblk m c 1 t (ix2 y z) = m ((c : Thread nD τ).loc main_arg0) (ix2 Y Z) := by
  unfold iblk
  blk_simp
  refine congrArg (m ((c : Thread nD τ).loc main_arg0)) ?_
  blk_ext
  · rw [index1, hY]; rfl
  · rw [index1, hZ]; rfl

theorem emb2 (t : Fin cfg0.N) (r : Fin 520) (x : Fin 1024) :
    ((cfg0.win 2).blk t).view.emb (ix2 r x)
      = (ix2 (⟨t.val / 6 * 520 + r.val, by have : t.val < 96 := t.isLt; omega⟩ : Fin 8320) (⟨t.val / 3 % 2 * 1024 + x.val, by omega⟩ : Fin 2048) : (⟨2, ![8320, 2048]⟩ : Shape).Idx) := by
  blk_ext
  · rw [index2]; rfl
  · rw [index2]; rfl

theorem final : (dats m 0 c).arrAt 2 cfg0.N
    = rowsRows (M := 8320) (N := 2048) (K := 14592) (m ((c : Thread nD τ).loc main_arg1)) (m ((c : Thread nD τ).loc main_arg0)) := by
  refine (dats m 0 c).arrAt_eq_of_covers 2 _ covers fun t hf y => ?_
  have hlt : t.val < 96 := t.isLt
  have ht : t.val % 3 = 2 := (flush0_2 t).mp hf
  have e := outsAt0_A m c ⟨t.val - 2, by have : cfg0.N = 96 := N_0; omega⟩ (by dsimp only; omega) (by dsimp only; omega) (by dsimp only; omega)
  have e' := outsAt0_B m c ⟨t.val - 1, by have : cfg0.N = 96 := N_0; omega⟩ (by dsimp only; omega) (by dsimp only; omega) (by dsimp only; omega)
  blk_simp
  rw [after0_2, outsAt0_C m c t (by omega) (by omega) ht]
  simp only [Nat.sub_sub, Nat.reduceAdd] at e e' ⊢
  rw [last, e']
  dsimp only
  rw [second, e]
  dsimp only
  rw [first]
  obtain ⟨r, x, rfl⟩ := ix2_of y
  rw [emb2, rowsRows_at]
  unfold k0_pay4
  pointwise [pay1_at]
  refine sum_thirds (n := 4864) (by decide) _ _ _ _ (Finset.sum_congr rfl fun k _ => ?_) (Finset.sum_congr rfl fun k _ => ?_) (Finset.sum_congr rfl fun k _ => ?_)
  · rw [left_at m c _ r k ⟨t.val / 6 * 520 + r.val, by omega⟩ ⟨k.val, by omega⟩ (by dsimp only <;> omega) (by dsimp only <;> omega),
      right_at m c _ x k ⟨t.val / 3 % 2 * 1024 + x.val, by omega⟩ ⟨k.val, by omega⟩ (by dsimp only <;> omega) (by dsimp only <;> omega)]
  · rw [left_at m c _ r k ⟨t.val / 6 * 520 + r.val, by omega⟩ ⟨4864 + k.val, by omega⟩ (by dsimp only <;> omega) (by dsimp only <;> omega),
      right_at m c _ x k ⟨t.val / 3 % 2 * 1024 + x.val, by omega⟩ ⟨4864 + k.val, by omega⟩ (by dsimp only <;> omega) (by dsimp only <;> omega)]
  · rw [left_at m c _ r k ⟨t.val / 6 * 520 + r.val, by omega⟩ ⟨2 * 4864 + k.val, by omega⟩ (by dsimp only <;> omega) (by dsimp only <;> omega),
      right_at m c _ x k ⟨t.val / 3 % 2 * 1024 + x.val, by omega⟩ ⟨2 * 4864 + k.val, by omega⟩ (by dsimp only <;> omega) (by dsimp only <;> omega)]

end Cert.Kernel7Ideal.Value

namespace Cert.Reference7Ideal.Value

open Cert.Reference7Ideal Cert.Reference7Ideal.Gen Cert.Products
open Idealize.ShloMosaic Idealize.ShloMosaic.TcCoe Idealize.SL.Sem

theorem eq_product (a : Vec Ideal S8320x14592 .bf16) (b : Vec Ideal S2048x14592 .bf16) :
    Host.dotGeneral (F := Ideal) dot_S8320x14592_S2048x14592_S8320x2048_1_1_0_0_n_n none (extf .f32 a Facts₀.bitsLt_bf16_f32) (extf .f32 b Facts₀.bitsLt_bf16_f32)
      = rowsRows (M := 8320) (N := 2048) (K := 14592) a b := by
  funext i
  obtain ⟨r, x, rfl⟩ := ix2_of i
  rw [rowsRows_at]
  pointwise

end Cert.Reference7Ideal.Value

namespace Cert.DU1

open Cert.Products
open Idealize.ShloMosaic Idealize.ShloMosaic.TcCoe Idealize.SL.Sem

theorem frame_kernel : Cert.quiescent_Kernel7 (hKernel7 := Cert.Kernel7.Gen.facts) := fun m g _ => Cert.Kernel7.Gen.frame (F := Bits) m g
theorem frame_ideal : Cert.quiescent_Kernel7Ideal (hKernel7Ideal := Cert.Kernel7Ideal.Gen.facts) := fun m g _ => Cert.Kernel7Ideal.Gen.frame (F := Ideal) m g
theorem frame_reference : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run (F := Ideal) m g)

/-- Kernel and reference end with the same product. -/
theorem algebraic : Cert.algebraic_Kernel7Ideal_Reference7Ideal (hKernel7Ideal := Cert.Kernel7Ideal.Gen.facts) (hReference7Ideal := Cert.Reference7Ideal.Gen.facts) := by
  intro m g m' g' _ hargs
  refine ⟨fun c => rowsRows (M := 8320) (N := 2048) (K := 14592)
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg0)),
    (θ_run _ _ _).mono (fun r h c => ⟨(h c).1.trans (Cert.Kernel7Ideal.Value.final m c), (h c).2⟩) (Cert.Kernel7Ideal.Value.run_blocks (F := Ideal) m g),
    (θ_run _ _ _).mono (fun r h c => ⟨(h c).1.trans ((Cert.Reference7Ideal.Value.eq_product _ _).trans (congrArg₂ _ (hargs c).2.1 (hargs c).1)), (h c).2⟩)
      (Cert.Reference7Ideal.Value.run (F := Ideal) m' g')⟩

end Cert.DU1

end
-- ==== Proof.Proj.lean ====
module

public import proofs.«01_k».proof.Defs
public import proofs.«01_k».proof.Proof.Products
public import proofs.«01_k».proof.Proof.Gen.Kernel8.Frame
public import proofs.«01_k».proof.Proof.Gen.Kernel8Ideal.Value
public import proofs.«01_k».proof.Proof.Gen.Reference8Ideal.Run
public import Idealize.ShloMosaic.Lib.Quiescent

@[expose] public section

/-!
# The projection

The product of inputs and weights, in one pass.
-/

set_option maxRecDepth 16384

noncomputable section

namespace Cert.Kernel8Ideal.Value

open Cert.Kernel8Ideal Cert.Kernel8Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 19, 0] := by decide +kernel
theorem index1 : ∀ t : Fin grid0.N, win0_1.index t = ![0, t.val % 19] := by decide +kernel
theorem index2 : ∀ t : Fin grid0.N, win0_2.index t = ![t.val / 19, t.val % 19] := by decide +kernel
theorem covers : (cfg0.win 2).Covers := by decide +kernel

theorem out_at (a : Vec Ideal S1040x2048 .bf16) (b : Vec Ideal S2048x768 .bf16) (r : Fin 1040) (x : Fin 768) :
    out0_2 a b (ix2 r x) = ∑ k : Fin 2048, a (ix2 r k) * b (ix2 k x) := by
  unfold out0_2
  rw [View.canon_unit_zero hz]
  simp only [View.ld_unit_zero (S := S1040x2048) hz, View.ld_unit_zero (S := S2048x768) hz]
  unfold k0_pay1
  pointwise

theorem left_at (t : Fin cfg0.N) (y : Fin 1040) (z : Fin 2048) (Y : Fin 8320) (Z : Fin 2048) (hY : Y.val = t.val / 19 * 1040 + y.val) (hZ : Z.val = 0 * 2048 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 2048) (z : Fin 768) (Y : Fin 2048) (Z : Fin 14592) (hY : Y.val = 0 * 2048 + y.val) (hZ : Z.val = t.val % 19 * 768 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 1040) (x : Fin 768) :
    ((cfg0.win 2).blk t).view.emb (ix2 r x)
      = (ix2 (⟨t.val / 19 * 1040 + r.val, by have : t.val < 152 := t.isLt; omega⟩ : Fin 8320) (⟨t.val % 19 * 768 + x.val, by omega⟩ : Fin 14592) : (⟨2, ![8320, 14592]⟩ : Shape).Idx) := by
  blk_ext
  · rw [index2]; rfl
  · rw [index2]; rfl

theorem final : (dats m 0 c).arrAt 2 cfg0.N
    = rowsCols (M := 8320) (N := 14592) (K := 2048) (m ((c : Thread nD τ).loc main_arg0)) (m ((c : Thread nD τ).loc main_arg1)) := by
  refine (dats m 0 c).arrAt_eq_of_covers 2 _ covers fun t hf y => ?_
  have hlt : t.val < 152 := t.isLt
  blk_simp
  rw [after0_2]
  obtain ⟨r, x, rfl⟩ := ix2_of y
  rw [out_at, emb2, rowsCols_at]
  refine Finset.sum_congr (M := EReal) rfl fun k _ => ?_
  rw [left_at m c _ r k ⟨t.val / 19 * 1040 + r.val, by omega⟩ k rfl (by omega),
    right_at m c _ k x k ⟨t.val % 19 * 768 + x.val, by omega⟩ (by omega) rfl]

end Cert.Kernel8Ideal.Value

namespace Cert.Reference8Ideal.Value

open Cert.Reference8Ideal Cert.Reference8Ideal.Gen Cert.Products
open Idealize.ShloMosaic Idealize.ShloMosaic.TcCoe Idealize.SL.Sem

theorem eq_product (a : Vec Ideal S8320x2048 .bf16) (b : Vec Ideal S2048x14592 .bf16) :
    Host.dotGeneral (F := Ideal) dot_S8320x2048_S2048x14592_S8320x14592_1_0_0_1_n_n none (extf .f32 a Facts₀.bitsLt_bf16_f32) (extf .f32 b Facts₀.bitsLt_bf16_f32)
      = rowsCols (M := 8320) (N := 14592) (K := 2048) a b := by
  funext i
  obtain ⟨r, x, rfl⟩ := ix2_of i
  rw [rowsCols_at]
  pointwise

end Cert.Reference8Ideal.Value

namespace Cert.Proj

open Cert.Products
open Idealize.ShloMosaic Idealize.ShloMosaic.TcCoe Idealize.SL.Sem

theorem frame_kernel : Cert.quiescent_Kernel8 (hKernel8 := Cert.Kernel8.Gen.facts) := fun m g _ => Cert.Kernel8.Gen.frame (F := Bits) m g
theorem frame_ideal : Cert.quiescent_Kernel8Ideal (hKernel8Ideal := Cert.Kernel8Ideal.Gen.facts) := fun m g _ => Cert.Kernel8Ideal.Gen.frame (F := Ideal) m g
theorem frame_reference : Cert.quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run (F := Ideal) m g)

/-- Kernel and reference end with the same product. -/
theorem algebraic : Cert.algebraic_Kernel8Ideal_Reference8Ideal (hKernel8Ideal := Cert.Kernel8Ideal.Gen.facts) (hReference8Ideal := Cert.Reference8Ideal.Gen.facts) := by
  intro m g m' g' _ hargs
  refine ⟨fun c => rowsCols (M := 8320) (N := 14592) (K := 2048)
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)),
    (θ_run _ _ _).mono (fun r h c => ⟨(h c).1.trans (Cert.Kernel8Ideal.Value.final m c), (h c).2⟩) (Cert.Kernel8Ideal.Value.run_blocks (F := Ideal) m g),
    (θ_run _ _ _).mono (fun r h c => ⟨(h c).1.trans ((Cert.Reference8Ideal.Value.eq_product _ _).trans (congrArg₂ _ (hargs c).1 (hargs c).2)), (h c).2⟩)
      (Cert.Reference8Ideal.Value.run (F := Ideal) m' g')⟩

end Cert.Proj

end
-- ==== Proof.FfnIn.lean ====
module

public import proofs.«01_k».proof.Defs
public import proofs.«01_k».proof.Proof.Products
public import proofs.«01_k».proof.Proof.Gen.Kernel9.Frame
public import proofs.«01_k».proof.Proof.Gen.Kernel9Ideal.Value
public import proofs.«01_k».proof.Proof.Gen.Reference9Ideal.Run
public import Idealize.ShloMosaic.Lib.Quiescent

@[expose] public section

/-!
# The feed-forward input product

The product of inputs and weights, in one pass.
-/

set_option maxRecDepth 16384

noncomputable section

namespace Cert.Kernel9Ideal.Value

open Cert.Kernel9Ideal Cert.Kernel9Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 11, 0] := by decide +kernel
theorem index1 : ∀ t : Fin grid0.N, win0_1.index t = ![0, t.val % 11] := by decide +kernel
theorem index2 : ∀ t : Fin grid0.N, win0_2.index t = ![t.val / 11, t.val % 11] := by decide +kernel
theorem covers : (cfg0.win 2).Covers := by decide +kernel

theorem out_at (a : Vec Ideal S1040x2048 .bf16) (b : Vec Ideal S2048x1024 .bf16) (r : Fin 1040) (x : Fin 1024) :
    out0_2 a b (ix2 r x) = ∑ k : Fin 2048, a (ix2 r k) * b (ix2 k x) := by
  unfold out0_2
  rw [View.canon_unit_zero hz]
  simp only [View.ld_unit_zero (S := S1040x2048) hz, View.ld_unit_zero (S := S2048x1024) hz]
  unfold k0_pay1
  pointwise

theorem left_at (t : Fin cfg0.N) (y : Fin 1040) (z : Fin 2048) (Y : Fin 8320) (Z : Fin 2048) (hY : Y.val = t.val / 11 * 1040 + y.val) (hZ : Z.val = 0 * 2048 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 2048) (z : Fin 1024) (Y : Fin 2048) (Z : Fin 11264) (hY : Y.val = 0 * 2048 + y.val) (hZ : Z.val = t.val % 11 * 1024 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 1040) (x : Fin 1024) :
    ((cfg0.win 2).blk t).view.emb (ix2 r x)
      = (ix2 (⟨t.val / 11 * 1040 + r.val, by have : t.val < 88 := t.isLt; omega⟩ : Fin 8320) (⟨t.val % 11 * 1024 + x.val, by omega⟩ : Fin 11264) : (⟨2, ![8320, 11264]⟩ : Shape).Idx) := by
  blk_ext
  · rw [index2]; rfl
  · rw [index2]; rfl

theorem final : (dats m 0 c).arrAt 2 cfg0.N
    = rowsCols (M := 8320) (N := 11264) (K := 2048) (m ((c : Thread nD τ).loc main_arg0)) (m ((c : Thread nD τ).loc main_arg1)) := by
  refine (dats m 0 c).arrAt_eq_of_covers 2 _ covers fun t hf y => ?_
  have hlt : t.val < 88 := t.isLt
  blk_simp
  rw [after0_2]
  obtain ⟨r, x, rfl⟩ := ix2_of y
  rw [out_at, emb2, rowsCols_at]
  refine Finset.sum_congr (M := EReal) rfl fun k _ => ?_
  rw [left_at m c _ r k ⟨t.val / 11 * 1040 + r.val, by omega⟩ k rfl (by omega),
    right_at m c _ k x k ⟨t.val % 11 * 1024 + x.val, by omega⟩ (by omega) rfl]

end Cert.Kernel9Ideal.Value

namespace Cert.Reference9Ideal.Value

open Cert.Reference9Ideal Cert.Reference9Ideal.Gen Cert.Products
open Idealize.ShloMosaic Idealize.ShloMosaic.TcCoe Idealize.SL.Sem

theorem eq_product (a : Vec Ideal S8320x2048 .bf16) (b : Vec Ideal S2048x11264 .bf16) :
    truncf (F := Ideal) .bf16 (Host.dotGeneral (F := Ideal) dot_S8320x2048_S2048x11264_S8320x11264_1_0_0_1_n_n none (extf .f32 a Facts₀.bitsLt_bf16_f32) (extf .f32 b Facts₀.bitsLt_bf16_f32)) Facts₀.bitsLt_bf16_f32
      = rowsCols (M := 8320) (N := 11264) (K := 2048) a b := by
  funext i
  obtain ⟨r, x, rfl⟩ := ix2_of i
  rw [rowsCols_at]
  pointwise

end Cert.Reference9Ideal.Value

namespace Cert.FfnIn

open Cert.Products
open Idealize.ShloMosaic Idealize.ShloMosaic.TcCoe Idealize.SL.Sem

theorem frame_kernel : Cert.quiescent_Kernel9 (hKernel9 := Cert.Kernel9.Gen.facts) := fun m g _ => Cert.Kernel9.Gen.frame (F := Bits) m g
theorem frame_ideal : Cert.quiescent_Kernel9Ideal (hKernel9Ideal := Cert.Kernel9Ideal.Gen.facts) := fun m g _ => Cert.Kernel9Ideal.Gen.frame (F := Ideal) m g
theorem frame_reference : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run (F := Ideal) m g)

/-- Kernel and reference end with the same product. -/
theorem algebraic : Cert.algebraic_Kernel9Ideal_Reference9Ideal (hKernel9Ideal := Cert.Kernel9Ideal.Gen.facts) (hReference9Ideal := Cert.Reference9Ideal.Gen.facts) := by
  intro m g m' g' _ hargs
  refine ⟨fun c => rowsCols (M := 8320) (N := 11264) (K := 2048)
      (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)),
    (θ_run _ _ _).mono (fun r h c => ⟨(h c).1.trans (Cert.Kernel9Ideal.Value.final m c), (h c).2⟩) (Cert.Kernel9Ideal.Value.run_blocks (F := Ideal) m g),
    (θ_run _ _ _).mono (fun r h c => ⟨(h c).1.trans ((Cert.Reference9Ideal.Value.eq_product _ _).trans (congrArg₂ _ (hargs c).1 (hargs c).2)), (h c).2⟩)
      (Cert.Reference9Ideal.Value.run (F := Ideal) m' g')⟩

end Cert.FfnIn

end
-- ==== Proof.FfnOut.lean ====
module

public import proofs.«01_k».proof.Defs
public import proofs.«01_k».proof.Proof.Products
public import proofs.«01_k».proof.Proof.Gen.Kernel10.Frame
public import proofs.«01_k».proof.Proof.Gen.Kernel10Ideal.Value
public import proofs.«01_k».proof.Proof.Gen.Reference10Ideal.Run
public import Idealize.ShloMosaic.Lib.Quiescent

@[expose] public section

/-!
# The feed-forward output product

The product of activations and weights, in two passes over the inner index.
-/

set_option maxRecDepth 16384

noncomputable section

namespace Cert.Kernel10Ideal.Value

open Cert.Kernel10Ideal Cert.Kernel10Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 4, t.val % 2] := by decide +kernel
theorem index1 : ∀ t : Fin grid0.N, win0_1.index t = ![t.val % 2, t.val / 2 % 2] := by decide +kernel
theorem index2 : ∀ t : Fin grid0.N, win0_2.index t = ![t.val / 4, t.val / 2 % 2] := by decide +kernel
theorem covers : (cfg0.win 2).Covers := by decide +kernel

theorem pay1_at (a : Vec Ideal S1040x2816 .bf16) (b : Vec Ideal S2816x1024 .bf16) (r : Fin 1040) (x : Fin 1024) :
    k0_pay1 a b (ix2 r x) = ∑ k : Fin 2816, a (ix2 r k) * b (ix2 k x) := by
  unfold k0_pay1
  pointwise

/-- The first pass leaves its product in the accumulator. -/
theorem first (i : grid0.Coords) (a3 : Memref sig .tc .vmem S1040x2816 .bf16) (h3 : a3.IsWhole) (a4 : Memref sig .tc .vmem S2816x1024 .bf16) (h4 : a4.IsWhole)
    (ao : Memref sig .tc .vmem S1040x1024 .f32) (ho : ao.IsWhole) (ac : Memref sig .tc .vmem S1040x1024 .f32) (hc : ac.IsWhole)
    (e0 : cond0_0 i) (e1 : ¬cond0_1 i) (e2 : ¬cond0_2 i) (a : Vec Ideal S1040x2816 .bf16) (b : Vec Ideal S2816x1024 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S1040x2816) hz, View.ld_unit_zero (S := S2816x1024) hz, shapeCast_self]

/-- The last pass adds its product and stores the sum. -/
theorem last (i : grid0.Coords) (a3 : Memref sig .tc .vmem S1040x2816 .bf16) (h3 : a3.IsWhole) (a4 : Memref sig .tc .vmem S2816x1024 .bf16) (h4 : a4.IsWhole)
    (ao : Memref sig .tc .vmem S1040x1024 .f32) (ho : ao.IsWhole) (ac : Memref sig .tc .vmem S1040x1024 .f32) (hc : ac.IsWhole)
    (e0 : ¬cond0_0 i) (e1 : ¬cond0_1 i) (e2 : cond0_2 i) (a : Vec Ideal S1040x2816 .bf16) (b : Vec Ideal S2816x1024 .bf16) (s : Vec Ideal S1040x1024 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz]
  simp only [View.readAt_eq_ld, h3.read_unread, h4.read_unread, hc.read_unread, View.ld_unit_zero (S := S1040x2816) hz, View.ld_unit_zero (S := S2816x1024) hz, View.ld_unit_zero (S := S1040x1024) hz]

theorem left_at (t : Fin cfg0.N) (y : Fin 1040) (z : Fin 2816) (Y : Fin 8320) (Z : Fin 5632) (hY : Y.val = t.val / 4 * 1040 + y.val) (hZ : Z.val = t.val % 2 * 2816 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 2816) (z : Fin 1024) (Y : Fin 5632) (Z : Fin 2048) (hY : Y.val = t.val % 2 * 2816 + y.val) (hZ : Z.val = t.val / 2 % 2 * 1024 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 1040) (x : Fin 1024) :
    ((cfg0.win 2).blk t).view.emb (ix2 r x)
      = (ix2 (⟨t.val / 4 * 1040 + r.val, by have : t.val < 32 := t.isLt; omega⟩ : Fin 8320) (⟨t.val / 2 % 2 * 1024 + x.val, by omega⟩ : Fin 2048) : (⟨2, ![8320, 2048]⟩ : Shape).Idx) := by
  blk_ext
  · rw [index2]; rfl
  · rw [index2]; rfl

theorem final : (dats m 0 c).arrAt 2 cfg0.N
    = rowsCols (M := 8320) (N := 2048) (K := 5632) (m ((c : Thread nD τ).loc main_arg0)) (m ((c : Thread nD τ).loc main_arg1)) := by
  refine (dats m 0 c).arrAt_eq_of_covers 2 _ covers fun t hf y => ?_
  have hlt : t.val < 32 := t.isLt
  have ht : t.val % 2 = 1 := (flush0_2 t).mp hf
  have e := outsAt0_A m c ⟨t.val - 1, by have : cfg0.N = 32 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix2_of y
  rw [emb2, rowsCols_at]
  unfold k0_pay4
  pointwise [pay1_at]
  refine sum_halves (n := 2816) (by decide) _ _ _ (Finset.sum_congr rfl fun k _ => ?_) (Finset.sum_congr rfl fun k _ => ?_)
  · rw [left_at m c _ r k ⟨t.val / 4 * 1040 + r.val, by omega⟩ ⟨k.val, by omega⟩ (by dsimp only <;> omega) (by dsimp only <;> omega),
      right_at m c _ k x ⟨k.val, by omega⟩ ⟨t.val / 2 % 2 * 1024 + x.val, by omega⟩ (by dsimp only <;> omega) (by dsimp only <;> omega)]
  · rw [left_at m c _ r k ⟨t.val / 4 * 1040 + r.val, by omega⟩ ⟨2816 + k.val, by omega⟩ (by dsimp only <;> omega) (by dsimp only <;> omega),
      right_at m c _ k x ⟨2816 + k.val, by omega⟩ ⟨t.val / 2 % 2 * 1024 + x.val, by omega⟩ (by dsimp only <;> omega) (by dsimp only <;> omega)]

end Cert.Kernel10Ideal.Value

namespace Cert.Reference10Ideal.Value

open Cert.Reference10Ideal Cert.Reference10Ideal.Gen Cert.Products
open Idealize.ShloMosaic Idealize.ShloMosaic.TcCoe Idealize.SL.Sem

theorem eq_product (a : Vec Ideal S8320x5632 .bf16) (b : Vec Ideal S5632x2048 .bf16) :
    Host.dotGeneral (F := Ideal) dot_S8320x5632_S5632x2048_S8320x2048_1_0_0_1_n_n none (extf .f32 a Facts₀.bitsLt_bf16_f32) (extf .f32 b Facts₀.bitsLt_bf16_f32)
      = rowsCols (M := 8320) (N := 2048) (K := 5632) a b := by
  funext i
  obtain ⟨r, x, rfl⟩ := ix2_of i
  rw [rowsCols_at]
  pointwise

end Cert.Reference10Ideal.Value

namespace Cert.FfnOut

open Cert.Products
open Idealize.ShloMosaic Idealize.ShloMosaic.TcCoe Idealize.SL.Sem

theorem frame_kernel : Cert.quiescent_Kernel10 (hKernel10 := Cert.Kernel10.Gen.facts) := fun m g _ => Cert.Kernel10.Gen.frame (F := Bits) m g
theorem frame_ideal : Cert.quiescent_Kernel10Ideal (hKernel10Ideal := Cert.Kernel10Ideal.Gen.facts) := fun m g _ => Cert.Kernel10Ideal.Gen.frame (F := Ideal) m g
theorem frame_reference : Cert.quiescent_Reference10Ideal (hReference10Ideal := Cert.Reference10Ideal.Gen.facts) := fun m g _ =>
  (θ_run _ _ _).mono (fun r h => ⟨fun c => (h c).2, sem_eq_zero_of_no_sems (by decide) r.2⟩) (Cert.Reference10Ideal.Value.run (F := Ideal) m g)

/-- Kernel and reference end with the same product. -/
theorem algebraic : Cert.algebraic_Kernel10Ideal_Reference10Ideal (hKernel10Ideal := Cert.Kernel10Ideal.Gen.facts) (hReference10Ideal := Cert.Reference10Ideal.Gen.facts) := by
  intro m g m' g' _ hargs
  refine ⟨fun c => rowsCols (M := 8320) (N := 2048) (K := 5632)
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)),
    (θ_run _ _ _).mono (fun r h c => ⟨(h c).1.trans (Cert.Kernel10Ideal.Value.final m c), (h c).2⟩) (Cert.Kernel10Ideal.Value.run_blocks (F := Ideal) m g),
    (θ_run _ _ _).mono (fun r h c => ⟨(h c).1.trans ((Cert.Reference10Ideal.Value.eq_product _ _).trans (congrArg₂ _ (hargs c).1 (hargs c).2)), (h c).2⟩)
      (Cert.Reference10Ideal.Value.run (F := Ideal) m' g')⟩

end Cert.FfnOut

end
-- ==== Proof.Mix.lean ====
module

public import proofs.«01_k».proof.Defs
public import proofs.«01_k».proof.Proof.Products
public import proofs.«01_k».proof.Proof.Gen.Kernel11.Frame
public import proofs.«01_k».proof.Proof.Gen.Kernel11Ideal.Value
public import proofs.«01_k».proof.Proof.Gen.Reference11Ideal.Run
public import Idealize.ShloMosaic.Lib.Quiescent

@[expose] public section

/-!
# The square products of the forward pass

The product of inputs and weights, in one pass.
-/

set_option maxRecDepth 16384

noncomputable section

namespace Cert.Kernel11Ideal.Value

open Cert.Kernel11Ideal Cert.Kernel11Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 2, 0] := by decide +kernel
theorem index1 : ∀ t : Fin grid0.N, win0_1.index t = ![0, t.val % 2] := by decide +kernel
theorem index2 : ∀ t : Fin grid0.N, win0_2.index t = ![t.val / 2, t.val % 2] := by decide +kernel
theorem covers : (cfg0.win 2).Covers := by decide +kernel

theorem out_at (a : Vec Ideal S1040x2048 .bf16) (b : Vec Ideal S2048x1024 .bf16) (r : Fin 1040) (x : Fin 1024) :
    out0_2 a b (ix2 r x) = ∑ k : Fin 2048, a (ix2 r k) * b (ix2 k x) := by
  unfold out0_2
  rw [View.canon_unit_zero hz]
  simp only [View.ld_unit_zero (S := S1040x2048) hz, View.ld_unit_zero (S := S2048x1024) hz]
  unfold k0_pay1
  pointwise

theorem left_at (t : Fin cfg0.N) (y : Fin 1040) (z : Fin 2048) (Y : Fin 8320) (Z : Fin 2048) (hY : Y.val = t.val / 2 * 1040 + y.val) (hZ : Z.val = 0 * 2048 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 2048) (z : Fin 1024) (Y : Fin 2048) (Z : Fin 2048) (hY : Y.val = 0 * 2048 + y.val) (hZ : Z.val = t.val % 2 * 1024 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 1040) (x : Fin 1024) :
    ((cfg0.win 2).blk t).view.emb (ix2 r x)
      = (ix2 (⟨t.val / 2 * 1040 + r.val, by have : t.val < 16 := t.isLt; omega⟩ : Fin 8320) (⟨t.val % 2 * 1024 + x.val, by omega⟩ : Fin 2048) : (⟨2, ![8320, 2048]⟩ : Shape).Idx) := by
  blk_ext
  · rw [index2]; rfl
  · rw [index2]; rfl

theorem final : (dats m 0 c).arrAt 2 cfg0.N
    = rowsCols (M := 8320) (N := 2048) (K := 2048) (m ((c : Thread nD τ).loc main_arg0)) (m ((c : Thread nD τ).loc main_arg1)) := by
  refine (dats m 0 c).arrAt_eq_of_covers 2 _ covers fun t hf y => ?_
  have hlt : t.val < 16 := t.isLt
  blk_simp
  rw [after0_2]
  obtain ⟨r, x, rfl⟩ := ix2_of y
  rw [out_at, emb2, rowsCols_at]
  refine Finset.sum_congr (M := EReal) rfl fun k _ => ?_
  rw [left_at m c _ r k ⟨t.val / 2 * 1040 + r.val, by omega⟩ k rfl (by omega),
    right_at m c _ k x k ⟨t.val % 2 * 1024 + x.val, by omega⟩ (by omega) rfl]

end Cert.Kernel11Ideal.Value

namespace Cert.Reference11Ideal.Value

open Cert.Reference11Ideal Cert.Reference11Ideal.Gen Cert.Products
open Idealize.ShloMosaic Idealize.ShloMosaic.TcCoe Idealize.SL.Sem

theorem eq_product (a : Vec Ideal S8320x2048 .bf16) (b : Vec Ideal S2048x2048 .bf16) :
    Host.dotGeneral (F := Ideal) dot_S8320x2048_S2048x2048_S8320x2048_1_0_0_1_n_n none (extf .f32 a Facts₀.bitsLt_bf16_f32) (extf .f32 b Facts₀.bitsLt_bf16_f32)
      = rowsCols (M := 8320) (N := 2048) (K := 2048) a b := by
  funext i
  obtain ⟨r, x, rfl⟩ := ix2_of i
  rw [rowsCols_at]
  pointwise

end Cert.Reference11Ideal.Value

namespace Cert.Mix

open Cert.Products
open Idealize.ShloMosaic Idealize.ShloMosaic.TcCoe Idealize.SL.Sem

theorem frame_kernel : Cert.quiescent_Kernel11 (hKernel11 := Cert.Kernel11.Gen.facts) := fun m g _ => Cert.Kernel11.Gen.frame (F := Bits) m g
theorem frame_ideal : Cert.quiescent_Kernel11Ideal (hKernel11Ideal := Cert.Kernel11Ideal.Gen.facts) := fun m g _ => Cert.Kernel11Ideal.Gen.frame (F := Ideal) m g
theorem frame_reference : Cert.quiescent_Reference11Ideal (hReference11Ideal := Cert.Reference11Ideal.Gen.facts) := fun m g _ =>
  (θ_run _ _ _).mono (fun r h => ⟨fun c => (h c).2, sem_eq_zero_of_no_sems (by decide) r.2⟩) (Cert.Reference11Ideal.Value.run (F := Ideal) m g)

/-- Kernel and reference end with the same product. -/
theorem algebraic : Cert.algebraic_Kernel11Ideal_Reference11Ideal (hKernel11Ideal := Cert.Kernel11Ideal.Gen.facts) (hReference11Ideal := Cert.Reference11Ideal.Gen.facts) := by
  intro m g m' g' _ hargs
  refine ⟨fun c => rowsCols (M := 8320) (N := 2048) (K := 2048)
      (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1)),
    (θ_run _ _ _).mono (fun r h c => ⟨(h c).1.trans (Cert.Kernel11Ideal.Value.final m c), (h c).2⟩) (Cert.Kernel11Ideal.Value.run_blocks (F := Ideal) m g),
    (θ_run _ _ _).mono (fun r h c => ⟨(h c).1.trans ((Cert.Reference11Ideal.Value.eq_product _ _).trans (congrArg₂ _ (hargs c).1 (hargs c).2)), (h c).2⟩)
      (Cert.Reference11Ideal.Value.run (F := Ideal) m' g')⟩

end Cert.Mix

end
-- ==== Proof.DMix.lean ====
module

public import proofs.«01_k».proof.Defs
public import proofs.«01_k».proof.Proof.Products
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent

@[expose] public section

/-!
# The square input gradients

The product of the cotangent and the transposed weights, in one pass.
-/

set_option maxRecDepth 16384

noncomputable section

namespace Cert.Kernel12Ideal.Value

open Cert.Kernel12Ideal Cert.Kernel12Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 2, 0] := by decide +kernel
theorem index1 : ∀ t : Fin grid0.N, win0_1.index t = ![t.val % 2, 0] := by decide +kernel
theorem index2 : ∀ t : Fin grid0.N, win0_2.index t = ![t.val / 2, t.val % 2] := by decide +kernel
theorem covers : (cfg0.win 2).Covers := by decide +kernel

theorem out_at (a : Vec Ideal S1040x2048 .bf16) (b : Vec Ideal S1024x2048 .bf16) (r : Fin 1040) (x : Fin 1024) :
    out0_2 a b (ix2 r x) = ∑ k : Fin 2048, a (ix2 r k) * b (ix2 x k) := by
  unfold out0_2
  rw [View.canon_unit_zero hz]
  simp only [View.ld_unit_zero (S := S1040x2048) hz, View.ld_unit_zero (S := S1024x2048) hz]
  unfold k0_pay1
  pointwise

theorem left_at (t : Fin cfg0.N) (y : Fin 1040) (z : Fin 2048) (Y : Fin 8320) (Z : Fin 2048) (hY : Y.val = t.val / 2 * 1040 + y.val) (hZ : Z.val = 0 * 2048 + z.val) :
    iblk m c 0 t (ix2 y z) = m ((c : Thread nD τ).loc main_arg1) (ix2 Y Z) := by
  unfold iblk
  blk_simp
  refine congrArg (m ((c : Thread nD τ).loc main_arg1)) ?_
  blk_ext
  · rw [index0, hY]; rfl
  · rw [index0, hZ]; rfl

theorem right_at (t : Fin cfg0.N) (y : Fin 1024) (z : Fin 2048) (Y : Fin 2048) (Z : Fin 2048) (hY : Y.val = t.val % 2 * 1024 + y.val) (hZ : Z.val = 0 * 2048 + z.val) :
    iblk m c 1 t (ix2 y z) = m ((c : Thread nD τ).loc main_arg0) (ix2 Y Z) := by
  unfold iblk
  blk_simp
  refine congrArg (m ((c : Thread nD τ).loc main_arg0)) ?_
  blk_ext
  · rw [index1, hY]; rfl
  · rw [index1, hZ]; rfl

theorem emb2 (t : Fin cfg0.N) (r : Fin 1040) (x : Fin 1024) :
    ((cfg0.win 2).blk t).view.emb (ix2 r x)
      = (ix2 (⟨t.val / 2 * 1040 + r.val, by have : t.val < 16 := t.isLt; omega⟩ : Fin 8320) (⟨t.val % 2 * 1024 + x.val, by omega⟩ : Fin 2048) : (⟨2, ![8320, 2048]⟩ : Shape).Idx) := by
  blk_ext
  · rw [index2]; rfl
  · rw [index2]; rfl

theorem final : (dats m 0 c).arrAt 2 cfg0.N
    = rowsRows (M := 8320) (N := 2048) (K := 2048) (m ((c : Thread nD τ).loc main_arg1)) (m ((c : Thread nD τ).loc main_arg0)) := by
  refine (dats m 0 c).arrAt_eq_of_covers 2 _ covers fun t hf y => ?_
  have hlt : t.val < 16 := t.isLt
  blk_simp
  rw [after0_2]
  obtain ⟨r, x, rfl⟩ := ix2_of y
  rw [out_at, emb2, rowsRows_at]
  refine Finset.sum_congr (M := EReal) rfl fun k _ => ?_
  rw [left_at m c _ r k ⟨t.val / 2 * 1040 + r.val, by omega⟩ k rfl (by omega),
    right_at m c _ x k ⟨t.val % 2 * 1024 + x.val, by omega⟩ k rfl (by omega)]

end Cert.Kernel12Ideal.Value

namespace Cert.Reference12Ideal.Value

open Cert.Reference12Ideal Cert.Reference12Ideal.Gen Cert.Products
open Idealize.ShloMosaic Idealize.ShloMosaic.TcCoe Idealize.SL.Sem

theorem eq_product (a : Vec Ideal S8320x2048 .bf16) (b : Vec Ideal S2048x2048 .bf16) :
    Host.dotGeneral (F := Ideal) dot_S8320x2048_S2048x2048_S8320x2048_1_1_0_0_n_n none (extf .f32 a Facts₀.bitsLt_bf16_f32) (extf .f32 b Facts₀.bitsLt_bf16_f32)
      = rowsRows (M := 8320) (N := 2048) (K := 2048) a b := by
  funext i
  obtain ⟨r, x, rfl⟩ := ix2_of i
  rw [rowsRows_at]
  pointwise

end Cert.Reference12Ideal.Value

namespace Cert.DMix

open Cert.Products
open Idealize.ShloMosaic Idealize.ShloMosaic.TcCoe Idealize.SL.Sem

theorem frame_kernel : Cert.quiescent_Kernel12 (hKernel12 := Cert.Kernel12.Gen.facts) := fun m g _ => Cert.Kernel12.Gen.frame (F := Bits) m g
theorem frame_ideal : Cert.quiescent_Kernel12Ideal (hKernel12Ideal := Cert.Kernel12Ideal.Gen.facts) := fun m g _ => Cert.Kernel12Ideal.Gen.frame (F := Ideal) m g
theorem frame_reference : Cert.quiescent_Reference12Ideal (hReference12Ideal := Cert.Reference12Ideal.Gen.facts) := fun m g _ =>
  (θ_run _ _ _).mono (fun r h => ⟨fun c => (h c).2, sem_eq_zero_of_no_sems (by decide) r.2⟩) (Cert.Reference12Ideal.Value.run (F := Ideal) m g)

/-- Kernel and reference end with the same product. -/
theorem algebraic : Cert.algebraic_Kernel12Ideal_Reference12Ideal (hKernel12Ideal := Cert.Kernel12Ideal.Gen.facts) (hReference12Ideal := Cert.Reference12Ideal.Gen.facts) := by
  intro m g m' g' _ hargs
  refine ⟨fun c => rowsRows (M := 8320) (N := 2048) (K := 2048)
      (m ((c.tc : Thread Cert.Kernel12Ideal.nD Cert.Kernel12Ideal.τ).loc Cert.Kernel12Ideal.main_arg1))
      (m ((c.tc : Thread Cert.Kernel12Ideal.nD Cert.Kernel12Ideal.τ).loc Cert.Kernel12Ideal.main_arg0)),
    (θ_run _ _ _).mono (fun r h c => ⟨(h c).1.trans (Cert.Kernel12Ideal.Value.final m c), (h c).2⟩) (Cert.Kernel12Ideal.Value.run_blocks (F := Ideal) m g),
    (θ_run _ _ _).mono (fun r h c => ⟨(h c).1.trans ((Cert.Reference12Ideal.Value.eq_product _ _).trans (congrArg₂ _ (hargs c).2 (hargs c).1)), (h c).2⟩)
      (Cert.Reference12Ideal.Value.run (F := Ideal) m' g')⟩

end Cert.DMix

end
-- ==== Proof.DMla.lean ====
module

public import proofs.«01_k».proof.Defs
public import proofs.«01_k».proof.Proof.Products
public import proofs.«01_k».proof.Proof.Gen.Kernel13.Frame
public import proofs.«01_k».proof.Proof.Gen.Kernel13Ideal.Value
public import proofs.«01_k».proof.Proof.Gen.Reference13Ideal.Run
public import Idealize.ShloMosaic.Lib.Quiescent

@[expose] public section

/-!
# The input gradient of the attention branch

The product of the cotangent and the transposed weights, in one pass.
-/

set_option maxRecDepth 16384

noncomputable section

namespace Cert.Kernel13Ideal.Value

open Cert.Kernel13Ideal Cert.Kernel13Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 2, 0] := by decide +kernel
theorem index1 : ∀ t : Fin grid0.N, win0_1.index t = ![t.val % 2, 0] := by decide +kernel
theorem index2 : ∀ t : Fin grid0.N, win0_2.index t = ![t.val / 2, t.val % 2] := by decide +kernel
theorem covers : (cfg0.win 2).Covers := by decide +kernel

theorem out_at (a : Vec Ideal S1040x2048 .bf16) (b : Vec Ideal S1024x2048 .bf16) (r : Fin 1040) (x : Fin 1024) :
    out0_2 a b (ix2 r x) = ∑ k : Fin 2048, a (ix2 r k) * b (ix2 x k) := by
  unfold out0_2
  rw [View.canon_unit_zero hz]
  simp only [View.ld_unit_zero (S := S1040x2048) hz, View.ld_unit_zero (S := S1024x2048) hz]
  unfold k0_pay1
  pointwise

theorem left_at (t : Fin cfg0.N) (y : Fin 1040) (z : Fin 2048) (Y : Fin 8320) (Z : Fin 2048) (hY : Y.val = t.val / 2 * 1040 + y.val) (hZ : Z.val = 0 * 2048 + z.val) :
    iblk m c 0 t (ix2 y z) = m ((c : Thread nD τ).loc main_arg1) (ix2 Y Z) := by
  unfold iblk
  blk_simp
  refine congrArg (m ((c : Thread nD τ).loc main_arg1)) ?_
  blk_ext
  · rw [index0, hY]; rfl
  · rw [index0, hZ]; rfl

theorem right_at (t : Fin cfg0.N) (y : Fin 1024) (z : Fin 2048) (Y : Fin 2048) (Z : Fin 2048) (hY : Y.val = t.val % 2 * 1024 + y.val) (hZ : Z.val = 0 * 2048 + z.val) :
    iblk m c 1 t (ix2 y z) = m ((c : Thread nD τ).loc main_arg0) (ix2 Y Z) := by
  unfold iblk
  blk_simp
  refine congrArg (m ((c : Thread nD τ).loc main_arg0)) ?_
  blk_ext
  · rw [index1, hY]; rfl
  · rw [index1, hZ]; rfl

theorem emb2 (t : Fin cfg0.N) (r : Fin 1040) (x : Fin 1024) :
    ((cfg0.win 2).blk t).view.emb (ix2 r x)
      = (ix2 (⟨t.val / 2 * 1040 + r.val, by have : t.val < 16 := t.isLt; omega⟩ : Fin 8320) (⟨t.val % 2 * 1024 + x.val, by omega⟩ : Fin 2048) : (⟨2, ![8320, 2048]⟩ : Shape).Idx) := by
  blk_ext
  · rw [index2]; rfl
  · rw [index2]; rfl

theorem final : (dats m 0 c).arrAt 2 cfg0.N
    = rowsRows (M := 8320) (N := 2048) (K := 2048) (m ((c : Thread nD τ).loc main_arg1)) (m ((c : Thread nD τ).loc main_arg0)) := by
  refine (dats m 0 c).arrAt_eq_of_covers 2 _ covers fun t hf y => ?_
  have hlt : t.val < 16 := t.isLt
  blk_simp
  rw [after0_2]
  obtain ⟨r, x, rfl⟩ := ix2_of y
  rw [out_at, emb2, rowsRows_at]
  refine Finset.sum_congr (M := EReal) rfl fun k _ => ?_
  rw [left_at m c _ r k ⟨t.val / 2 * 1040 + r.val, by omega⟩ k rfl (by omega),
    right_at m c _ x k ⟨t.val % 2 * 1024 + x.val, by omega⟩ k rfl (by omega)]

end Cert.Kernel13Ideal.Value

namespace Cert.Reference13Ideal.Value

open Cert.Reference13Ideal Cert.Reference13Ideal.Gen Cert.Products
open Idealize.ShloMosaic Idealize.ShloMosaic.TcCoe Idealize.SL.Sem

theorem eq_product (a : Vec Ideal S8320x2048 .bf16) (b : Vec Ideal S2048x2048 .bf16) :
    truncf (F := Ideal) .bf16 (Host.dotGeneral (F := Ideal) dot_S8320x2048_S2048x2048_S8320x2048_1_1_0_0_n_n none (extf .f32 a Facts₀.bitsLt_bf16_f32) (extf .f32 b Facts₀.bitsLt_bf16_f32)) Facts₀.bitsLt_bf16_f32
      = rowsRows (M := 8320) (N := 2048) (K := 2048) a b := by
  funext i
  obtain ⟨r, x, rfl⟩ := ix2_of i
  rw [rowsRows_at]
  pointwise

end Cert.Reference13Ideal.Value

namespace Cert.DMla

open Cert.Products
open Idealize.ShloMosaic Idealize.ShloMosaic.TcCoe Idealize.SL.Sem

theorem frame_kernel : Cert.quiescent_Kernel13 (hKernel13 := Cert.Kernel13.Gen.facts) := fun m g _ => Cert.Kernel13.Gen.frame (F := Bits) m g
theorem frame_ideal : Cert.quiescent_Kernel13Ideal (hKernel13Ideal := Cert.Kernel13Ideal.Gen.facts) := fun m g _ => Cert.Kernel13Ideal.Gen.frame (F := Ideal) m g
theorem frame_reference : Cert.quiescent_Reference13Ideal (hReference13Ideal := Cert.Reference13Ideal.Gen.facts) := fun m g _ =>
  (θ_run _ _ _).mono (fun r h => ⟨fun c => (h c).2, sem_eq_zero_of_no_sems (by decide) r.2⟩) (Cert.Reference13Ideal.Value.run (F := Ideal) m g)

/-- Kernel and reference end with the same product. -/
theorem algebraic : Cert.algebraic_Kernel13Ideal_Reference13Ideal (hKernel13Ideal := Cert.Kernel13Ideal.Gen.facts) (hReference13Ideal := Cert.Reference13Ideal.Gen.facts) := by
  intro m g m' g' _ hargs
  refine ⟨fun c => rowsRows (M := 8320) (N := 2048) (K := 2048)
      (m ((c.tc : Thread Cert.Kernel13Ideal.nD Cert.Kernel13Ideal.τ).loc Cert.Kernel13Ideal.main_arg1))
      (m ((c.tc : Thread Cert.Kernel13Ideal.nD Cert.Kernel13Ideal.τ).loc Cert.Kernel13Ideal.main_arg0)),
    (θ_run _ _ _).mono (fun r h c => ⟨(h c).1.trans (Cert.Kernel13Ideal.Value.final m c), (h c).2⟩) (Cert.Kernel13Ideal.Value.run_blocks (F := Ideal) m g),
    (θ_run _ _ _).mono (fun r h c => ⟨(h c).1.trans ((Cert.Reference13Ideal.Value.eq_product _ _).trans (congrArg₂ _ (hargs c).2 (hargs c).1)), (h c).2⟩)
      (Cert.Reference13Ideal.Value.run (F := Ideal) m' g')⟩

end Cert.DMla

end
-- ==== Proof.DwMix.lean ====
module

public import proofs.«01_k».proof.Defs
public import proofs.«01_k».proof.Proof.Products
public import proofs.«01_k».proof.Proof.Gen.Kernel14.Frame
public import proofs.«01_k».proof.Proof.Gen.Kernel14Ideal.Value
public import proofs.«01_k».proof.Proof.Gen.Reference14Ideal.Run
public import Idealize.ShloMosaic.Lib.Quiescent

@[expose] public section

/-!
# The square weight gradients

The product of the transposed inputs and the cotangent, in two passes over the rows.
-/

set_option maxRecDepth 16384

noncomputable section

namespace Cert.Kernel14Ideal.Value

open Cert.Kernel14Ideal Cert.Kernel14Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val % 2, t.val / 4] := by decide +kernel
theorem index1 : ∀ t : Fin grid0.N, win0_1.index t = ![t.val % 2, t.val / 2 % 2] := by decide +kernel
theorem index2 : ∀ t : Fin grid0.N, win0_2.index t = ![t.val / 4, t.val / 2 % 2] := by decide +kernel
theorem covers : (cfg0.win 2).Covers := by decide +kernel

theorem pay1_at (a : Vec Ideal S4160x512 .bf16) (b : Vec Ideal S4160x1024 .bf16) (r : Fin 512) (x : Fin 1024) :
    k0_pay1 a b (ix2 r x) = ∑ k : Fin 4160, a (ix2 k r) * b (ix2 k x) := by
  unfold k0_pay1
  pointwise

/-- The first pass leaves its product in the accumulator. -/
theorem first (i : grid0.Coords) (a3 : Memref sig .tc .vmem S4160x512 .bf16) (h3 : a3.IsWhole) (a4 : Memref sig .tc .vmem S4160x1024 .bf16) (h4 : a4.IsWhole)
    (ao : Memref sig .tc .vmem S512x1024 .bf16) (ho : ao.IsWhole) (ac : Memref sig .tc .vmem S512x1024 .f32) (hc : ac.IsWhole)
    (e0 : cond0_0 i) (e1 : ¬cond0_1 i) (e2 : ¬cond0_2 i) (a : Vec Ideal S4160x512 .bf16) (b : Vec Ideal S4160x1024 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S4160x512) hz, View.ld_unit_zero (S := S4160x1024) hz, shapeCast_self]

/-- The last pass adds its product and stores the sum. -/
theorem last (i : grid0.Coords) (a3 : Memref sig .tc .vmem S4160x512 .bf16) (h3 : a3.IsWhole) (a4 : Memref sig .tc .vmem S4160x1024 .bf16) (h4 : a4.IsWhole)
    (ao : Memref sig .tc .vmem S512x1024 .bf16) (ho : ao.IsWhole) (ac : Memref sig .tc .vmem S512x1024 .f32) (hc : ac.IsWhole)
    (e0 : ¬cond0_0 i) (e1 : ¬cond0_1 i) (e2 : cond0_2 i) (a : Vec Ideal S4160x512 .bf16) (b : Vec Ideal S4160x1024 .bf16) (s : Vec Ideal S512x1024 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz]
  simp only [View.readAt_eq_ld, h3.read_unread, h4.read_unread, hc.read_unread, View.ld_unit_zero (S := S4160x512) hz, View.ld_unit_zero (S := S4160x1024) hz, View.ld_unit_zero (S := S512x1024) hz]

theorem left_at (t : Fin cfg0.N) (y : Fin 4160) (z : Fin 512) (Y : Fin 8320) (Z : Fin 2048) (hY : Y.val = t.val % 2 * 4160 + y.val) (hZ : Z.val = t.val / 4 * 512 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 4160) (z : Fin 1024) (Y : Fin 8320) (Z : Fin 2048) (hY : Y.val = t.val % 2 * 4160 + y.val) (hZ : Z.val = t.val / 2 % 2 * 1024 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 512) (x : Fin 1024) :
    ((cfg0.win 2).blk t).view.emb (ix2 r x)
      = (ix2 (⟨t.val / 4 * 512 + r.val, by have : t.val < 16 := t.isLt; omega⟩ : Fin 2048) (⟨t.val / 2 % 2 * 1024 + x.val, by omega⟩ : Fin 2048) : (⟨2, ![2048, 2048]⟩ : Shape).Idx) := by
  blk_ext
  · rw [index2]; rfl
  · rw [index2]; rfl

theorem final : (dats m 0 c).arrAt 2 cfg0.N
    = colsCols (M := 2048) (N := 2048) (K := 8320) (m ((c : Thread nD τ).loc main_arg0)) (m ((c : Thread nD τ).loc main_arg1)) := by
  refine (dats m 0 c).arrAt_eq_of_covers 2 _ covers fun t hf y => ?_
  have hlt : t.val < 16 := t.isLt
  have ht : t.val % 2 = 1 := (flush0_2 t).mp hf
  have e := outsAt0_A m c ⟨t.val - 1, by have : cfg0.N = 16 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix2_of y
  rw [emb2, colsCols_at]
  unfold k0_pay4
  pointwise [pay1_at]
  refine sum_halves (n := 4160) (by decide) _ _ _ (Finset.sum_congr rfl fun k _ => ?_) (Finset.sum_congr rfl fun k _ => ?_)
  · rw [left_at m c _ k r ⟨k.val, by omega⟩ ⟨t.val / 4 * 512 + r.val, by omega⟩ (by dsimp only <;> omega) (by dsimp only <;> omega),
      right_at m c _ k x ⟨k.val, by omega⟩ ⟨t.val / 2 % 2 * 1024 + x.val, by omega⟩ (by dsimp only <;> omega) (by dsimp only <;> omega)]
  · rw [left_at m c _ k r ⟨4160 + k.val, by omega⟩ ⟨t.val / 4 * 512 + r.val, by omega⟩ (by dsimp only <;> omega) (by dsimp only <;> omega),
      right_at m c _ k x ⟨4160 + k.val, by omega⟩ ⟨t.val / 2 % 2 * 1024 + x.val, by omega⟩ (by dsimp only <;> omega) (by dsimp only <;> omega)]

end Cert.Kernel14Ideal.Value

namespace Cert.Reference14Ideal.Value

open Cert.Reference14Ideal Cert.Reference14Ideal.Gen Cert.Products
open Idealize.ShloMosaic Idealize.ShloMosaic.TcCoe Idealize.SL.Sem

theorem eq_product (a : Vec Ideal S8320x2048 .bf16) (b : Vec Ideal S8320x2048 .bf16) :
    truncf (F := Ideal) .bf16 (transpose S2048x2048 [1, 0] (Host.dotGeneral (F := Ideal) dot_S8320x2048_S8320x2048_S2048x2048_0_0_1_1_n_n none (extf .f32 b Facts₀.bitsLt_bf16_f32) (extf .f32 a Facts₀.bitsLt_bf16_f32)) Facts₀.transposes_S2048x2048_S2048x2048_1_0) Facts₀.bitsLt_bf16_f32
      = colsCols (M := 2048) (N := 2048) (K := 8320) a b := by
  funext i
  obtain ⟨r, x, rfl⟩ := ix2_of i
  rw [colsCols_at]
  pointwise
  exact Finset.sum_congr rfl fun k _ => mul_comm _ _

end Cert.Reference14Ideal.Value

namespace Cert.DwMix

open Cert.Products
open Idealize.ShloMosaic Idealize.ShloMosaic.TcCoe Idealize.SL.Sem

theorem frame_kernel : Cert.quiescent_Kernel14 (hKernel14 := Cert.Kernel14.Gen.facts) := fun m g _ => Cert.Kernel14.Gen.frame (F := Bits) m g
theorem frame_ideal : Cert.quiescent_Kernel14Ideal (hKernel14Ideal := Cert.Kernel14Ideal.Gen.facts) := fun m g _ => Cert.Kernel14Ideal.Gen.frame (F := Ideal) m g
theorem frame_reference : Cert.quiescent_Reference14Ideal (hReference14Ideal := Cert.Reference14Ideal.Gen.facts) := fun m g _ =>
  (θ_run _ _ _).mono (fun r h => ⟨fun c => (h c).2, sem_eq_zero_of_no_sems (by decide) r.2⟩) (Cert.Reference14Ideal.Value.run (F := Ideal) m g)

/-- Kernel and reference end with the same product. -/
theorem algebraic : Cert.algebraic_Kernel14Ideal_Reference14Ideal (hKernel14Ideal := Cert.Kernel14Ideal.Gen.facts) (hReference14Ideal := Cert.Reference14Ideal.Gen.facts) := by
  intro m g m' g' _ hargs
  refine ⟨fun c => colsCols (M := 2048) (N := 2048) (K := 8320)
      (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1)),
    (θ_run _ _ _).mono (fun r h c => ⟨(h c).1.trans (Cert.Kernel14Ideal.Value.final m c), (h c).2⟩) (Cert.Kernel14Ideal.Value.run_blocks (F := Ideal) m g),
    (θ_run _ _ _).mono (fun r h c => ⟨(h c).1.trans ((Cert.Reference14Ideal.Value.eq_product _ _).trans (congrArg₂ _ (hargs c).1 (hargs c).2)), (h c).2⟩)
      (Cert.Reference14Ideal.Value.run (F := Ideal) m' g')⟩

end Cert.DwMix

end
-- ==== Proof.QUp.lean ====
module

public import proofs.«01_k».proof.Defs
public import proofs.«01_k».proof.Proof.Products
public import proofs.«01_k».proof.Proof.Gen.Kernel15.Frame
public import proofs.«01_k».proof.Proof.Gen.Kernel15Ideal.Value
public import proofs.«01_k».proof.Proof.Gen.Reference15Ideal.Run
public import Idealize.ShloMosaic.Lib.Quiescent

@[expose] public section

/-!
# The query up-projection

The product of inputs and weights, in one pass.
-/

set_option maxRecDepth 16384

noncomputable section

namespace Cert.Kernel15Ideal.Value

open Cert.Kernel15Ideal Cert.Kernel15Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, t.val % 4] := by decide +kernel
theorem covers : (cfg0.win 2).Covers := by decide +kernel

theorem out_at (a : Vec Ideal S1040x1536 .bf16) (b : Vec Ideal S1536x1024 .bf16) (r : Fin 1040) (x : Fin 1024) :
    out0_2 a b (ix2 r x) = ∑ k : Fin 1536, a (ix2 r k) * b (ix2 k x) := by
  unfold out0_2
  rw [View.canon_unit_zero hz]
  simp only [View.ld_unit_zero (S := S1040x1536) hz, View.ld_unit_zero (S := S1536x1024) hz]
  unfold k0_pay1
  pointwise

theorem left_at (t : Fin cfg0.N) (y : Fin 1040) (z : Fin 1536) (Y : Fin 8320) (Z : Fin 1536) (hY : Y.val = t.val / 4 * 1040 + y.val) (hZ : Z.val = 0 * 1536 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 1536) (z : Fin 1024) (Y : Fin 1536) (Z : Fin 4096) (hY : Y.val = 0 * 1536 + y.val) (hZ : Z.val = t.val % 4 * 1024 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 1040) (x : Fin 1024) :
    ((cfg0.win 2).blk t).view.emb (ix2 r x)
      = (ix2 (⟨t.val / 4 * 1040 + r.val, by have : t.val < 32 := t.isLt; omega⟩ : Fin 8320) (⟨t.val % 4 * 1024 + x.val, by omega⟩ : Fin 4096) : (⟨2, ![8320, 4096]⟩ : Shape).Idx) := by
  blk_ext
  · rw [index2]; rfl
  · rw [index2]; rfl

theorem final : (dats m 0 c).arrAt 2 cfg0.N
    = rowsCols (M := 8320) (N := 4096) (K := 1536) (m ((c : Thread nD τ).loc main_arg0)) (m ((c : Thread nD τ).loc main_arg1)) := by
  refine (dats m 0 c).arrAt_eq_of_covers 2 _ covers fun t hf y => ?_
  have hlt : t.val < 32 := t.isLt
  blk_simp
  rw [after0_2]
  obtain ⟨r, x, rfl⟩ := ix2_of y
  rw [out_at, emb2, rowsCols_at]
  refine Finset.sum_congr (M := EReal) rfl fun k _ => ?_
  rw [left_at m c _ r k ⟨t.val / 4 * 1040 + r.val, by omega⟩ k rfl (by omega),
    right_at m c _ k x k ⟨t.val % 4 * 1024 + x.val, by omega⟩ (by omega) rfl]

end Cert.Kernel15Ideal.Value

namespace Cert.Reference15Ideal.Value

open Cert.Reference15Ideal Cert.Reference15Ideal.Gen Cert.Products
open Idealize.ShloMosaic Idealize.ShloMosaic.TcCoe Idealize.SL.Sem

theorem eq_product (a : Vec Ideal S8320x1536 .bf16) (b : Vec Ideal S1536x4096 .bf16) :
    Host.dotGeneral (F := Ideal) dot_S8320x1536_S1536x4096_S8320x4096_1_0_0_1_n_n none (extf .f32 a Facts₀.bitsLt_bf16_f32) (extf .f32 b Facts₀.bitsLt_bf16_f32)
      = rowsCols (M := 8320) (N := 4096) (K := 1536) a b := by
  funext i
  obtain ⟨r, x, rfl⟩ := ix2_of i
  rw [rowsCols_at]
  pointwise

end Cert.Reference15Ideal.Value

namespace Cert.QUp

open Cert.Products
open Idealize.ShloMosaic Idealize.ShloMosaic.TcCoe Idealize.SL.Sem

theorem frame_kernel : Cert.quiescent_Kernel15 (hKernel15 := Cert.Kernel15.Gen.facts) := fun m g _ => Cert.Kernel15.Gen.frame (F := Bits) m g
theorem frame_ideal : Cert.quiescent_Kernel15Ideal (hKernel15Ideal := Cert.Kernel15Ideal.Gen.facts) := fun m g _ => Cert.Kernel15Ideal.Gen.frame (F := Ideal) m g
theorem frame_reference : Cert.quiescent_Reference15Ideal (hReference15Ideal := Cert.Reference15Ideal.Gen.facts) := fun m g _ =>
  (θ_run _ _ _).mono (fun r h => ⟨fun c => (h c).2, sem_eq_zero_of_no_sems (by decide) r.2⟩) (Cert.Reference15Ideal.Value.run (F := Ideal) m g)

/-- Kernel and reference end with the same product. -/
theorem algebraic : Cert.algebraic_Kernel15Ideal_Reference15Ideal (hKernel15Ideal := Cert.Kernel15Ideal.Gen.facts) (hReference15Ideal := Cert.Reference15Ideal.Gen.facts) := by
  intro m g m' g' _ hargs
  refine ⟨fun c => rowsCols (M := 8320) (N := 4096) (K := 1536)
      (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1)),
    (θ_run _ _ _).mono (fun r h c => ⟨(h c).1.trans (Cert.Kernel15Ideal.Value.final m c), (h c).2⟩) (Cert.Kernel15Ideal.Value.run_blocks (F := Ideal) m g),
    (θ_run _ _ _).mono (fun r h c => ⟨(h c).1.trans ((Cert.Reference15Ideal.Value.eq_product _ _).trans (congrArg₂ _ (hargs c).1 (hargs c).2)), (h c).2⟩)
      (Cert.Reference15Ideal.Value.run (F := Ideal) m' g')⟩

end Cert.QUp

end
-- ==== Proof.KvUp.lean ====
module

public import proofs.«01_k».proof.Defs
public import proofs.«01_k».proof.Proof.Products
public import proofs.«01_k».proof.Proof.Gen.Kernel16.Frame
public import proofs.«01_k».proof.Proof.Gen.Kernel16Ideal.Value
public import proofs.«01_k».proof.Proof.Gen.Reference16Ideal.Run
public import Idealize.ShloMosaic.Lib.Quiescent

@[expose] public section

/-!
# The key and value up-projection

The product of inputs and weights, in one pass.
-/

set_option maxRecDepth 16384

noncomputable section

namespace Cert.Kernel16Ideal.Value

open Cert.Kernel16Ideal Cert.Kernel16Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, t.val % 4] := by decide +kernel
theorem covers : (cfg0.win 2).Covers := by decide +kernel

theorem out_at (a : Vec Ideal S1040x512 .bf16) (b : Vec Ideal S512x1024 .bf16) (r : Fin 1040) (x : Fin 1024) :
    out0_2 a b (ix2 r x) = ∑ k : Fin 512, a (ix2 r k) * b (ix2 k x) := by
  unfold out0_2
  rw [View.canon_unit_zero hz]
  simp only [View.ld_unit_zero (S := S1040x512) hz, View.ld_unit_zero (S := S512x1024) hz]
  unfold k0_pay1
  pointwise

theorem left_at (t : Fin cfg0.N) (y : Fin 1040) (z : Fin 512) (Y : Fin 8320) (Z : Fin 512) (hY : Y.val = t.val / 4 * 1040 + y.val) (hZ : Z.val = 0 * 512 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 512) (z : Fin 1024) (Y : Fin 512) (Z : Fin 4096) (hY : Y.val = 0 * 512 + y.val) (hZ : Z.val = t.val % 4 * 1024 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 1040) (x : Fin 1024) :
    ((cfg0.win 2).blk t).view.emb (ix2 r x)
      = (ix2 (⟨t.val / 4 * 1040 + r.val, by have : t.val < 32 := t.isLt; omega⟩ : Fin 8320) (⟨t.val % 4 * 1024 + x.val, by omega⟩ : Fin 4096) : (⟨2, ![8320, 4096]⟩ : Shape).Idx) := by
  blk_ext
  · rw [index2]; rfl
  · rw [index2]; rfl

theorem final : (dats m 0 c).arrAt 2 cfg0.N
    = rowsCols (M := 8320) (N := 4096) (K := 512) (m ((c : Thread nD τ).loc main_arg0)) (m ((c : Thread nD τ).loc main_arg1)) := by
  refine (dats m 0 c).arrAt_eq_of_covers 2 _ covers fun t hf y => ?_
  have hlt : t.val < 32 := t.isLt
  blk_simp
  rw [after0_2]
  obtain ⟨r, x, rfl⟩ := ix2_of y
  rw [out_at, emb2, rowsCols_at]
  refine Finset.sum_congr (M := EReal) rfl fun k _ => ?_
  rw [left_at m c _ r k ⟨t.val / 4 * 1040 + r.val, by omega⟩ k rfl (by omega),
    right_at m c _ k x k ⟨t.val % 4 * 1024 + x.val, by omega⟩ (by omega) rfl]

end Cert.Kernel16Ideal.Value

namespace Cert.Reference16Ideal.Value

open Cert.Reference16Ideal Cert.Reference16Ideal.Gen Cert.Products
open Idealize.ShloMosaic Idealize.ShloMosaic.TcCoe Idealize.SL.Sem

theorem eq_product (a : Vec Ideal S8320x512 .bf16) (b : Vec Ideal S512x4096 .bf16) :
    Host.dotGeneral (F := Ideal) dot_S8320x512_S512x4096_S8320x4096_1_0_0_1_n_n none (extf .f32 a Facts₀.bitsLt_bf16_f32) (extf .f32 b Facts₀.bitsLt_bf16_f32)
      = rowsCols (M := 8320) (N := 4096) (K := 512) a b := by
  funext i
  obtain ⟨r, x, rfl⟩ := ix2_of i
  rw [rowsCols_at]
  pointwise

end Cert.Reference16Ideal.Value

namespace Cert.KvUp

open Cert.Products
open Idealize.ShloMosaic Idealize.ShloMosaic.TcCoe Idealize.SL.Sem

theorem frame_kernel : Cert.quiescent_Kernel16 (hKernel16 := Cert.Kernel16.Gen.facts) := fun m g _ => Cert.Kernel16.Gen.frame (F := Bits) m g
theorem frame_ideal : Cert.quiescent_Kernel16Ideal (hKernel16Ideal := Cert.Kernel16Ideal.Gen.facts) := fun m g _ => Cert.Kernel16Ideal.Gen.frame (F := Ideal) m g
theorem frame_reference : Cert.quiescent_Reference16Ideal (hReference16Ideal := Cert.Reference16Ideal.Gen.facts) := fun m g _ =>
  (θ_run _ _ _).mono (fun r h => ⟨fun c => (h c).2, sem_eq_zero_of_no_sems (by decide) r.2⟩) (Cert.Reference16Ideal.Value.run (F := Ideal) m g)

/-- Kernel and reference end with the same product. -/
theorem algebraic : Cert.algebraic_Kernel16Ideal_Reference16Ideal (hKernel16Ideal := Cert.Kernel16Ideal.Gen.facts) (hReference16Ideal := Cert.Reference16Ideal.Gen.facts) := by
  intro m g m' g' _ hargs
  refine ⟨fun c => rowsCols (M := 8320) (N := 4096) (K := 512)
      (m ((c.tc : Thread Cert.Kernel16Ideal.nD Cert.Kernel16Ideal.τ).loc Cert.Kernel16Ideal.main_arg0))
      (m ((c.tc : Thread Cert.Kernel16Ideal.nD Cert.Kernel16Ideal.τ).loc Cert.Kernel16Ideal.main_arg1)),
    (θ_run _ _ _).mono (fun r h c => ⟨(h c).1.trans (Cert.Kernel16Ideal.Value.final m c), (h c).2⟩) (Cert.Kernel16Ideal.Value.run_blocks (F := Ideal) m g),
    (θ_run _ _ _).mono (fun r h c => ⟨(h c).1.trans ((Cert.Reference16Ideal.Value.eq_product _ _).trans (congrArg₂ _ (hargs c).1 (hargs c).2)), (h c).2⟩)
      (Cert.Reference16Ideal.Value.run (F := Ideal) m' g')⟩

end Cert.KvUp

end
-- ==== Proof.DQn.lean ====
module

public import proofs.«01_k».proof.Defs
public import proofs.«01_k».proof.Proof.Products
public import proofs.«01_k».proof.Proof.Gen.Kernel17.Frame
public import proofs.«01_k».proof.Proof.Gen.Kernel17Ideal.Value
public import proofs.«01_k».proof.Proof.Gen.Reference17Ideal.Run
public import Idealize.ShloMosaic.Lib.Quiescent

@[expose] public section

/-!
# The input gradient of the query up-projection

The product of the cotangent and the transposed weights, in two passes over the inner index.
-/

set_option maxRecDepth 16384

noncomputable section

namespace Cert.Kernel17Ideal.Value

open Cert.Kernel17Ideal Cert.Kernel17Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 4, t.val % 2] := by decide +kernel
theorem index1 : ∀ t : Fin grid0.N, win0_1.index t = ![t.val / 2 % 2, t.val % 2] := by decide +kernel
theorem index2 : ∀ t : Fin grid0.N, win0_2.index t = ![t.val / 4, t.val / 2 % 2] := by decide +kernel
theorem covers : (cfg0.win 2).Covers := by decide +kernel

theorem pay1_at (a : Vec Ideal S1040x2048 .bf16) (b : Vec Ideal S768x2048 .bf16) (r : Fin 1040) (x : Fin 768) :
    k0_pay1 a b (ix2 r x) = ∑ k : Fin 2048, a (ix2 r k) * b (ix2 x k) := by
  unfold k0_pay1
  pointwise

/-- The first pass leaves its product in the accumulator. -/
theorem first (i : grid0.Coords) (a3 : Memref sig .tc .vmem S1040x2048 .bf16) (h3 : a3.IsWhole) (a4 : Memref sig .tc .vmem S768x2048 .bf16) (h4 : a4.IsWhole)
    (ao : Memref sig .tc .vmem S1040x768 .f32) (ho : ao.IsWhole) (ac : Memref sig .tc .vmem S1040x768 .f32) (hc : ac.IsWhole)
    (e0 : cond0_0 i) (e1 : ¬cond0_1 i) (e2 : ¬cond0_2 i) (a : Vec Ideal S1040x2048 .bf16) (b : Vec Ideal S768x2048 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S1040x2048) hz, View.ld_unit_zero (S := S768x2048) hz, shapeCast_self]

/-- The last pass adds its product and stores the sum. -/
theorem last (i : grid0.Coords) (a3 : Memref sig .tc .vmem S1040x2048 .bf16) (h3 : a3.IsWhole) (a4 : Memref sig .tc .vmem S768x2048 .bf16) (h4 : a4.IsWhole)
    (ao : Memref sig .tc .vmem S1040x768 .f32) (ho : ao.IsWhole) (ac : Memref sig .tc .vmem S1040x768 .f32) (hc : ac.IsWhole)
    (e0 : ¬cond0_0 i) (e1 : ¬cond0_1 i) (e2 : cond0_2 i) (a : Vec Ideal S1040x2048 .bf16) (b : Vec Ideal S768x2048 .bf16) (s : Vec Ideal S1040x768 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz]
  simp only [View.readAt_eq_ld, h3.read_unread, h4.read_unread, hc.read_unread, View.ld_unit_zero (S := S1040x2048) hz, View.ld_unit_zero (S := S768x2048) hz, View.ld_unit_zero (S := S1040x768) hz]

theorem left_at (t : Fin cfg0.N) (y : Fin 1040) (z : Fin 2048) (Y : Fin 8320) (Z : Fin 4096) (hY : Y.val = t.val / 4 * 1040 + y.val) (hZ : Z.val = t.val % 2 * 2048 + z.val) :
    iblk m c 0 t (ix2 y z) = m ((c : Thread nD τ).loc main_arg1) (ix2 Y Z) := by
  unfold iblk
  blk_simp
  refine congrArg (m ((c : Thread nD τ).loc main_arg1)) ?_
  blk_ext
  · rw [index0, hY]; rfl
  · rw [index0, hZ]; rfl

theorem right_at (t : Fin cfg0.N) (y : Fin 768) (z : Fin 2048) (Y : Fin 1536) (Z : Fin 4096) (hY : Y.val = t.val / 2 % 2 * 768 + y.val) (hZ : Z.val = t.val % 2 * 2048 + z.val) :
    iblk m c 1 t (ix2 y z) = m ((c : Thread nD τ).loc main_arg0) (ix2 Y Z) := by
  unfold iblk
  blk_simp
  refine congrArg (m ((c : Thread nD τ).loc main_arg0)) ?_
  blk_ext
  · rw [index1, hY]; rfl
  · rw [index1, hZ]; rfl

theorem emb2 (t : Fin cfg0.N) (r : Fin 1040) (x : Fin 768) :
    ((cfg0.win 2).blk t).view.emb (ix2 r x)
      = (ix2 (⟨t.val / 4 * 1040 + r.val, by have : t.val < 32 := t.isLt; omega⟩ : Fin 8320) (⟨t.val / 2 % 2 * 768 + x.val, by omega⟩ : Fin 1536) : (⟨2, ![8320, 1536]⟩ : Shape).Idx) := by
  blk_ext
  · rw [index2]; rfl
  · rw [index2]; rfl

theorem final : (dats m 0 c).arrAt 2 cfg0.N
    = rowsRows (M := 8320) (N := 1536) (K := 4096) (m ((c : Thread nD τ).loc main_arg1)) (m ((c : Thread nD τ).loc main_arg0)) := by
  refine (dats m 0 c).arrAt_eq_of_covers 2 _ covers fun t hf y => ?_
  have hlt : t.val < 32 := t.isLt
  have ht : t.val % 2 = 1 := (flush0_2 t).mp hf
  have e := outsAt0_A m c ⟨t.val - 1, by have : cfg0.N = 32 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix2_of y
  rw [emb2, rowsRows_at]
  unfold k0_pay4
  pointwise [pay1_at]
  refine sum_halves (n := 2048) (by decide) _ _ _ (Finset.sum_congr rfl fun k _ => ?_) (Finset.sum_congr rfl fun k _ => ?_)
  · rw [left_at m c _ r k ⟨t.val / 4 * 1040 + r.val, by omega⟩ ⟨k.val, by omega⟩ (by dsimp only <;> omega) (by dsimp only <;> omega),
      right_at m c _ x k ⟨t.val / 2 % 2 * 768 + x.val, by omega⟩ ⟨k.val, by omega⟩ (by dsimp only <;> omega) (by dsimp only <;> omega)]
  · rw [left_at m c _ r k ⟨t.val / 4 * 1040 + r.val, by omega⟩ ⟨2048 + k.val, by omega⟩ (by dsimp only <;> omega) (by dsimp only <;> omega),
      right_at m c _ x k ⟨t.val / 2 % 2 * 768 + x.val, by omega⟩ ⟨2048 + k.val, by omega⟩ (by dsimp only <;> omega) (by dsimp only <;> omega)]

end Cert.Kernel17Ideal.Value

namespace Cert.Reference17Ideal.Value

open Cert.Reference17Ideal Cert.Reference17Ideal.Gen Cert.Products
open Idealize.ShloMosaic Idealize.ShloMosaic.TcCoe Idealize.SL.Sem

theorem eq_product (a : Vec Ideal S8320x4096 .bf16) (b : Vec Ideal S1536x4096 .bf16) :
    Host.dotGeneral (F := Ideal) dot_S8320x4096_S1536x4096_S8320x1536_1_1_0_0_n_n none (extf .f32 a Facts₀.bitsLt_bf16_f32) (extf .f32 b Facts₀.bitsLt_bf16_f32)
      = rowsRows (M := 8320) (N := 1536) (K := 4096) a b := by
  funext i
  obtain ⟨r, x, rfl⟩ := ix2_of i
  rw [rowsRows_at]
  pointwise

end Cert.Reference17Ideal.Value

namespace Cert.DQn

open Cert.Products
open Idealize.ShloMosaic Idealize.ShloMosaic.TcCoe Idealize.SL.Sem

theorem frame_kernel : Cert.quiescent_Kernel17 (hKernel17 := Cert.Kernel17.Gen.facts) := fun m g _ => Cert.Kernel17.Gen.frame (F := Bits) m g
theorem frame_ideal : Cert.quiescent_Kernel17Ideal (hKernel17Ideal := Cert.Kernel17Ideal.Gen.facts) := fun m g _ => Cert.Kernel17Ideal.Gen.frame (F := Ideal) m g
theorem frame_reference : Cert.quiescent_Reference17Ideal (hReference17Ideal := Cert.Reference17Ideal.Gen.facts) := fun m g _ =>
  (θ_run _ _ _).mono (fun r h => ⟨fun c => (h c).2, sem_eq_zero_of_no_sems (by decide) r.2⟩) (Cert.Reference17Ideal.Value.run (F := Ideal) m g)

/-- Kernel and reference end with the same product. -/
theorem algebraic : Cert.algebraic_Kernel17Ideal_Reference17Ideal (hKernel17Ideal := Cert.Kernel17Ideal.Gen.facts) (hReference17Ideal := Cert.Reference17Ideal.Gen.facts) := by
  intro m g m' g' _ hargs
  refine ⟨fun c => rowsRows (M := 8320) (N := 1536) (K := 4096)
      (m ((c.tc : Thread Cert.Kernel17Ideal.nD Cert.Kernel17Ideal.τ).loc Cert.Kernel17Ideal.main_arg1))
      (m ((c.tc : Thread Cert.Kernel17Ideal.nD Cert.Kernel17Ideal.τ).loc Cert.Kernel17Ideal.main_arg0)),
    (θ_run _ _ _).mono (fun r h c => ⟨(h c).1.trans (Cert.Kernel17Ideal.Value.final m c), (h c).2⟩) (Cert.Kernel17Ideal.Value.run_blocks (F := Ideal) m g),
    (θ_run _ _ _).mono (fun r h c => ⟨(h c).1.trans ((Cert.Reference17Ideal.Value.eq_product _ _).trans (congrArg₂ _ (hargs c).2 (hargs c).1)), (h c).2⟩)
      (Cert.Reference17Ideal.Value.run (F := Ideal) m' g')⟩

end Cert.DQn

end
-- ==== Proof.DwQUp.lean ====
module

public import proofs.«01_k».proof.Defs
public import proofs.«01_k».proof.Proof.Products
public import proofs.«01_k».proof.Proof.Gen.Kernel18.Frame
public import proofs.«01_k».proof.Proof.Gen.Kernel18Ideal.Value
public import proofs.«01_k».proof.Proof.Gen.Reference18Ideal.Run
public import Idealize.ShloMosaic.Lib.Quiescent

@[expose] public section

/-!
# The weight gradient of the query up-projection

The product of the transposed inputs and the cotangent, in two passes over the rows.
-/

set_option maxRecDepth 16384

noncomputable section

namespace Cert.Kernel18Ideal.Value

open Cert.Kernel18Ideal Cert.Kernel18Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val % 2, t.val / 8] := by decide +kernel
theorem index1 : ∀ t : Fin grid0.N, win0_1.index t = ![t.val % 2, t.val / 2 % 4] := by decide +kernel
theorem index2 : ∀ t : Fin grid0.N, win0_2.index t = ![t.val / 8, t.val / 2 % 4] := by decide +kernel
theorem covers : (cfg0.win 2).Covers := by decide +kernel

theorem pay1_at (a : Vec Ideal S4160x768 .bf16) (b : Vec Ideal S4160x1024 .bf16) (r : Fin 768) (x : Fin 1024) :
    k0_pay1 a b (ix2 r x) = ∑ k : Fin 4160, a (ix2 k r) * b (ix2 k x) := by
  unfold k0_pay1
  pointwise

/-- The first pass leaves its product in the accumulator. -/
theorem first (i : grid0.Coords) (a3 : Memref sig .tc .vmem S4160x768 .bf16) (h3 : a3.IsWhole) (a4 : Memref sig .tc .vmem S4160x1024 .bf16) (h4 : a4.IsWhole)
    (ao : Memref sig .tc .vmem S768x1024 .bf16) (ho : ao.IsWhole) (ac : Memref sig .tc .vmem S768x1024 .f32) (hc : ac.IsWhole)
    (e0 : cond0_0 i) (e1 : ¬cond0_1 i) (e2 : ¬cond0_2 i) (a : Vec Ideal S4160x768 .bf16) (b : Vec Ideal S4160x1024 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S4160x768) hz, View.ld_unit_zero (S := S4160x1024) hz, shapeCast_self]

/-- The last pass adds its product and stores the sum. -/
theorem last (i : grid0.Coords) (a3 : Memref sig .tc .vmem S4160x768 .bf16) (h3 : a3.IsWhole) (a4 : Memref sig .tc .vmem S4160x1024 .bf16) (h4 : a4.IsWhole)
    (ao : Memref sig .tc .vmem S768x1024 .bf16) (ho : ao.IsWhole) (ac : Memref sig .tc .vmem S768x1024 .f32) (hc : ac.IsWhole)
    (e0 : ¬cond0_0 i) (e1 : ¬cond0_1 i) (e2 : cond0_2 i) (a : Vec Ideal S4160x768 .bf16) (b : Vec Ideal S4160x1024 .bf16) (s : Vec Ideal S768x1024 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz]
  simp only [View.readAt_eq_ld, h3.read_unread, h4.read_unread, hc.read_unread, View.ld_unit_zero (S := S4160x768) hz, View.ld_unit_zero (S := S4160x1024) hz, View.ld_unit_zero (S := S768x1024) hz]

theorem left_at (t : Fin cfg0.N) (y : Fin 4160) (z : Fin 768) (Y : Fin 8320) (Z : Fin 1536) (hY : Y.val = t.val % 2 * 4160 + y.val) (hZ : Z.val = t.val / 8 * 768 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 4160) (z : Fin 1024) (Y : Fin 8320) (Z : Fin 4096) (hY : Y.val = t.val % 2 * 4160 + y.val) (hZ : Z.val = t.val / 2 % 4 * 1024 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 768) (x : Fin 1024) :
    ((cfg0.win 2).blk t).view.emb (ix2 r x)
      = (ix2 (⟨t.val / 8 * 768 + r.val, by have : t.val < 16 := t.isLt; omega⟩ : Fin 1536) (⟨t.val / 2 % 4 * 1024 + x.val, by omega⟩ : Fin 4096) : (⟨2, ![1536, 4096]⟩ : Shape).Idx) := by
  blk_ext
  · rw [index2]; rfl
  · rw [index2]; rfl

theorem final : (dats m 0 c).arrAt 2 cfg0.N
    = colsCols (M := 1536) (N := 4096) (K := 8320) (m ((c : Thread nD τ).loc main_arg0)) (m ((c : Thread nD τ).loc main_arg1)) := by
  refine (dats m 0 c).arrAt_eq_of_covers 2 _ covers fun t hf y => ?_
  have hlt : t.val < 16 := t.isLt
  have ht : t.val % 2 = 1 := (flush0_2 t).mp hf
  have e := outsAt0_A m c ⟨t.val - 1, by have : cfg0.N = 16 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix2_of y
  rw [emb2, colsCols_at]
  unfold k0_pay4
  pointwise [pay1_at]
  refine sum_halves (n := 4160) (by decide) _ _ _ (Finset.sum_congr rfl fun k _ => ?_) (Finset.sum_congr rfl fun k _ => ?_)
  · rw [left_at m c _ k r ⟨k.val, by omega⟩ ⟨t.val / 8 * 768 + r.val, by omega⟩ (by dsimp only <;> omega) (by dsimp only <;> omega),
      right_at m c _ k x ⟨k.val, by omega⟩ ⟨t.val / 2 % 4 * 1024 + x.val, by omega⟩ (by dsimp only <;> omega) (by dsimp only <;> omega)]
  · rw [left_at m c _ k r ⟨4160 + k.val, by omega⟩ ⟨t.val / 8 * 768 + r.val, by omega⟩ (by dsimp only <;> omega) (by dsimp only <;> omega),
      right_at m c _ k x ⟨4160 + k.val, by omega⟩ ⟨t.val / 2 % 4 * 1024 + x.val, by omega⟩ (by dsimp only <;> omega) (by dsimp only <;> omega)]

end Cert.Kernel18Ideal.Value

namespace Cert.Reference18Ideal.Value

open Cert.Reference18Ideal Cert.Reference18Ideal.Gen Cert.Products
open Idealize.ShloMosaic Idealize.ShloMosaic.TcCoe Idealize.SL.Sem

theorem eq_product (a : Vec Ideal S8320x1536 .bf16) (b : Vec Ideal S8320x4096 .bf16) :
    truncf (F := Ideal) .bf16 (transpose S1536x4096 [1, 0] (Host.dotGeneral (F := Ideal) dot_S8320x4096_S8320x1536_S4096x1536_0_0_1_1_n_n none (extf .f32 b Facts₀.bitsLt_bf16_f32) (extf .f32 a Facts₀.bitsLt_bf16_f32)) Facts₀.transposes_S4096x1536_S1536x4096_1_0) Facts₀.bitsLt_bf16_f32
      = colsCols (M := 1536) (N := 4096) (K := 8320) a b := by
  funext i
  obtain ⟨r, x, rfl⟩ := ix2_of i
  rw [colsCols_at]
  pointwise
  exact Finset.sum_congr rfl fun k _ => mul_comm _ _

end Cert.Reference18Ideal.Value

namespace Cert.DwQUp

open Cert.Products
open Idealize.ShloMosaic Idealize.ShloMosaic.TcCoe Idealize.SL.Sem

theorem frame_kernel : Cert.quiescent_Kernel18 (hKernel18 := Cert.Kernel18.Gen.facts) := fun m g _ => Cert.Kernel18.Gen.frame (F := Bits) m g
theorem frame_ideal : Cert.quiescent_Kernel18Ideal (hKernel18Ideal := Cert.Kernel18Ideal.Gen.facts) := fun m g _ => Cert.Kernel18Ideal.Gen.frame (F := Ideal) m g
theorem frame_reference : Cert.quiescent_Reference18Ideal (hReference18Ideal := Cert.Reference18Ideal.Gen.facts) := fun m g _ =>
  (θ_run _ _ _).mono (fun r h => ⟨fun c => (h c).2, sem_eq_zero_of_no_sems (by decide) r.2⟩) (Cert.Reference18Ideal.Value.run (F := Ideal) m g)

/-- Kernel and reference end with the same product. -/
theorem algebraic : Cert.algebraic_Kernel18Ideal_Reference18Ideal (hKernel18Ideal := Cert.Kernel18Ideal.Gen.facts) (hReference18Ideal := Cert.Reference18Ideal.Gen.facts) := by
  intro m g m' g' _ hargs
  refine ⟨fun c => colsCols (M := 1536) (N := 4096) (K := 8320)
      (m ((c.tc : Thread Cert.Kernel18Ideal.nD Cert.Kernel18Ideal.τ).loc Cert.Kernel18Ideal.main_arg0))
      (m ((c.tc : Thread Cert.Kernel18Ideal.nD Cert.Kernel18Ideal.τ).loc Cert.Kernel18Ideal.main_arg1)),
    (θ_run _ _ _).mono (fun r h c => ⟨(h c).1.trans (Cert.Kernel18Ideal.Value.final m c), (h c).2⟩) (Cert.Kernel18Ideal.Value.run_blocks (F := Ideal) m g),
    (θ_run _ _ _).mono (fun r h c => ⟨(h c).1.trans ((Cert.Reference18Ideal.Value.eq_product _ _).trans (congrArg₂ _ (hargs c).1 (hargs c).2)), (h c).2⟩)
      (Cert.Reference18Ideal.Value.run (F := Ideal) m' g')⟩

end Cert.DwQUp

end
-- ==== Proof.DKvn.lean ====
module

public import proofs.«01_k».proof.Defs
public import proofs.«01_k».proof.Proof.Products
public import proofs.«01_k».proof.Proof.Gen.Kernel19.Frame
public import proofs.«01_k».proof.Proof.Gen.Kernel19Ideal.Value
public import proofs.«01_k».proof.Proof.Gen.Reference19Ideal.Run
public import Idealize.ShloMosaic.Lib.Quiescent

@[expose] public section

/-!
# The input gradient of the key and value up-projection

The product of the cotangent and the transposed weights, in two passes over the inner index.
-/

set_option maxRecDepth 16384

noncomputable section

namespace Cert.Kernel19Ideal.Value

open Cert.Kernel19Ideal Cert.Kernel19Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 2, t.val % 2] := by decide +kernel
theorem index1 : ∀ t : Fin grid0.N, win0_1.index t = ![0, t.val % 2] := by decide +kernel
theorem index2 : ∀ t : Fin grid0.N, win0_2.index t = ![t.val / 2, 0] := by decide +kernel
theorem covers : (cfg0.win 2).Covers := by decide +kernel

theorem pay1_at (a : Vec Ideal S1040x2048 .bf16) (b : Vec Ideal S512x2048 .bf16) (r : Fin 1040) (x : Fin 512) :
    k0_pay1 a b (ix2 r x) = ∑ k : Fin 2048, a (ix2 r k) * b (ix2 x k) := by
  unfold k0_pay1
  pointwise

/-- The first pass leaves its product in the accumulator. -/
theorem first (i : grid0.Coords) (a3 : Memref sig .tc .vmem S1040x2048 .bf16) (h3 : a3.IsWhole) (a4 : Memref sig .tc .vmem S512x2048 .bf16) (h4 : a4.IsWhole)
    (ao : Memref sig .tc .vmem S1040x512 .f32) (ho : ao.IsWhole) (ac : Memref sig .tc .vmem S1040x512 .f32) (hc : ac.IsWhole)
    (e0 : cond0_0 i) (e1 : ¬cond0_1 i) (e2 : ¬cond0_2 i) (a : Vec Ideal S1040x2048 .bf16) (b : Vec Ideal S512x2048 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S1040x2048) hz, View.ld_unit_zero (S := S512x2048) hz, shapeCast_self]

/-- The last pass adds its product and stores the sum. -/
theorem last (i : grid0.Coords) (a3 : Memref sig .tc .vmem S1040x2048 .bf16) (h3 : a3.IsWhole) (a4 : Memref sig .tc .vmem S512x2048 .bf16) (h4 : a4.IsWhole)
    (ao : Memref sig .tc .vmem S1040x512 .f32) (ho : ao.IsWhole) (ac : Memref sig .tc .vmem S1040x512 .f32) (hc : ac.IsWhole)
    (e0 : ¬cond0_0 i) (e1 : ¬cond0_1 i) (e2 : cond0_2 i) (a : Vec Ideal S1040x2048 .bf16) (b : Vec Ideal S512x2048 .bf16) (s : Vec Ideal S1040x512 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz]
  simp only [View.readAt_eq_ld, h3.read_unread, h4.read_unread, hc.read_unread, View.ld_unit_zero (S := S1040x2048) hz, View.ld_unit_zero (S := S512x2048) hz, View.ld_unit_zero (S := S1040x512) hz]

theorem left_at (t : Fin cfg0.N) (y : Fin 1040) (z : Fin 2048) (Y : Fin 8320) (Z : Fin 4096) (hY : Y.val = t.val / 2 * 1040 + y.val) (hZ : Z.val = t.val % 2 * 2048 + z.val) :
    iblk m c 0 t (ix2 y z) = m ((c : Thread nD τ).loc main_arg1) (ix2 Y Z) := by
  unfold iblk
  blk_simp
  refine congrArg (m ((c : Thread nD τ).loc main_arg1)) ?_
  blk_ext
  · rw [index0, hY]; rfl
  · rw [index0, hZ]; rfl

theorem right_at (t : Fin cfg0.N) (y : Fin 512) (z : Fin 2048) (Y : Fin 512) (Z : Fin 4096) (hY : Y.val = 0 * 512 + y.val) (hZ : Z.val = t.val % 2 * 2048 + z.val) :
    iblk m c 1 t (ix2 y z) = m ((c : Thread nD τ).loc main_arg0) (ix2 Y Z) := by
  unfold iblk
  blk_simp
  refine congrArg (m ((c : Thread nD τ).loc main_arg0)) ?_
  blk_ext
  · rw [index1, hY]; rfl
  · rw [index1, hZ]; rfl

theorem emb2 (t : Fin cfg0.N) (r : Fin 1040) (x : Fin 512) :
    ((cfg0.win 2).blk t).view.emb (ix2 r x)
      = (ix2 (⟨t.val / 2 * 1040 + r.val, by have : t.val < 16 := t.isLt; omega⟩ : Fin 8320) x : (⟨2, ![8320, 512]⟩ : Shape).Idx) := by
  blk_ext
  · rw [index2]; rfl
  · rw [index2]; exact Nat.zero_add _

theorem final : (dats m 0 c).arrAt 2 cfg0.N
    = rowsRows (M := 8320) (N := 512) (K := 4096) (m ((c : Thread nD τ).loc main_arg1)) (m ((c : Thread nD τ).loc main_arg0)) := by
  refine (dats m 0 c).arrAt_eq_of_covers 2 _ covers fun t hf y => ?_
  have hlt : t.val < 16 := t.isLt
  have ht : t.val % 2 = 1 := (flush0_2 t).mp hf
  have e := outsAt0_A m c ⟨t.val - 1, by have : cfg0.N = 16 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix2_of y
  rw [emb2, rowsRows_at]
  unfold k0_pay4
  pointwise [pay1_at]
  refine sum_halves (n := 2048) (by decide) _ _ _ (Finset.sum_congr rfl fun k _ => ?_) (Finset.sum_congr rfl fun k _ => ?_)
  · rw [left_at m c _ r k ⟨t.val / 2 * 1040 + r.val, by omega⟩ ⟨k.val, by omega⟩ (by dsimp only <;> omega) (by dsimp only <;> omega),
      right_at m c _ x k x ⟨k.val, by omega⟩ (by omega) (by dsimp only <;> omega)]
  · rw [left_at m c _ r k ⟨t.val / 2 * 1040 + r.val, by omega⟩ ⟨2048 + k.val, by omega⟩ (by dsimp only <;> omega) (by dsimp only <;> omega),
      right_at m c _ x k x ⟨2048 + k.val, by omega⟩ (by omega) (by dsimp only <;> omega)]

end Cert.Kernel19Ideal.Value

namespace Cert.Reference19Ideal.Value

open Cert.Reference19Ideal Cert.Reference19Ideal.Gen Cert.Products
open Idealize.ShloMosaic Idealize.ShloMosaic.TcCoe Idealize.SL.Sem

theorem eq_product (a : Vec Ideal S8320x4096 .bf16) (b : Vec Ideal S512x4096 .bf16) :
    Host.dotGeneral (F := Ideal) dot_S8320x4096_S512x4096_S8320x512_1_1_0_0_n_n none (extf .f32 a Facts₀.bitsLt_bf16_f32) (extf .f32 b Facts₀.bitsLt_bf16_f32)
      = rowsRows (M := 8320) (N := 512) (K := 4096) a b := by
  funext i
  obtain ⟨r, x, rfl⟩ := ix2_of i
  rw [rowsRows_at]
  pointwise

end Cert.Reference19Ideal.Value

namespace Cert.DKvn

open Cert.Products
open Idealize.ShloMosaic Idealize.ShloMosaic.TcCoe Idealize.SL.Sem

theorem frame_kernel : Cert.quiescent_Kernel19 (hKernel19 := Cert.Kernel19.Gen.facts) := fun m g _ => Cert.Kernel19.Gen.frame (F := Bits) m g
theorem frame_ideal : Cert.quiescent_Kernel19Ideal (hKernel19Ideal := Cert.Kernel19Ideal.Gen.facts) := fun m g _ => Cert.Kernel19Ideal.Gen.frame (F := Ideal) m g
theorem frame_reference : Cert.quiescent_Reference19Ideal (hReference19Ideal := Cert.Reference19Ideal.Gen.facts) := fun m g _ =>
  (θ_run _ _ _).mono (fun r h => ⟨fun c => (h c).2, sem_eq_zero_of_no_sems (by decide) r.2⟩) (Cert.Reference19Ideal.Value.run (F := Ideal) m g)

/-- Kernel and reference end with the same product. -/
theorem algebraic : Cert.algebraic_Kernel19Ideal_Reference19Ideal (hKernel19Ideal := Cert.Kernel19Ideal.Gen.facts) (hReference19Ideal := Cert.Reference19Ideal.Gen.facts) := by
  intro m g m' g' _ hargs
  refine ⟨fun c => rowsRows (M := 8320) (N := 512) (K := 4096)
      (m ((c.tc : Thread Cert.Kernel19Ideal.nD Cert.Kernel19Ideal.τ).loc Cert.Kernel19Ideal.main_arg1))
      (m ((c.tc : Thread Cert.Kernel19Ideal.nD Cert.Kernel19Ideal.τ).loc Cert.Kernel19Ideal.main_arg0)),
    (θ_run _ _ _).mono (fun r h c => ⟨(h c).1.trans (Cert.Kernel19Ideal.Value.final m c), (h c).2⟩) (Cert.Kernel19Ideal.Value.run_blocks (F := Ideal) m g),
    (θ_run _ _ _).mono (fun r h c => ⟨(h c).1.trans ((Cert.Reference19Ideal.Value.eq_product _ _).trans (congrArg₂ _ (hargs c).2 (hargs c).1)), (h c).2⟩)
      (Cert.Reference19Ideal.Value.run (F := Ideal) m' g')⟩

end Cert.DKvn

end
-- ==== Proof.DwKvUp.lean ====
module

public import proofs.«01_k».proof.Defs
public import proofs.«01_k».proof.Proof.Products
public import proofs.«01_k».proof.Proof.Gen.Kernel20.Frame
public import proofs.«01_k».proof.Proof.Gen.Kernel20Ideal.Value
public import proofs.«01_k».proof.Proof.Gen.Reference20Ideal.Run
public import Idealize.ShloMosaic.Lib.Quiescent

@[expose] public section

/-!
# The weight gradient of the key and value up-projection

The product of the transposed inputs and the cotangent, in two passes over the rows.
-/

set_option maxRecDepth 16384

noncomputable section

namespace Cert.Kernel20Ideal.Value

open Cert.Kernel20Ideal Cert.Kernel20Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val % 2, t.val / 8] := by decide +kernel
theorem index1 : ∀ t : Fin grid0.N, win0_1.index t = ![t.val % 2, t.val / 2 % 4] := by decide +kernel
theorem index2 : ∀ t : Fin grid0.N, win0_2.index t = ![t.val / 8, t.val / 2 % 4] := by decide +kernel
theorem covers : (cfg0.win 2).Covers := by decide +kernel

theorem pay1_at (a : Vec Ideal S4160x512 .bf16) (b : Vec Ideal S4160x1024 .bf16) (r : Fin 512) (x : Fin 1024) :
    k0_pay1 a b (ix2 r x) = ∑ k : Fin 4160, a (ix2 k r) * b (ix2 k x) := by
  unfold k0_pay1
  pointwise

/-- The first pass leaves its product in the accumulator. -/
theorem first (i : grid0.Coords) (a3 : Memref sig .tc .vmem S4160x512 .bf16) (h3 : a3.IsWhole) (a4 : Memref sig .tc .vmem S4160x1024 .bf16) (h4 : a4.IsWhole)
    (ao : Memref sig .tc .vmem S512x1024 .bf16) (ho : ao.IsWhole) (ac : Memref sig .tc .vmem S512x1024 .f32) (hc : ac.IsWhole)
    (e0 : cond0_0 i) (e1 : ¬cond0_1 i) (e2 : ¬cond0_2 i) (a : Vec Ideal S4160x512 .bf16) (b : Vec Ideal S4160x1024 .bf16) :
    sout0_A_0 c i a3 h3 a4 h4 ao ho ac hc e0 e1 e2 a b = k0_pay1 a b := by
  unfold sout0_A_0
  rw [View.read_writes_eq_canon _ _ _ (scover0_A_0 c i a3 h3 a4 h4 ao ho ac hc e0 e1 e2 a b)]
  unfold kernelRun0_A
  dsimp only
  rw [View.canon_unit_zero hz]
  unfold k0_pay2
  simp only [View.readAt_eq_ld, h3.read_unread, h4.read_unread, View.ld_unit_zero (S := S4160x512) hz, View.ld_unit_zero (S := S4160x1024) hz, shapeCast_self]

/-- The last pass adds its product and stores the sum. -/
theorem last (i : grid0.Coords) (a3 : Memref sig .tc .vmem S4160x512 .bf16) (h3 : a3.IsWhole) (a4 : Memref sig .tc .vmem S4160x1024 .bf16) (h4 : a4.IsWhole)
    (ao : Memref sig .tc .vmem S512x1024 .bf16) (ho : ao.IsWhole) (ac : Memref sig .tc .vmem S512x1024 .f32) (hc : ac.IsWhole)
    (e0 : ¬cond0_0 i) (e1 : ¬cond0_1 i) (e2 : cond0_2 i) (a : Vec Ideal S4160x512 .bf16) (b : Vec Ideal S4160x1024 .bf16) (s : Vec Ideal S512x1024 .f32) :
    out0_B_2 c i a3 h3 a4 h4 ao ho ac hc e0 e1 e2 a b s = k0_pay4 a b s := by
  unfold out0_B_2
  rw [View.read_writes_eq_canon _ _ _ (cover0_B_2 c i a3 h3 a4 h4 ao ho ac hc e0 e1 e2 a b s)]
  unfold kernelRun0_B
  dsimp only
  rw [View.canon_unit_zero hz]
  simp only [View.readAt_eq_ld, h3.read_unread, h4.read_unread, hc.read_unread, View.ld_unit_zero (S := S4160x512) hz, View.ld_unit_zero (S := S4160x1024) hz, View.ld_unit_zero (S := S512x1024) hz]

theorem left_at (t : Fin cfg0.N) (y : Fin 4160) (z : Fin 512) (Y : Fin 8320) (Z : Fin 512) (hY : Y.val = t.val % 2 * 4160 + y.val) (hZ : Z.val = t.val / 8 * 512 + z.val) :
    iblk m c 0 t (ix2 y z) = m ((c : Thread nD τ).loc main_arg0) (ix2 Y Z) := by
  unfold iblk
  blk_simp
  refine congrArg (m ((c : Thread nD τ).loc main_arg0)) ?_
  blk_ext
  · rw [index0, hY]; rfl
  · rw [index0, hZ]; rfl

theorem right_at (t : Fin cfg0.N) (y : Fin 4160) (z : Fin 1024) (Y : Fin 8320) (Z : Fin 4096) (hY : Y.val = t.val % 2 * 4160 + y.val) (hZ : Z.val = t.val / 2 % 4 * 1024 + z.val) :
    iblk m c 1 t (ix2 y z) = m ((c : Thread nD τ).loc main_arg1) (ix2 Y Z) := by
  unfold iblk
  blk_simp
  refine congrArg (m ((c : Thread nD τ).loc main_arg1)) ?_
  blk_ext
  · rw [index1, hY]; rfl
  · rw [index1, hZ]; rfl

theorem emb2 (t : Fin cfg0.N) (r : Fin 512) (x : Fin 1024) :
    ((cfg0.win 2).blk t).view.emb (ix2 r x)
      = (ix2 (⟨t.val / 8 * 512 + r.val, by have : t.val < 8 := t.isLt; omega⟩ : Fin 512) (⟨t.val / 2 % 4 * 1024 + x.val, by omega⟩ : Fin 4096) : (⟨2, ![512, 4096]⟩ : Shape).Idx) := by
  blk_ext
  · rw [index2]; rfl
  · rw [index2]; rfl

theorem final : (dats m 0 c).arrAt 2 cfg0.N
    = colsCols (M := 512) (N := 4096) (K := 8320) (m ((c : Thread nD τ).loc main_arg0)) (m ((c : Thread nD τ).loc main_arg1)) := by
  refine (dats m 0 c).arrAt_eq_of_covers 2 _ covers fun t hf y => ?_
  have hlt : t.val < 8 := t.isLt
  have ht : t.val % 2 = 1 := (flush0_2 t).mp hf
  have e := outsAt0_A m c ⟨t.val - 1, by have : cfg0.N = 8 := N_0; omega⟩ (by dsimp only; omega) (by dsimp only; omega)
  blk_simp
  rw [after0_2, outsAt0_B m c t (by omega) ht]
  dsimp only at e ⊢
  rw [last, e]
  dsimp only
  rw [first]
  obtain ⟨r, x, rfl⟩ := ix2_of y
  rw [emb2, colsCols_at]
  unfold k0_pay4
  pointwise [pay1_at]
  refine sum_halves (n := 4160) (by decide) _ _ _ (Finset.sum_congr rfl fun k _ => ?_) (Finset.sum_congr rfl fun k _ => ?_)
  · rw [left_at m c _ k r ⟨k.val, by omega⟩ ⟨t.val / 8 * 512 + r.val, by omega⟩ (by dsimp only <;> omega) (by dsimp only <;> omega),
      right_at m c _ k x ⟨k.val, by omega⟩ ⟨t.val / 2 % 4 * 1024 + x.val, by omega⟩ (by dsimp only <;> omega) (by dsimp only <;> omega)]
  · rw [left_at m c _ k r ⟨4160 + k.val, by omega⟩ ⟨t.val / 8 * 512 + r.val, by omega⟩ (by dsimp only <;> omega) (by dsimp only <;> omega),
      right_at m c _ k x ⟨4160 + k.val, by omega⟩ ⟨t.val / 2 % 4 * 1024 + x.val, by omega⟩ (by dsimp only <;> omega) (by dsimp only <;> omega)]

end Cert.Kernel20Ideal.Value

namespace Cert.Reference20Ideal.Value

open Cert.Reference20Ideal Cert.Reference20Ideal.Gen Cert.Products
open Idealize.ShloMosaic Idealize.ShloMosaic.TcCoe Idealize.SL.Sem

theorem eq_product (a : Vec Ideal S8320x512 .bf16) (b : Vec Ideal S8320x4096 .bf16) :
    truncf (F := Ideal) .bf16 (transpose S512x4096 [1, 0] (Host.dotGeneral (F := Ideal) dot_S8320x4096_S8320x512_S4096x512_0_0_1_1_n_n none (extf .f32 b Facts₀.bitsLt_bf16_f32) (extf .f32 a Facts₀.bitsLt_bf16_f32)) Facts₀.transposes_S4096x512_S512x4096_1_0) Facts₀.bitsLt_bf16_f32
      = colsCols (M := 512) (N := 4096) (K := 8320) a b := by
  funext i
  obtain ⟨r, x, rfl⟩ := ix2_of i
  rw [colsCols_at]
  pointwise
  exact Finset.sum_congr rfl fun k _ => mul_comm _ _

end Cert.Reference20Ideal.Value

namespace Cert.DwKvUp

open Cert.Products
open Idealize.ShloMosaic Idealize.ShloMosaic.TcCoe Idealize.SL.Sem

theorem frame_kernel : Cert.quiescent_Kernel20 (hKernel20 := Cert.Kernel20.Gen.facts) := fun m g _ => Cert.Kernel20.Gen.frame (F := Bits) m g
theorem frame_ideal : Cert.quiescent_Kernel20Ideal (hKernel20Ideal := Cert.Kernel20Ideal.Gen.facts) := fun m g _ => Cert.Kernel20Ideal.Gen.frame (F := Ideal) m g
theorem frame_reference : Cert.quiescent_Reference20Ideal (hReference20Ideal := Cert.Reference20Ideal.Gen.facts) := fun m g _ =>
  (θ_run _ _ _).mono (fun r h => ⟨fun c => (h c).2, sem_eq_zero_of_no_sems (by decide) r.2⟩) (Cert.Reference20Ideal.Value.run (F := Ideal) m g)

/-- Kernel and reference end with the same product. -/
theorem algebraic : Cert.algebraic_Kernel20Ideal_Reference20Ideal (hKernel20Ideal := Cert.Kernel20Ideal.Gen.facts) (hReference20Ideal := Cert.Reference20Ideal.Gen.facts) := by
  intro m g m' g' _ hargs
  refine ⟨fun c => colsCols (M := 512) (N := 4096) (K := 8320)
      (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg1)),
    (θ_run _ _ _).mono (fun r h c => ⟨(h c).1.trans (Cert.Kernel20Ideal.Value.final m c), (h c).2⟩) (Cert.Kernel20Ideal.Value.run_blocks (F := Ideal) m g),
    (θ_run _ _ _).mono (fun r h c => ⟨(h c).1.trans ((Cert.Reference20Ideal.Value.eq_product _ _).trans (congrArg₂ _ (hargs c).1 (hargs c).2)), (h c).2⟩)
      (Cert.Reference20Ideal.Value.run (F := Ideal) m' g')⟩

end Cert.DwKvUp

end
-- ==== Proof.DMerged.lean ====
module

public import proofs.«01_k».proof.Defs
public import proofs.«01_k».proof.Proof.Products
public import proofs.«01_k».proof.Proof.Gen.Kernel21.Frame
public import proofs.«01_k».proof.Proof.Gen.Kernel21Ideal.Value
public import proofs.«01_k».proof.Proof.Gen.Reference21Ideal.Run
public import Idealize.ShloMosaic.Lib.Quiescent

@[expose] public section

/-!
# The input gradient of the output product

The product of the cotangent and the transposed weights, in one pass. The last argument orders the call after another one and is not read.
-/

set_option maxRecDepth 16384

noncomputable section

namespace Cert.Kernel21Ideal.Value

open Cert.Kernel21Ideal Cert.Kernel21Ideal.Gen Cert.Products
open Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem index0 : ∀ t : Fin grid0.N, win0_0.index t = ![t.val / 2, 0] := by decide +kernel
theorem index1 : ∀ t : Fin grid0.N, win0_1.index t = ![t.val % 2, 0] := by decide +kernel
theorem index2 : ∀ t : Fin grid0.N, win0_2.index t = ![t.val / 2, t.val % 2] := by decide +kernel
theorem covers : (cfg0.win 2).Covers := by decide +kernel

theorem out_at (i : grid0.Coords) (a3 : Memref sig .tc .vmem S1040x2048 .bf16) (h3 : a3.IsWhole) (a4 : Memref sig .tc .vmem S1024x2048 .bf16) (h4 : a4.IsWhole)
    (ao : Memref sig .tc .vmem S1040x1024 .f32) (ho : ao.IsWhole) (a : Vec Ideal S1040x2048 .bf16) (b : Vec Ideal S1024x2048 .bf16) (r : Fin 1040) (x : Fin 1024) :
    out0_A_2 c i a3 h3 a4 h4 ao ho a b (ix2 r x) = ∑ k : Fin 2048, a (ix2 r k) * b (ix2 x k) := by
  unfold out0_A_2
  rw [View.read_writes_eq_canon _ _ _ (cover0_A_2 c i a3 h3 a4 h4 ao ho a b)]
  unfold kernelRun0_A
  dsimp only
  rw [View.canon_unit_zero hz]
  simp only [View.readAt_eq_ld, h3.read_unread, h4.read_unread, View.ld_unit_zero (S := S1040x2048) hz, View.ld_unit_zero (S := S1024x2048) hz]
  unfold k0_pay1
  pointwise

theorem left_at (t : Fin cfg0.N) (y : Fin 1040) (z : Fin 2048) (Y : Fin 8320) (Z : Fin 2048) (hY : Y.val = t.val / 2 * 1040 + y.val) (hZ : Z.val = 0 * 2048 + z.val) :
    iblk m c 0 t (ix2 y z) = m ((c : Thread nD τ).loc main_arg1) (ix2 Y Z) := by
  unfold iblk
  blk_simp
  refine congrArg (m ((c : Thread nD τ).loc main_arg1)) ?_
  blk_ext
  · rw [index0, hY]; rfl
  · rw [index0, hZ]; rfl

theorem right_at (t : Fin cfg0.N) (y : Fin 1024) (z : Fin 2048) (Y : Fin 2048) (Z : Fin 2048) (hY : Y.val = t.val % 2 * 1024 + y.val) (hZ : Z.val = 0 * 2048 + z.val) :
    iblk m c 1 t (ix2 y z) = m ((c : Thread nD τ).loc main_arg0) (ix2 Y Z) := by
  unfold iblk
  blk_simp
  refine congrArg (m ((c : Thread nD τ).loc main_arg0)) ?_
  blk_ext
  · rw [index1, hY]; rfl
  · rw [index1, hZ]; rfl

theorem emb2 (t : Fin cfg0.N) (r : Fin 1040) (x : Fin 1024) :
    ((cfg0.win 2).blk t).view.emb (ix2 r x)
      = (ix2 (⟨t.val / 2 * 1040 + r.val, by have : t.val < 16 := t.isLt; omega⟩ : Fin 8320) (⟨t.val % 2 * 1024 + x.val, by omega⟩ : Fin 2048) : (⟨2, ![8320, 2048]⟩ : Shape).Idx) := by
  blk_ext
  · rw [index2]; rfl
  · rw [index2]; rfl

theorem final : (dats m 0 c).arrAt 2 cfg0.N
    = rowsRows (M := 8320) (N := 2048) (K := 2048) (m ((c : Thread nD τ).loc main_arg1)) (m ((c : Thread nD τ).loc main_arg0)) := by
  refine (dats m 0 c).arrAt_eq_of_covers 2 _ covers fun t hf y => ?_
  have hlt : t.val < 16 := t.isLt
  blk_simp
  rw [after0_2]
  unfold outsAt0
  obtain ⟨r, x, rfl⟩ := ix2_of y
  rw [out_at, emb2, rowsRows_at]
  refine Finset.sum_congr (M := EReal) rfl fun k _ => ?_
  rw [left_at m c _ r k ⟨t.val / 2 * 1040 + r.val, by omega⟩ k rfl (by omega),
    right_at m c _ x k ⟨t.val % 2 * 1024 + x.val, by omega⟩ k rfl (by omega)]

end Cert.Kernel21Ideal.Value

namespace Cert.Reference21Ideal.Value

open Cert.Reference21Ideal Cert.Reference21Ideal.Gen Cert.Products
open Idealize.ShloMosaic Idealize.ShloMosaic.TcCoe Idealize.SL.Sem

theorem eq_product (a : Vec Ideal S8320x2048 .bf16) (b : Vec Ideal S2048x2048 .bf16) :
    Host.dotGeneral (F := Ideal) dot_S8320x2048_S2048x2048_S8320x2048_1_1_0_0_n_n none (extf .f32 a Facts₀.bitsLt_bf16_f32) (extf .f32 b Facts₀.bitsLt_bf16_f32)
      = rowsRows (M := 8320) (N := 2048) (K := 2048) a b := by
  funext i
  obtain ⟨r, x, rfl⟩ := ix2_of i
  rw [rowsRows_at]
  pointwise

end Cert.Reference21Ideal.Value

namespace Cert.DMerged

open Cert.Products
open Idealize.ShloMosaic Idealize.ShloMosaic.TcCoe Idealize.SL.Sem

theorem frame_kernel : Cert.quiescent_Kernel21 (hKernel21 := Cert.Kernel21.Gen.facts) := fun m g _ => Cert.Kernel21.Gen.frame (F := Bits) m g
theorem frame_ideal : Cert.quiescent_Kernel21Ideal (hKernel21Ideal := Cert.Kernel21Ideal.Gen.facts) := fun m g _ => Cert.Kernel21Ideal.Gen.frame (F := Ideal) m g
theorem frame_reference : Cert.quiescent_Reference21Ideal (hReference21Ideal := Cert.Reference21Ideal.Gen.facts) := fun m g _ =>
  (θ_run _ _ _).mono (fun r h => ⟨fun c => (h c).2, sem_eq_zero_of_no_sems (by decide) r.2⟩) (Cert.Reference21Ideal.Value.run (F := Ideal) m g)

/-- Kernel and reference end with the same product. -/
theorem algebraic : Cert.algebraic_Kernel21Ideal_Reference21Ideal (hKernel21Ideal := Cert.Kernel21Ideal.Gen.facts) (hReference21Ideal := Cert.Reference21Ideal.Gen.facts) := by
  intro m g m' g' _ hargs
  refine ⟨fun c => rowsRows (M := 8320) (N := 2048) (K := 2048)
      (m ((c.tc : Thread Cert.Kernel21Ideal.nD Cert.Kernel21Ideal.τ).loc Cert.Kernel21Ideal.main_arg1))
      (m ((c.tc : Thread Cert.Kernel21Ideal.nD Cert.Kernel21Ideal.τ).loc Cert.Kernel21Ideal.main_arg0)),
    (θ_run _ _ _).mono (fun r h c => ⟨(h c).1.trans (Cert.Kernel21Ideal.Value.final m c), (h c).2⟩) (Cert.Kernel21Ideal.Value.run_blocks (F := Ideal) m g),
    (θ_run _ _ _).mono (fun r h c => ⟨(h c).1.trans ((Cert.Reference21Ideal.Value.eq_product _ _).trans (congrArg₂ _ (hargs c).2.1 (hargs c).1)), (h c).2⟩)
      (Cert.Reference21Ideal.Value.run (F := Ideal) m' g')⟩

end Cert.DMerged

end
-- ==== Proof.lean ====
/- The certificate's claims: the frames of every kernel, of its idealization and of its reference, each with every
   semaphore at zero in the end; that each idealization preserves its kernel; that, on finite arguments, the idealized
   attention kernel and its reference end with equal gradients; and that each idealized product and its reference end with
   equal results. -/
module

public import proofs.«01_k».proof.Defs
public import proofs.«01_k».proof.Proof.Gen.Pre_finite
public import proofs.«01_k».proof.Proof.BitsLaunch
public import proofs.«01_k».proof.Proof.IdealLaunch
public import proofs.«01_k».proof.Proof.RefFrame
public import proofs.«01_k».proof.Proof.Algebraic
public import proofs.«01_k».proof.Proof.DAct
public import proofs.«01_k».proof.Proof.DwFfnOut
public import proofs.«01_k».proof.Proof.DU2
public import proofs.«01_k».proof.Proof.DwFfnIn
public import proofs.«01_k».proof.Proof.DwIn
public import proofs.«01_k».proof.Proof.DU1
public import proofs.«01_k».proof.Proof.Proj
public import proofs.«01_k».proof.Proof.FfnIn
public import proofs.«01_k».proof.Proof.FfnOut
public import proofs.«01_k».proof.Proof.Mix
public import proofs.«01_k».proof.Proof.DMix
public import proofs.«01_k».proof.Proof.DMla
public import proofs.«01_k».proof.Proof.DwMix
public import proofs.«01_k».proof.Proof.QUp
public import proofs.«01_k».proof.Proof.KvUp
public import proofs.«01_k».proof.Proof.DQn
public import proofs.«01_k».proof.Proof.DwQUp
public import proofs.«01_k».proof.Proof.DKvn
public import proofs.«01_k».proof.Proof.DwKvUp
public import proofs.«01_k».proof.Proof.DMerged

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Pre_finite.Gen.facts,
    fun m g _ => Cert.Kernel.Bwd.frame m g, fun m g _ => Cert.KernelIdeal.Bwd.frame m g, fun m g _ => Cert.KernelIdeal.Bwd.frame m g,
    fun m g _ => Cert.ReferenceIdeal.Bwd.frame m g, fun m g _ => Cert.ReferenceIdeal.Bwd.frame m g,
    Cert.DAct.frame_kernel, Cert.DAct.frame_ideal, Cert.DAct.frame_reference,
    Cert.DwFfnOut.frame_kernel, Cert.DwFfnOut.frame_ideal, Cert.DwFfnOut.frame_reference,
    Cert.DU2.frame_kernel, Cert.DU2.frame_ideal, Cert.DU2.frame_reference,
    Cert.DwFfnIn.frame_kernel, Cert.DwFfnIn.frame_ideal, Cert.DwFfnIn.frame_reference,
    Cert.DwIn.frame_kernel, Cert.DwIn.frame_ideal, Cert.DwIn.frame_reference,
    Cert.DU1.frame_kernel, Cert.DU1.frame_ideal, Cert.DU1.frame_reference,
    Cert.Proj.frame_kernel, Cert.Proj.frame_ideal, Cert.Proj.frame_reference,
    Cert.FfnIn.frame_kernel, Cert.FfnIn.frame_ideal, Cert.FfnIn.frame_reference,
    Cert.FfnOut.frame_kernel, Cert.FfnOut.frame_ideal, Cert.FfnOut.frame_reference,
    Cert.Mix.frame_kernel, Cert.Mix.frame_ideal, Cert.Mix.frame_reference,
    Cert.DMix.frame_kernel, Cert.DMix.frame_ideal, Cert.DMix.frame_reference,
    Cert.DMla.frame_kernel, Cert.DMla.frame_ideal, Cert.DMla.frame_reference,
    Cert.DwMix.frame_kernel, Cert.DwMix.frame_ideal, Cert.DwMix.frame_reference,
    Cert.QUp.frame_kernel, Cert.QUp.frame_ideal, Cert.QUp.frame_reference,
    Cert.KvUp.frame_kernel, Cert.KvUp.frame_ideal, Cert.KvUp.frame_reference,
    Cert.DQn.frame_kernel, Cert.DQn.frame_ideal, Cert.DQn.frame_reference,
    Cert.DwQUp.frame_kernel, Cert.DwQUp.frame_ideal, Cert.DwQUp.frame_reference,
    Cert.DKvn.frame_kernel, Cert.DKvn.frame_ideal, Cert.DKvn.frame_reference,
    Cert.DwKvUp.frame_kernel, Cert.DwKvUp.frame_ideal, Cert.DwKvUp.frame_reference,
    Cert.DMerged.frame_kernel, Cert.DMerged.frame_ideal, Cert.DMerged.frame_reference,
    IdealRules.named_const.statement Cert.KernelIdeal.κ "ln2" .f32 0x3F317218#32 ((Real.log 2 : ℝ) : EReal) rfl, Cert.Bwd.algebraic,
    trivial, Cert.DAct.algebraic,
    trivial, Cert.DwFfnOut.algebraic,
    trivial, Cert.DU2.algebraic,
    trivial, Cert.DwFfnIn.algebraic,
    trivial, Cert.DwIn.algebraic,
    trivial, Cert.DU1.algebraic,
    trivial, Cert.Proj.algebraic,
    trivial, Cert.FfnIn.algebraic,
    trivial, Cert.FfnOut.algebraic,
    trivial, Cert.Mix.algebraic,
    trivial, Cert.DMix.algebraic,
    trivial, Cert.DMla.algebraic,
    trivial, Cert.DwMix.algebraic,
    trivial, Cert.QUp.algebraic,
    trivial, Cert.KvUp.algebraic,
    trivial, Cert.DQn.algebraic,
    trivial, Cert.DwQUp.algebraic,
    trivial, Cert.DKvn.algebraic,
    trivial, Cert.DwKvUp.algebraic,
    trivial, Cert.DMerged.algebraic⟩

end Cert.Proof

end
